-- ==== Defs.lean ====
def Pre_Swa (m : (ℓ : Loc Cert.Swa.nD Cert.Swa.τ Cert.Swa.sig) → Buf (Elt Bits) ℓ) : Prop :=
  True

def Pre_SwaIdeal (m : (ℓ : Loc Cert.SwaIdeal.nD Cert.SwaIdeal.τ Cert.SwaIdeal.sig) → Buf (Elt Ideal) ℓ) : Prop :=
  True

def Pre_SwaIdeal_swa_scores_finite [hPre_swa_scores_finite : Cert.Pre_swa_scores_finite.Facts] (m : (ℓ : Loc Cert.SwaIdeal.nD Cert.SwaIdeal.τ Cert.SwaIdeal.sig) → Buf (Elt Ideal) ℓ) : Prop :=
  ∀ c : Dev Cert.SwaIdeal.nD,
    (Cert.Pre_swa_scores_finite.fn (F := Ideal) (m ((c.tc : Thread Cert.SwaIdeal.nD Cert.SwaIdeal.τ).loc Cert.SwaIdeal.main_arg0)) (m ((c.tc : Thread Cert.SwaIdeal.nD Cert.SwaIdeal.τ).loc Cert.SwaIdeal.main_arg1))).1 = (fun _ => 1#1)
    ∧ (Cert.Pre_swa_scores_finite.fn (F := Ideal) (m ((c.tc : Thread Cert.SwaIdeal.nD Cert.SwaIdeal.τ).loc Cert.SwaIdeal.main_arg0)) (m ((c.tc : Thread Cert.SwaIdeal.nD Cert.SwaIdeal.τ).loc Cert.SwaIdeal.main_arg1))).2.1 = (fun _ => 1#1)
    ∧ (Cert.Pre_swa_scores_finite.fn (F := Ideal) (m ((c.tc : Thread Cert.SwaIdeal.nD Cert.SwaIdeal.τ).loc Cert.SwaIdeal.main_arg0)) (m ((c.tc : Thread Cert.SwaIdeal.nD Cert.SwaIdeal.τ).loc Cert.SwaIdeal.main_arg1))).2.2 = (fun _ => 1#1)

def Pre_SwaRefIdeal (m : (ℓ : Loc Cert.SwaRefIdeal.nD Cert.SwaRefIdeal.τ Cert.SwaRefIdeal.sig) → Buf (Elt Ideal) ℓ) : Prop :=
  True

def Pre_SwaRefIdeal_swa_scores_finite [hPre_swa_scores_finite : Cert.Pre_swa_scores_finite.Facts] (m : (ℓ : Loc Cert.SwaRefIdeal.nD Cert.SwaRefIdeal.τ Cert.SwaRefIdeal.sig) → Buf (Elt Ideal) ℓ) : Prop :=
  ∀ c : Dev Cert.SwaRefIdeal.nD,
    (Cert.Pre_swa_scores_finite.fn (F := Ideal) (m ((c.tc : Thread Cert.SwaRefIdeal.nD Cert.SwaRefIdeal.τ).loc Cert.SwaRefIdeal.main_arg0)) (m ((c.tc : Thread Cert.SwaRefIdeal.nD Cert.SwaRefIdeal.τ).loc Cert.SwaRefIdeal.main_arg1))).1 = (fun _ => 1#1)
    ∧ (Cert.Pre_swa_scores_finite.fn (F := Ideal) (m ((c.tc : Thread Cert.SwaRefIdeal.nD Cert.SwaRefIdeal.τ).loc Cert.SwaRefIdeal.main_arg0)) (m ((c.tc : Thread Cert.SwaRefIdeal.nD Cert.SwaRefIdeal.τ).loc Cert.SwaRefIdeal.main_arg1))).2.1 = (fun _ => 1#1)
    ∧ (Cert.Pre_swa_scores_finite.fn (F := Ideal) (m ((c.tc : Thread Cert.SwaRefIdeal.nD Cert.SwaRefIdeal.τ).loc Cert.SwaRefIdeal.main_arg0)) (m ((c.tc : Thread Cert.SwaRefIdeal.nD Cert.SwaRefIdeal.τ).loc Cert.SwaRefIdeal.main_arg1))).2.2 = (fun _ => 1#1)

def Pre_Win (m : (ℓ : Loc Cert.Win.nD Cert.Win.τ Cert.Win.sig) → Buf (Elt Bits) ℓ) : Prop :=
  True

def Pre_WinIdeal (m : (ℓ : Loc Cert.WinIdeal.nD Cert.WinIdeal.τ Cert.WinIdeal.sig) → Buf (Elt Ideal) ℓ) : Prop :=
  True

def Pre_WinIdeal_win_scores_finite [hPre_win_scores_finite : Cert.Pre_win_scores_finite.Facts] (m : (ℓ : Loc Cert.WinIdeal.nD Cert.WinIdeal.τ Cert.WinIdeal.sig) → Buf (Elt Ideal) ℓ) : Prop :=
  ∀ c : Dev Cert.WinIdeal.nD,
    (Cert.Pre_win_scores_finite.fn (F := Ideal) (m ((c.tc : Thread Cert.WinIdeal.nD Cert.WinIdeal.τ).loc Cert.WinIdeal.main_arg0))).1 = (fun _ => 1#1)
    ∧ (Cert.Pre_win_scores_finite.fn (F := Ideal) (m ((c.tc : Thread Cert.WinIdeal.nD Cert.WinIdeal.τ).loc Cert.WinIdeal.main_arg0))).2 = (fun _ => 1#1)

def Pre_WinRefIdeal (m : (ℓ : Loc Cert.WinRefIdeal.nD Cert.WinRefIdeal.τ Cert.WinRefIdeal.sig) → Buf (Elt Ideal) ℓ) : Prop :=
  True

def Pre_WinRefIdeal_win_scores_finite [hPre_win_scores_finite : Cert.Pre_win_scores_finite.Facts] (m : (ℓ : Loc Cert.WinRefIdeal.nD Cert.WinRefIdeal.τ Cert.WinRefIdeal.sig) → Buf (Elt Ideal) ℓ) : Prop :=
  ∀ c : Dev Cert.WinRefIdeal.nD,
    (Cert.Pre_win_scores_finite.fn (F := Ideal) (m ((c.tc : Thread Cert.WinRefIdeal.nD Cert.WinRefIdeal.τ).loc Cert.WinRefIdeal.main_arg0))).1 = (fun _ => 1#1)
    ∧ (Cert.Pre_win_scores_finite.fn (F := Ideal) (m ((c.tc : Thread Cert.WinRefIdeal.nD Cert.WinRefIdeal.τ).loc Cert.WinRefIdeal.main_arg0))).2 = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_OutMid (m : (ℓ : Loc Cert.OutMid.nD Cert.OutMid.τ Cert.OutMid.sig) → Buf (Elt Bits) ℓ) : Prop :=
  True

def Pre_OutMidIdeal (m : (ℓ : Loc Cert.OutMidIdeal.nD Cert.OutMidIdeal.τ Cert.OutMidIdeal.sig) → Buf (Elt Ideal) ℓ) : Prop :=
  True

def Pre_OutMidRefIdeal (m : (ℓ : Loc Cert.OutMidRefIdeal.nD Cert.OutMidRefIdeal.τ Cert.OutMidRefIdeal.sig) → Buf (Elt Ideal) ℓ) : Prop :=
  True

def Pre_MixA (m : (ℓ : Loc Cert.MixA.nD Cert.MixA.τ Cert.MixA.sig) → Buf (Elt Bits) ℓ) : Prop :=
  True

def Pre_MixAIdeal (m : (ℓ : Loc Cert.MixAIdeal.nD Cert.MixAIdeal.τ Cert.MixAIdeal.sig) → Buf (Elt Ideal) ℓ) : Prop :=
  True

def Pre_MixARefIdeal (m : (ℓ : Loc Cert.MixARefIdeal.nD Cert.MixARefIdeal.τ Cert.MixARefIdeal.sig) → Buf (Elt Ideal) ℓ) : Prop :=
  True

def Pre_Cmp (m : (ℓ : Loc Cert.Cmp.nD Cert.Cmp.τ Cert.Cmp.sig) → Buf (Elt Bits) ℓ) : Prop :=
  True

def Pre_CmpIdeal (m : (ℓ : Loc Cert.CmpIdeal.nD Cert.CmpIdeal.τ Cert.CmpIdeal.sig) → Buf (Elt Ideal) ℓ) : Prop :=
  True

def Pre_CmpIdeal_cmp_scores_finite [hPre_cmp_scores_finite : Cert.Pre_cmp_scores_finite.Facts] (m : (ℓ : Loc Cert.CmpIdeal.nD Cert.CmpIdeal.τ Cert.CmpIdeal.sig) → Buf (Elt Ideal) ℓ) : Prop :=
  ∀ c : Dev Cert.CmpIdeal.nD,
    (Cert.Pre_cmp_scores_finite.fn (F := Ideal) (m ((c.tc : Thread Cert.CmpIdeal.nD Cert.CmpIdeal.τ).loc Cert.CmpIdeal.main_arg0)) (m ((c.tc : Thread Cert.CmpIdeal.nD Cert.CmpIdeal.τ).loc Cert.CmpIdeal.main_arg1)) (m ((c.tc : Thread Cert.CmpIdeal.nD Cert.CmpIdeal.τ).loc Cert.CmpIdeal.main_arg2))).1 = (fun _ => 1#1)
    ∧ (Cert.Pre_cmp_scores_finite.fn (F := Ideal) (m ((c.tc : Thread Cert.CmpIdeal.nD Cert.CmpIdeal.τ).loc Cert.CmpIdeal.main_arg0)) (m ((c.tc : Thread Cert.CmpIdeal.nD Cert.CmpIdeal.τ).loc Cert.CmpIdeal.main_arg1)) (m ((c.tc : Thread Cert.CmpIdeal.nD Cert.CmpIdeal.τ).loc Cert.CmpIdeal.main_arg2))).2 = (fun _ => 1#1)

def Pre_CmpRefIdeal (m : (ℓ : Loc Cert.CmpRefIdeal.nD Cert.CmpRefIdeal.τ Cert.CmpRefIdeal.sig) → Buf (Elt Ideal) ℓ) : Prop :=
  True

def Pre_CmpRefIdeal_cmp_scores_finite [hPre_cmp_scores_finite : Cert.Pre_cmp_scores_finite.Facts] (m : (ℓ : Loc Cert.CmpRefIdeal.nD Cert.CmpRefIdeal.τ Cert.CmpRefIdeal.sig) → Buf (Elt Ideal) ℓ) : Prop :=
  ∀ c : Dev Cert.CmpRefIdeal.nD,
    (Cert.Pre_cmp_scores_finite.fn (F := Ideal) (m ((c.tc : Thread Cert.CmpRefIdeal.nD Cert.CmpRefIdeal.τ).loc Cert.CmpRefIdeal.main_arg0)) (m ((c.tc : Thread Cert.CmpRefIdeal.nD Cert.CmpRefIdeal.τ).loc Cert.CmpRefIdeal.main_arg1)) (m ((c.tc : Thread Cert.CmpRefIdeal.nD Cert.CmpRefIdeal.τ).loc Cert.CmpRefIdeal.main_arg2))).1 = (fun _ => 1#1)
    ∧ (Cert.Pre_cmp_scores_finite.fn (F := Ideal) (m ((c.tc : Thread Cert.CmpRefIdeal.nD Cert.CmpRefIdeal.τ).loc Cert.CmpRefIdeal.main_arg0)) (m ((c.tc : Thread Cert.CmpRefIdeal.nD Cert.CmpRefIdeal.τ).loc Cert.CmpRefIdeal.main_arg1)) (m ((c.tc : Thread Cert.CmpRefIdeal.nD Cert.CmpRefIdeal.τ).loc Cert.CmpRefIdeal.main_arg2))).2 = (fun _ => 1#1)

def Pre_Compress (m : (ℓ : Loc Cert.Compress.nD Cert.Compress.τ Cert.Compress.sig) → Buf (Elt Bits) ℓ) : Prop :=
  True

def Pre_CompressIdeal (m : (ℓ : Loc Cert.CompressIdeal.nD Cert.CompressIdeal.τ Cert.CompressIdeal.sig) → Buf (Elt Ideal) ℓ) : Prop :=
  True

def Pre_CompressRefIdeal (m : (ℓ : Loc Cert.CompressRefIdeal.nD Cert.CompressRefIdeal.τ Cert.CompressRefIdeal.sig) → Buf (Elt Ideal) ℓ) : Prop :=
  True

def Pre_Slc (m : (ℓ : Loc Cert.Slc.nD Cert.Slc.τ Cert.Slc.sig) → Buf (Elt Bits) ℓ) : Prop :=
  True

def Pre_SlcIdeal (m : (ℓ : Loc Cert.SlcIdeal.nD Cert.SlcIdeal.τ Cert.SlcIdeal.sig) → Buf (Elt Ideal) ℓ) : Prop :=
  True

def Pre_MLstm (m : (ℓ : Loc Cert.MLstm.nD Cert.MLstm.τ Cert.MLstm.sig) → Buf (Elt Bits) ℓ) : Prop :=
  True

def Pre_MLstmIdeal (m : (ℓ : Loc Cert.MLstmIdeal.nD Cert.MLstmIdeal.τ Cert.MLstmIdeal.sig) → Buf (Elt Ideal) ℓ) : Prop :=
  True

def quiescent_Swa [hSwa : Cert.Swa.Facts] : Prop :=
  ∀ (m : (ℓ : Loc Cert.Swa.nD Cert.Swa.τ Cert.Swa.sig) → Buf (Elt Bits) ℓ) (g : Dev Cert.Swa.nD → PrngReg), Pre_Swa m →
    θ_run (Cert.Swa.defs (F := Bits)) (onTc (τ := Cert.Swa.τ) (Cert.Swa.main (F := Bits))) ⟨m, fun _ => 0, g⟩ (fun r => (∀ c : Dev Cert.Swa.nD,
      r.2.mem ((c.tc : Thread Cert.Swa.nD Cert.Swa.τ).loc Cert.Swa.main_arg0) = m ((c.tc : Thread Cert.Swa.nD Cert.Swa.τ).loc Cert.Swa.main_arg0)
      ∧ r.2.mem ((c.tc : Thread Cert.Swa.nD Cert.Swa.τ).loc Cert.Swa.main_arg1) = m ((c.tc : Thread Cert.Swa.nD Cert.Swa.τ).loc Cert.Swa.main_arg1))
      ∧ r.2.sem = fun _ => 0)

def quiescent_SwaIdeal [hSwaIdeal : Cert.SwaIdeal.Facts] : Prop :=
  ∀ (m : (ℓ : Loc Cert.SwaIdeal.nD Cert.SwaIdeal.τ Cert.SwaIdeal.sig) → Buf (Elt Ideal) ℓ) (g : Dev Cert.SwaIdeal.nD → PrngReg), Pre_SwaIdeal m →
    θ_run (Cert.SwaIdeal.defs (F := Ideal)) (onTc (τ := Cert.SwaIdeal.τ) (Cert.SwaIdeal.main (F := Ideal))) ⟨m, fun _ => 0, g⟩ (fun r => (∀ c : Dev Cert.SwaIdeal.nD,
      r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
      ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1))
      ∧ r.2.sem = fun _ => 0)

def quiescent_SwaIdeal_pre_swa_scores_finite [hSwaIdeal : Cert.SwaIdeal.Facts] [hPre_swa_scores_finite : Cert.Pre_swa_scores_finite.Facts] : Prop :=
  ∀ (m : (ℓ : Loc Cert.SwaIdeal.nD Cert.SwaIdeal.τ Cert.SwaIdeal.sig) → Buf (Elt Ideal) ℓ) (g : Dev Cert.SwaIdeal.nD → PrngReg), Pre_SwaIdeal_swa_scores_finite m →
    θ_run (Cert.SwaIdeal.defs (F := Ideal)) (onTc (τ := Cert.SwaIdeal.τ) (Cert.SwaIdeal.main (F := Ideal))) ⟨m, fun _ => 0, g⟩ (fun r => (∀ c : Dev Cert.SwaIdeal.nD,
      r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
      ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1))
      ∧ r.2.sem = fun _ => 0)

def quiescent_SwaRefIdeal [hSwaRefIdeal : Cert.SwaRefIdeal.Facts] : Prop :=
  ∀ (m : (ℓ : Loc Cert.SwaRefIdeal.nD Cert.SwaRefIdeal.τ Cert.SwaRefIdeal.sig) → Buf (Elt Ideal) ℓ) (g : Dev Cert.SwaRefIdeal.nD → PrngReg), Pre_SwaRefIdeal m →
    θ_run (Cert.SwaRefIdeal.defs (F := Ideal)) (onTc (τ := Cert.SwaRefIdeal.τ) (Cert.SwaRefIdeal.main (F := Ideal))) ⟨m, fun _ => 0, g⟩ (fun r => (∀ c : Dev Cert.SwaRefIdeal.nD,
      r.2.mem ((c.tc : Thread Cert.SwaRefIdeal.nD Cert.SwaRefIdeal.τ).loc Cert.SwaRefIdeal.main_arg0) = m ((c.tc : Thread Cert.SwaRefIdeal.nD Cert.SwaRefIdeal.τ).loc Cert.SwaRefIdeal.main_arg0)
      ∧ r.2.mem ((c.tc : Thread Cert.SwaRefIdeal.nD Cert.SwaRefIdeal.τ).loc Cert.SwaRefIdeal.main_arg1) = m ((c.tc : Thread Cert.SwaRefIdeal.nD Cert.SwaRefIdeal.τ).loc Cert.SwaRefIdeal.main_arg1))
      ∧ r.2.sem = fun _ => 0)

def quiescent_SwaRefIdeal_pre_swa_scores_finite [hSwaRefIdeal : Cert.SwaRefIdeal.Facts] [hPre_swa_scores_finite : Cert.Pre_swa_scores_finite.Facts] : Prop :=
  ∀ (m : (ℓ : Loc Cert.SwaRefIdeal.nD Cert.SwaRefIdeal.τ Cert.SwaRefIdeal.sig) → Buf (Elt Ideal) ℓ) (g : Dev Cert.SwaRefIdeal.nD → PrngReg), Pre_SwaRefIdeal_swa_scores_finite m →
    θ_run (Cert.SwaRefIdeal.defs (F := Ideal)) (onTc (τ := Cert.SwaRefIdeal.τ) (Cert.SwaRefIdeal.main (F := Ideal))) ⟨m, fun _ => 0, g⟩ (fun r => (∀ c : Dev Cert.SwaRefIdeal.nD,
      r.2.mem ((c.tc : Thread Cert.SwaRefIdeal.nD Cert.SwaRefIdeal.τ).loc Cert.SwaRefIdeal.main_arg0) = m ((c.tc : Thread Cert.SwaRefIdeal.nD Cert.SwaRefIdeal.τ).loc Cert.SwaRefIdeal.main_arg0)
      ∧ r.2.mem ((c.tc : Thread Cert.SwaRefIdeal.nD Cert.SwaRefIdeal.τ).loc Cert.SwaRefIdeal.main_arg1) = m ((c.tc : Thread Cert.SwaRefIdeal.nD Cert.SwaRefIdeal.τ).loc Cert.SwaRefIdeal.main_arg1))
      ∧ r.2.sem = fun _ => 0)

def quiescent_Win [hWin : Cert.Win.Facts] : Prop :=
  ∀ (m : (ℓ : Loc Cert.Win.nD Cert.Win.τ Cert.Win.sig) → Buf (Elt Bits) ℓ) (g : Dev Cert.Win.nD → PrngReg), Pre_Win m →
    θ_run (Cert.Win.defs (F := Bits)) (onTc (τ := Cert.Win.τ) (Cert.Win.main (F := Bits))) ⟨m, fun _ => 0, g⟩ (fun r => (∀ c : Dev Cert.Win.nD,
      r.2.mem ((c.tc : Thread Cert.Win.nD Cert.Win.τ).loc Cert.Win.main_arg0) = m ((c.tc : Thread Cert.Win.nD Cert.Win.τ).loc Cert.Win.main_arg0))
      ∧ r.2.sem = fun _ => 0)

def quiescent_WinIdeal [hWinIdeal : Cert.WinIdeal.Facts] : Prop :=
  ∀ (m : (ℓ : Loc Cert.WinIdeal.nD Cert.WinIdeal.τ Cert.WinIdeal.sig) → Buf (Elt Ideal) ℓ) (g : Dev Cert.WinIdeal.nD → PrngReg), Pre_WinIdeal m →
    θ_run (Cert.WinIdeal.defs (F := Ideal)) (onTc (τ := Cert.WinIdeal.τ) (Cert.WinIdeal.main (F := Ideal))) ⟨m, fun _ => 0, g⟩ (fun r => (∀ c : Dev Cert.WinIdeal.nD,
      r.2.mem ((c.tc : Thread Cert.WinIdeal.nD Cert.WinIdeal.τ).loc Cert.WinIdeal.main_arg0) = m ((c.tc : Thread Cert.WinIdeal.nD Cert.WinIdeal.τ).loc Cert.WinIdeal.main_arg0))
      ∧ r.2.sem = fun _ => 0)

def quiescent_WinIdeal_pre_win_scores_finite [hWinIdeal : Cert.WinIdeal.Facts] [hPre_win_scores_finite : Cert.Pre_win_scores_finite.Facts] : Prop :=
  ∀ (m : (ℓ : Loc Cert.WinIdeal.nD Cert.WinIdeal.τ Cert.WinIdeal.sig) → Buf (Elt Ideal) ℓ) (g : Dev Cert.WinIdeal.nD → PrngReg), Pre_WinIdeal_win_scores_finite m →
    θ_run (Cert.WinIdeal.defs (F := Ideal)) (onTc (τ := Cert.WinIdeal.τ) (Cert.WinIdeal.main (F := Ideal))) ⟨m, fun _ => 0, g⟩ (fun r => (∀ c : Dev Cert.WinIdeal.nD,
      r.2.mem ((c.tc : Thread Cert.WinIdeal.nD Cert.WinIdeal.τ).loc Cert.WinIdeal.main_arg0) = m ((c.tc : Thread Cert.WinIdeal.nD Cert.WinIdeal.τ).loc Cert.WinIdeal.main_arg0))
      ∧ r.2.sem = fun _ => 0)

def quiescent_WinRefIdeal [hWinRefIdeal : Cert.WinRefIdeal.Facts] : Prop :=
  ∀ (m : (ℓ : Loc Cert.WinRefIdeal.nD Cert.WinRefIdeal.τ Cert.WinRefIdeal.sig) → Buf (Elt Ideal) ℓ) (g : Dev Cert.WinRefIdeal.nD → PrngReg), Pre_WinRefIdeal m →
    θ_run (Cert.WinRefIdeal.defs (F := Ideal)) (onTc (τ := Cert.WinRefIdeal.τ) (Cert.WinRefIdeal.main (F := Ideal))) ⟨m, fun _ => 0, g⟩ (fun r => (∀ c : Dev Cert.WinRefIdeal.nD,
      r.2.mem ((c.tc : Thread Cert.WinRefIdeal.nD Cert.WinRefIdeal.τ).loc Cert.WinRefIdeal.main_arg0) = m ((c.tc : Thread Cert.WinRefIdeal.nD Cert.WinRefIdeal.τ).loc Cert.WinRefIdeal.main_arg0))
      ∧ r.2.sem = fun _ => 0)

def quiescent_WinRefIdeal_pre_win_scores_finite [hWinRefIdeal : Cert.WinRefIdeal.Facts] [hPre_win_scores_finite : Cert.Pre_win_scores_finite.Facts] : Prop :=
  ∀ (m : (ℓ : Loc Cert.WinRefIdeal.nD Cert.WinRefIdeal.τ Cert.WinRefIdeal.sig) → Buf (Elt Ideal) ℓ) (g : Dev Cert.WinRefIdeal.nD → PrngReg), Pre_WinRefIdeal_win_scores_finite m →
    θ_run (Cert.WinRefIdeal.defs (F := Ideal)) (onTc (τ := Cert.WinRefIdeal.τ) (Cert.WinRefIdeal.main (F := Ideal))) ⟨m, fun _ => 0, g⟩ (fun r => (∀ c : Dev Cert.WinRefIdeal.nD,
      r.2.mem ((c.tc : Thread Cert.WinRefIdeal.nD Cert.WinRefIdeal.τ).loc Cert.WinRefIdeal.main_arg0) = m ((c.tc : Thread Cert.WinRefIdeal.nD Cert.WinRefIdeal.τ).loc Cert.WinRefIdeal.main_arg0))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4)
      ∧ r.2.mem ((c.tc : Thread Cert.OutProjRefIdeal.nD Cert.OutProjRefIdeal.τ).loc Cert.OutProjRefIdeal.main_arg5) = m ((c.tc : Thread Cert.OutProjRefIdeal.nD Cert.OutProjRefIdeal.τ).loc Cert.OutProjRefIdeal.main_arg5))
      ∧ r.2.sem = fun _ => 0)

def quiescent_OutMid [hOutMid : Cert.OutMid.Facts] : Prop :=
  ∀ (m : (ℓ : Loc Cert.OutMid.nD Cert.OutMid.τ Cert.OutMid.sig) → Buf (Elt Bits) ℓ) (g : Dev Cert.OutMid.nD → PrngReg), Pre_OutMid m →
    θ_run (Cert.OutMid.defs (F := Bits)) (onTc (τ := Cert.OutMid.τ) (Cert.OutMid.main (F := Bits))) ⟨m, fun _ => 0, g⟩ (fun r => (∀ c : Dev Cert.OutMid.nD,
      r.2.mem ((c.tc : Thread Cert.OutMid.nD Cert.OutMid.τ).loc Cert.OutMid.main_arg0) = m ((c.tc : Thread Cert.OutMid.nD Cert.OutMid.τ).loc Cert.OutMid.main_arg0)
      ∧ r.2.mem ((c.tc : Thread Cert.OutMid.nD Cert.OutMid.τ).loc Cert.OutMid.main_arg1) = m ((c.tc : Thread Cert.OutMid.nD Cert.OutMid.τ).loc Cert.OutMid.main_arg1)
      ∧ r.2.mem ((c.tc : Thread Cert.OutMid.nD Cert.OutMid.τ).loc Cert.OutMid.main_arg2) = m ((c.tc : Thread Cert.OutMid.nD Cert.OutMid.τ).loc Cert.OutMid.main_arg2)
      ∧ r.2.mem ((c.tc : Thread Cert.OutMid.nD Cert.OutMid.τ).loc Cert.OutMid.main_arg3) = m ((c.tc : Thread Cert.OutMid.nD Cert.OutMid.τ).loc Cert.OutMid.main_arg3)
      ∧ r.2.mem ((c.tc : Thread Cert.OutMid.nD Cert.OutMid.τ).loc Cert.OutMid.main_arg4) = m ((c.tc : Thread Cert.OutMid.nD Cert.OutMid.τ).loc Cert.OutMid.main_arg4)
      ∧ r.2.mem ((c.tc : Thread Cert.OutMid.nD Cert.OutMid.τ).loc Cert.OutMid.main_arg5) = m ((c.tc : Thread Cert.OutMid.nD Cert.OutMid.τ).loc Cert.OutMid.main_arg5))
      ∧ r.2.sem = fun _ => 0)

def quiescent_OutMidIdeal [hOutMidIdeal : Cert.OutMidIdeal.Facts] : Prop :=
  ∀ (m : (ℓ : Loc Cert.OutMidIdeal.nD Cert.OutMidIdeal.τ Cert.OutMidIdeal.sig) → Buf (Elt Ideal) ℓ) (g : Dev Cert.OutMidIdeal.nD → PrngReg), Pre_OutMidIdeal m →
    θ_run (Cert.OutMidIdeal.defs (F := Ideal)) (onTc (τ := Cert.OutMidIdeal.τ) (Cert.OutMidIdeal.main (F := Ideal))) ⟨m, fun _ => 0, g⟩ (fun r => (∀ c : Dev Cert.OutMidIdeal.nD,
      r.2.mem ((c.tc : Thread Cert.OutMidIdeal.nD Cert.OutMidIdeal.τ).loc Cert.OutMidIdeal.main_arg0) = m ((c.tc : Thread Cert.OutMidIdeal.nD Cert.OutMidIdeal.τ).loc Cert.OutMidIdeal.main_arg0)
      ∧ r.2.mem ((c.tc : Thread Cert.OutMidIdeal.nD Cert.OutMidIdeal.τ).loc Cert.OutMidIdeal.main_arg1) = m ((c.tc : Thread Cert.OutMidIdeal.nD Cert.OutMidIdeal.τ).loc Cert.OutMidIdeal.main_arg1)
      ∧ r.2.mem ((c.tc : Thread Cert.OutMidIdeal.nD Cert.OutMidIdeal.τ).loc Cert.OutMidIdeal.main_arg2) = m ((c.tc : Thread Cert.OutMidIdeal.nD Cert.OutMidIdeal.τ).loc Cert.OutMidIdeal.main_arg2)
      ∧ r.2.mem ((c.tc : Thread Cert.OutMidIdeal.nD Cert.OutMidIdeal.τ).loc Cert.OutMidIdeal.main_arg3) = m ((c.tc : Thread Cert.OutMidIdeal.nD Cert.OutMidIdeal.τ).loc Cert.OutMidIdeal.main_arg3)
      ∧ r.2.mem ((c.tc : Thread Cert.OutMidIdeal.nD Cert.OutMidIdeal.τ).loc Cert.OutMidIdeal.main_arg4) = m ((c.tc : Thread Cert.OutMidIdeal.nD Cert.OutMidIdeal.τ).loc Cert.OutMidIdeal.main_arg4)
      ∧ r.2.mem ((c.tc : Thread Cert.OutMidIdeal.nD Cert.OutMidIdeal.τ).loc Cert.OutMidIdeal.main_arg5) = m ((c.tc : Thread Cert.OutMidIdeal.nD Cert.OutMidIdeal.τ).loc Cert.OutMidIdeal.main_arg5))
      ∧ r.2.sem = fun _ => 0)

def quiescent_OutMidRefIdeal [hOutMidRefIdeal : Cert.OutMidRefIdeal.Facts] : Prop :=
  ∀ (m : (ℓ : Loc Cert.OutMidRefIdeal.nD Cert.OutMidRefIdeal.τ Cert.OutMidRefIdeal.sig) → Buf (Elt Ideal) ℓ) (g : Dev Cert.OutMidRefIdeal.nD → PrngReg), Pre_OutMidRefIdeal m →
    θ_run (Cert.OutMidRefIdeal.defs (F := Ideal)) (onTc (τ := Cert.OutMidRefIdeal.τ) (Cert.OutMidRefIdeal.main (F := Ideal))) ⟨m, fun _ => 0, g⟩ (fun r => (∀ c : Dev Cert.OutMidRefIdeal.nD,
      r.2.mem ((c.tc : Thread Cert.OutMidRefIdeal.nD Cert.OutMidRefIdeal.τ).loc Cert.OutMidRefIdeal.main_arg0) = m ((c.tc : Thread Cert.OutMidRefIdeal.nD Cert.OutMidRefIdeal.τ).loc Cert.OutMidRefIdeal.main_arg0)
      ∧ r.2.mem ((c.tc : Thread Cert.OutMidRefIdeal.nD Cert.OutMidRefIdeal.τ).loc Cert.OutMidRefIdeal.main_arg1) = m ((c.tc : Thread Cert.OutMidRefIdeal.nD Cert.OutMidRefIdeal.τ).loc Cert.OutMidRefIdeal.main_arg1)
      ∧ r.2.mem ((c.tc : Thread Cert.OutMidRefIdeal.nD Cert.OutMidRefIdeal.τ).loc Cert.OutMidRefIdeal.main_arg2) = m ((c.tc : Thread Cert.OutMidRefIdeal.nD Cert.OutMidRefIdeal.τ).loc Cert.OutMidRefIdeal.main_arg2)
      ∧ r.2.mem ((c.tc : Thread Cert.OutMidRefIdeal.nD Cert.OutMidRefIdeal.τ).loc Cert.OutMidRefIdeal.main_arg3) = m ((c.tc : Thread Cert.OutMidRefIdeal.nD Cert.OutMidRefIdeal.τ).loc Cert.OutMidRefIdeal.main_arg3)
      ∧ r.2.mem ((c.tc : Thread Cert.OutMidRefIdeal.nD Cert.OutMidRefIdeal.τ).loc Cert.OutMidRefIdeal.main_arg4) = m ((c.tc : Thread Cert.OutMidRefIdeal.nD Cert.OutMidRefIdeal.τ).loc Cert.OutMidRefIdeal.main_arg4)
      ∧ r.2.mem ((c.tc : Thread Cert.OutMidRefIdeal.nD Cert.OutMidRefIdeal.τ).loc Cert.OutMidRefIdeal.main_arg5) = m ((c.tc : Thread Cert.OutMidRefIdeal.nD Cert.OutMidRefIdeal.τ).loc Cert.OutMidRefIdeal.main_arg5))
      ∧ r.2.sem = fun _ => 0)

def quiescent_MixA [hMixA : Cert.MixA.Facts] : Prop :=
  ∀ (m : (ℓ : Loc Cert.MixA.nD Cert.MixA.τ Cert.MixA.sig) → Buf (Elt Bits) ℓ) (g : Dev Cert.MixA.nD → PrngReg), Pre_MixA m →
    θ_run (Cert.MixA.defs (F := Bits)) (onTc (τ := Cert.MixA.τ) (Cert.MixA.main (F := Bits))) ⟨m, fun _ => 0, g⟩ (fun r => (∀ c : Dev Cert.MixA.nD,
      r.2.mem ((c.tc : Thread Cert.MixA.nD Cert.MixA.τ).loc Cert.MixA.main_arg0) = m ((c.tc : Thread Cert.MixA.nD Cert.MixA.τ).loc Cert.MixA.main_arg0)
      ∧ r.2.mem ((c.tc : Thread Cert.MixA.nD Cert.MixA.τ).loc Cert.MixA.main_arg1) = m ((c.tc : Thread Cert.MixA.nD Cert.MixA.τ).loc Cert.MixA.main_arg1)
      ∧ r.2.mem ((c.tc : Thread Cert.MixA.nD Cert.MixA.τ).loc Cert.MixA.main_arg2) = m ((c.tc : Thread Cert.MixA.nD Cert.MixA.τ).loc Cert.MixA.main_arg2)
      ∧ r.2.mem ((c.tc : Thread Cert.MixA.nD Cert.MixA.τ).loc Cert.MixA.main_arg3) = m ((c.tc : Thread Cert.MixA.nD Cert.MixA.τ).loc Cert.MixA.main_arg3))
      ∧ r.2.sem = fun _ => 0)

def quiescent_MixAIdeal [hMixAIdeal : Cert.MixAIdeal.Facts] : Prop :=
  ∀ (m : (ℓ : Loc Cert.MixAIdeal.nD Cert.MixAIdeal.τ Cert.MixAIdeal.sig) → Buf (Elt Ideal) ℓ) (g : Dev Cert.MixAIdeal.nD → PrngReg), Pre_MixAIdeal m →
    θ_run (Cert.MixAIdeal.defs (F := Ideal)) (onTc (τ := Cert.MixAIdeal.τ) (Cert.MixAIdeal.main (F := Ideal))) ⟨m, fun _ => 0, g⟩ (fun r => (∀ c : Dev Cert.MixAIdeal.nD,
      r.2.mem ((c.tc : Thread Cert.MixAIdeal.nD Cert.MixAIdeal.τ).loc Cert.MixAIdeal.main_arg0) = m ((c.tc : Thread Cert.MixAIdeal.nD Cert.MixAIdeal.τ).loc Cert.MixAIdeal.main_arg0)
      ∧ r.2.mem ((c.tc : Thread Cert.MixAIdeal.nD Cert.MixAIdeal.τ).loc Cert.MixAIdeal.main_arg1) = m ((c.tc : Thread Cert.MixAIdeal.nD Cert.MixAIdeal.τ).loc Cert.MixAIdeal.main_arg1)
      ∧ r.2.mem ((c.tc : Thread Cert.MixAIdeal.nD Cert.MixAIdeal.τ).loc Cert.MixAIdeal.main_arg2) = m ((c.tc : Thread Cert.MixAIdeal.nD Cert.MixAIdeal.τ).loc Cert.MixAIdeal.main_arg2)
      ∧ r.2.mem ((c.tc : Thread Cert.MixAIdeal.nD Cert.MixAIdeal.τ).loc Cert.MixAIdeal.main_arg3) = m ((c.tc : Thread Cert.MixAIdeal.nD Cert.MixAIdeal.τ).loc Cert.MixAIdeal.main_arg3))
      ∧ r.2.sem = fun _ => 0)

def quiescent_MixARefIdeal [hMixARefIdeal : Cert.MixARefIdeal.Facts] : Prop :=
  ∀ (m : (ℓ : Loc Cert.MixARefIdeal.nD Cert.MixARefIdeal.τ Cert.MixARefIdeal.sig) → Buf (Elt Ideal) ℓ) (g : Dev Cert.MixARefIdeal.nD → PrngReg), Pre_MixARefIdeal m →
    θ_run (Cert.MixARefIdeal.defs (F := Ideal)) (onTc (τ := Cert.MixARefIdeal.τ) (Cert.MixARefIdeal.main (F := Ideal))) ⟨m, fun _ => 0, g⟩ (fun r => (∀ c : Dev Cert.MixARefIdeal.nD,
      r.2.mem ((c.tc : Thread Cert.MixARefIdeal.nD Cert.MixARefIdeal.τ).loc Cert.MixARefIdeal.main_arg0) = m ((c.tc : Thread Cert.MixARefIdeal.nD Cert.MixARefIdeal.τ).loc Cert.MixARefIdeal.main_arg0)
      ∧ r.2.mem ((c.tc : Thread Cert.MixARefIdeal.nD Cert.MixARefIdeal.τ).loc Cert.MixARefIdeal.main_arg1) = m ((c.tc : Thread Cert.MixARefIdeal.nD Cert.MixARefIdeal.τ).loc Cert.MixARefIdeal.main_arg1)
      ∧ r.2.mem ((c.tc : Thread Cert.MixARefIdeal.nD Cert.MixARefIdeal.τ).loc Cert.MixARefIdeal.main_arg2) = m ((c.tc : Thread Cert.MixARefIdeal.nD Cert.MixARefIdeal.τ).loc Cert.MixARefIdeal.main_arg2)
      ∧ r.2.mem ((c.tc : Thread Cert.MixARefIdeal.nD Cert.MixARefIdeal.τ).loc Cert.MixARefIdeal.main_arg3) = m ((c.tc : Thread Cert.MixARefIdeal.nD Cert.MixARefIdeal.τ).loc Cert.MixARefIdeal.main_arg3))
      ∧ r.2.sem = fun _ => 0)

def quiescent_Cmp [hCmp : Cert.Cmp.Facts] : Prop :=
  ∀ (m : (ℓ : Loc Cert.Cmp.nD Cert.Cmp.τ Cert.Cmp.sig) → Buf (Elt Bits) ℓ) (g : Dev Cert.Cmp.nD → PrngReg), Pre_Cmp m →
    θ_run (Cert.Cmp.defs (F := Bits)) (onTc (τ := Cert.Cmp.τ) (Cert.Cmp.main (F := Bits))) ⟨m, fun _ => 0, g⟩ (fun r => (∀ c : Dev Cert.Cmp.nD,
      r.2.mem ((c.tc : Thread Cert.Cmp.nD Cert.Cmp.τ).loc Cert.Cmp.main_arg0) = m ((c.tc : Thread Cert.Cmp.nD Cert.Cmp.τ).loc Cert.Cmp.main_arg0)
      ∧ r.2.mem ((c.tc : Thread Cert.Cmp.nD Cert.Cmp.τ).loc Cert.Cmp.main_arg1) = m ((c.tc : Thread Cert.Cmp.nD Cert.Cmp.τ).loc Cert.Cmp.main_arg1)
      ∧ r.2.mem ((c.tc : Thread Cert.Cmp.nD Cert.Cmp.τ).loc Cert.Cmp.main_arg2) = m ((c.tc : Thread Cert.Cmp.nD Cert.Cmp.τ).loc Cert.Cmp.main_arg2))
      ∧ r.2.sem = fun _ => 0)

def quiescent_CmpIdeal [hCmpIdeal : Cert.CmpIdeal.Facts] : Prop :=
  ∀ (m : (ℓ : Loc Cert.CmpIdeal.nD Cert.CmpIdeal.τ Cert.CmpIdeal.sig) → Buf (Elt Ideal) ℓ) (g : Dev Cert.CmpIdeal.nD → PrngReg), Pre_CmpIdeal m →
    θ_run (Cert.CmpIdeal.defs (F := Ideal)) (onTc (τ := Cert.CmpIdeal.τ) (Cert.CmpIdeal.main (F := Ideal))) ⟨m, fun _ => 0, g⟩ (fun r => (∀ c : Dev Cert.CmpIdeal.nD,
      r.2.mem ((c.tc : Thread Cert.CmpIdeal.nD Cert.CmpIdeal.τ).loc Cert.CmpIdeal.main_arg0) = m ((c.tc : Thread Cert.CmpIdeal.nD Cert.CmpIdeal.τ).loc Cert.CmpIdeal.main_arg0)
      ∧ r.2.mem ((c.tc : Thread Cert.CmpIdeal.nD Cert.CmpIdeal.τ).loc Cert.CmpIdeal.main_arg1) = m ((c.tc : Thread Cert.CmpIdeal.nD Cert.CmpIdeal.τ).loc Cert.CmpIdeal.main_arg1)
      ∧ r.2.mem ((c.tc : Thread Cert.CmpIdeal.nD Cert.CmpIdeal.τ).loc Cert.CmpIdeal.main_arg2) = m ((c.tc : Thread Cert.CmpIdeal.nD Cert.CmpIdeal.τ).loc Cert.CmpIdeal.main_arg2))
      ∧ r.2.sem = fun _ => 0)

def quiescent_CmpIdeal_pre_cmp_scores_finite [hCmpIdeal : Cert.CmpIdeal.Facts] [hPre_cmp_scores_finite : Cert.Pre_cmp_scores_finite.Facts] : Prop :=
  ∀ (m : (ℓ : Loc Cert.CmpIdeal.nD Cert.CmpIdeal.τ Cert.CmpIdeal.sig) → Buf (Elt Ideal) ℓ) (g : Dev Cert.CmpIdeal.nD → PrngReg), Pre_CmpIdeal_cmp_scores_finite m →
    θ_run (Cert.CmpIdeal.defs (F := Ideal)) (onTc (τ := Cert.CmpIdeal.τ) (Cert.CmpIdeal.main (F := Ideal))) ⟨m, fun _ => 0, g⟩ (fun r => (∀ c : Dev Cert.CmpIdeal.nD,
      r.2.mem ((c.tc : Thread Cert.CmpIdeal.nD Cert.CmpIdeal.τ).loc Cert.CmpIdeal.main_arg0) = m ((c.tc : Thread Cert.CmpIdeal.nD Cert.CmpIdeal.τ).loc Cert.CmpIdeal.main_arg0)
      ∧ r.2.mem ((c.tc : Thread Cert.CmpIdeal.nD Cert.CmpIdeal.τ).loc Cert.CmpIdeal.main_arg1) = m ((c.tc : Thread Cert.CmpIdeal.nD Cert.CmpIdeal.τ).loc Cert.CmpIdeal.main_arg1)
      ∧ r.2.mem ((c.tc : Thread Cert.CmpIdeal.nD Cert.CmpIdeal.τ).loc Cert.CmpIdeal.main_arg2) = m ((c.tc : Thread Cert.CmpIdeal.nD Cert.CmpIdeal.τ).loc Cert.CmpIdeal.main_arg2))
      ∧ r.2.sem = fun _ => 0)

def quiescent_CmpRefIdeal [hCmpRefIdeal : Cert.CmpRefIdeal.Facts] : Prop :=
  ∀ (m : (ℓ : Loc Cert.CmpRefIdeal.nD Cert.CmpRefIdeal.τ Cert.CmpRefIdeal.sig) → Buf (Elt Ideal) ℓ) (g : Dev Cert.CmpRefIdeal.nD → PrngReg), Pre_CmpRefIdeal m →
    θ_run (Cert.CmpRefIdeal.defs (F := Ideal)) (onTc (τ := Cert.CmpRefIdeal.τ) (Cert.CmpRefIdeal.main (F := Ideal))) ⟨m, fun _ => 0, g⟩ (fun r => (∀ c : Dev Cert.CmpRefIdeal.nD,
      r.2.mem ((c.tc : Thread Cert.CmpRefIdeal.nD Cert.CmpRefIdeal.τ).loc Cert.CmpRefIdeal.main_arg0) = m ((c.tc : Thread Cert.CmpRefIdeal.nD Cert.CmpRefIdeal.τ).loc Cert.CmpRefIdeal.main_arg0)
      ∧ r.2.mem ((c.tc : Thread Cert.CmpRefIdeal.nD Cert.CmpRefIdeal.τ).loc Cert.CmpRefIdeal.main_arg1) = m ((c.tc : Thread Cert.CmpRefIdeal.nD Cert.CmpRefIdeal.τ).loc Cert.CmpRefIdeal.main_arg1)
      ∧ r.2.mem ((c.tc : Thread Cert.CmpRefIdeal.nD Cert.CmpRefIdeal.τ).loc Cert.CmpRefIdeal.main_arg2) = m ((c.tc : Thread Cert.CmpRefIdeal.nD Cert.CmpRefIdeal.τ).loc Cert.CmpRefIdeal.main_arg2))
      ∧ r.2.sem = fun _ => 0)

def quiescent_CmpRefIdeal_pre_cmp_scores_finite [hCmpRefIdeal : Cert.CmpRefIdeal.Facts] [hPre_cmp_scores_finite : Cert.Pre_cmp_scores_finite.Facts] : Prop :=
  ∀ (m : (ℓ : Loc Cert.CmpRefIdeal.nD Cert.CmpRefIdeal.τ Cert.CmpRefIdeal.sig) → Buf (Elt Ideal) ℓ) (g : Dev Cert.CmpRefIdeal.nD → PrngReg), Pre_CmpRefIdeal_cmp_scores_finite m →
    θ_run (Cert.CmpRefIdeal.defs (F := Ideal)) (onTc (τ := Cert.CmpRefIdeal.τ) (Cert.CmpRefIdeal.main (F := Ideal))) ⟨m, fun _ => 0, g⟩ (fun r => (∀ c : Dev Cert.CmpRefIdeal.nD,
      r.2.mem ((c.tc : Thread Cert.CmpRefIdeal.nD Cert.CmpRefIdeal.τ).loc Cert.CmpRefIdeal.main_arg0) = m ((c.tc : Thread Cert.CmpRefIdeal.nD Cert.CmpRefIdeal.τ).loc Cert.CmpRefIdeal.main_arg0)
      ∧ r.2.mem ((c.tc : Thread Cert.CmpRefIdeal.nD Cert.CmpRefIdeal.τ).loc Cert.CmpRefIdeal.main_arg1) = m ((c.tc : Thread Cert.CmpRefIdeal.nD Cert.CmpRefIdeal.τ).loc Cert.CmpRefIdeal.main_arg1)
      ∧ r.2.mem ((c.tc : Thread Cert.CmpRefIdeal.nD Cert.CmpRefIdeal.τ).loc Cert.CmpRefIdeal.main_arg2) = m ((c.tc : Thread Cert.CmpRefIdeal.nD Cert.CmpRefIdeal.τ).loc Cert.CmpRefIdeal.main_arg2))
      ∧ r.2.sem = fun _ => 0)

def quiescent_Compress [hCompress : Cert.Compress.Facts] : Prop :=
  ∀ (m : (ℓ : Loc Cert.Compress.nD Cert.Compress.τ Cert.Compress.sig) → Buf (Elt Bits) ℓ) (g : Dev Cert.Compress.nD → PrngReg), Pre_Compress m →
    θ_run (Cert.Compress.defs (F := Bits)) (onTc (τ := Cert.Compress.τ) (Cert.Compress.main (F := Bits))) ⟨m, fun _ => 0, g⟩ (fun r => (∀ c : Dev Cert.Compress.nD,
      r.2.mem ((c.tc : Thread Cert.Compress.nD Cert.Compress.τ).loc Cert.Compress.main_arg0) = m ((c.tc : Thread Cert.Compress.nD Cert.Compress.τ).loc Cert.Compress.main_arg0)
      ∧ r.2.mem ((c.tc : Thread Cert.Compress.nD Cert.Compress.τ).loc Cert.Compress.main_arg1) = m ((c.tc : Thread Cert.Compress.nD Cert.Compress.τ).loc Cert.Compress.main_arg1)
      ∧ r.2.mem ((c.tc : Thread Cert.Compress.nD Cert.Compress.τ).loc Cert.Compress.main_arg2) = m ((c.tc : Thread Cert.Compress.nD Cert.Compress.τ).loc Cert.Compress.main_arg2)
      ∧ r.2.mem ((c.tc : Thread Cert.Compress.nD Cert.Compress.τ).loc Cert.Compress.main_arg3) = m ((c.tc : Thread Cert.Compress.nD Cert.Compress.τ).loc Cert.Compress.main_arg3)
      ∧ r.2.mem ((c.tc : Thread Cert.Compress.nD Cert.Compress.τ).loc Cert.Compress.main_arg4) = m ((c.tc : Thread Cert.Compress.nD Cert.Compress.τ).loc Cert.Compress.main_arg4)
      ∧ r.2.mem ((c.tc : Thread Cert.Compress.nD Cert.Compress.τ).loc Cert.Compress.main_arg5) = m ((c.tc : Thread Cert.Compress.nD Cert.Compress.τ).loc Cert.Compress.main_arg5)
      ∧ r.2.mem ((c.tc : Thread Cert.Compress.nD Cert.Compress.τ).loc Cert.Compress.main_arg6) = m ((c.tc : Thread Cert.Compress.nD Cert.Compress.τ).loc Cert.Compress.main_arg6))
      ∧ r.2.sem = fun _ => 0)

def quiescent_CompressIdeal [hCompressIdeal : Cert.CompressIdeal.Facts] : Prop :=
  ∀ (m : (ℓ : Loc Cert.CompressIdeal.nD Cert.CompressIdeal.τ Cert.CompressIdeal.sig) → Buf (Elt Ideal) ℓ) (g : Dev Cert.CompressIdeal.nD → PrngReg), Pre_CompressIdeal m →
    θ_run (Cert.CompressIdeal.defs (F := Ideal)) (onTc (τ := Cert.CompressIdeal.τ) (Cert.CompressIdeal.main (F := Ideal))) ⟨m, fun _ => 0, g⟩ (fun r => (∀ c : Dev Cert.CompressIdeal.nD,
      r.2.mem ((c.tc : Thread Cert.CompressIdeal.nD Cert.CompressIdeal.τ).loc Cert.CompressIdeal.main_arg0) = m ((c.tc : Thread Cert.CompressIdeal.nD Cert.CompressIdeal.τ).loc Cert.CompressIdeal.main_arg0)
      ∧ r.2.mem ((c.tc : Thread Cert.CompressIdeal.nD Cert.CompressIdeal.τ).loc Cert.CompressIdeal.main_arg1) = m ((c.tc : Thread Cert.CompressIdeal.nD Cert.CompressIdeal.τ).loc Cert.CompressIdeal.main_arg1)
      ∧ r.2.mem ((c.tc : Thread Cert.CompressIdeal.nD Cert.CompressIdeal.τ).loc Cert.CompressIdeal.main_arg2) = m ((c.tc : Thread Cert.CompressIdeal.nD Cert.CompressIdeal.τ).loc Cert.CompressIdeal.main_arg2)
      ∧ r.2.mem ((c.tc : Thread Cert.CompressIdeal.nD Cert.CompressIdeal.τ).loc Cert.CompressIdeal.main_arg3) = m ((c.tc : Thread Cert.CompressIdeal.nD Cert.CompressIdeal.τ).loc Cert.CompressIdeal.main_arg3)
      ∧ r.2.mem ((c.tc : Thread Cert.CompressIdeal.nD Cert.CompressIdeal.τ).loc Cert.CompressIdeal.main_arg4) = m ((c.tc : Thread Cert.CompressIdeal.nD Cert.CompressIdeal.τ).loc Cert.CompressIdeal.main_arg4)
      ∧ r.2.mem ((c.tc : Thread Cert.CompressIdeal.nD Cert.CompressIdeal.τ).loc Cert.CompressIdeal.main_arg5) = m ((c.tc : Thread Cert.CompressIdeal.nD Cert.CompressIdeal.τ).loc Cert.CompressIdeal.main_arg5)
      ∧ r.2.mem ((c.tc : Thread Cert.CompressIdeal.nD Cert.CompressIdeal.τ).loc Cert.CompressIdeal.main_arg6) = m ((c.tc : Thread Cert.CompressIdeal.nD Cert.CompressIdeal.τ).loc Cert.CompressIdeal.main_arg6))
      ∧ r.2.sem = fun _ => 0)

def quiescent_CompressRefIdeal [hCompressRefIdeal : Cert.CompressRefIdeal.Facts] : Prop :=
  ∀ (m : (ℓ : Loc Cert.CompressRefIdeal.nD Cert.CompressRefIdeal.τ Cert.CompressRefIdeal.sig) → Buf (Elt Ideal) ℓ) (g : Dev Cert.CompressRefIdeal.nD → PrngReg), Pre_CompressRefIdeal m →
    θ_run (Cert.CompressRefIdeal.defs (F := Ideal)) (onTc (τ := Cert.CompressRefIdeal.τ) (Cert.CompressRefIdeal.main (F := Ideal))) ⟨m, fun _ => 0, g⟩ (fun r => (∀ c : Dev Cert.CompressRefIdeal.nD,
      r.2.mem ((c.tc : Thread Cert.CompressRefIdeal.nD Cert.CompressRefIdeal.τ).loc Cert.CompressRefIdeal.main_arg0) = m ((c.tc : Thread Cert.CompressRefIdeal.nD Cert.CompressRefIdeal.τ).loc Cert.CompressRefIdeal.main_arg0)
      ∧ r.2.mem ((c.tc : Thread Cert.CompressRefIdeal.nD Cert.CompressRefIdeal.τ).loc Cert.CompressRefIdeal.main_arg1) = m ((c.tc : Thread Cert.CompressRefIdeal.nD Cert.CompressRefIdeal.τ).loc Cert.CompressRefIdeal.main_arg1)
      ∧ r.2.mem ((c.tc : Thread Cert.CompressRefIdeal.nD Cert.CompressRefIdeal.τ).loc Cert.CompressRefIdeal.main_arg2) = m ((c.tc : Thread Cert.CompressRefIdeal.nD Cert.CompressRefIdeal.τ).loc Cert.CompressRefIdeal.main_arg2)
      ∧ r.2.mem ((c.tc : Thread Cert.CompressRefIdeal.nD Cert.CompressRefIdeal.τ).loc Cert.CompressRefIdeal.main_arg3) = m ((c.tc : Thread Cert.CompressRefIdeal.nD Cert.CompressRefIdeal.τ).loc Cert.CompressRefIdeal.main_arg3)
      ∧ r.2.mem ((c.tc : Thread Cert.CompressRefIdeal.nD Cert.CompressRefIdeal.τ).loc Cert.CompressRefIdeal.main_arg4) = m ((c.tc : Thread Cert.CompressRefIdeal.nD Cert.CompressRefIdeal.τ).loc Cert.CompressRefIdeal.main_arg4)
      ∧ r.2.mem ((c.tc : Thread Cert.CompressRefIdeal.nD Cert.CompressRefIdeal.τ).loc Cert.CompressRefIdeal.main_arg5) = m ((c.tc : Thread Cert.CompressRefIdeal.nD Cert.CompressRefIdeal.τ).loc Cert.CompressRefIdeal.main_arg5)
      ∧ r.2.mem ((c.tc : Thread Cert.CompressRefIdeal.nD Cert.CompressRefIdeal.τ).loc Cert.CompressRefIdeal.main_arg6) = m ((c.tc : Thread Cert.CompressRefIdeal.nD Cert.CompressRefIdeal.τ).loc Cert.CompressRefIdeal.main_arg6))
      ∧ r.2.sem = fun _ => 0)

def quiescent_Slc [hSlc : Cert.Slc.Facts] : Prop :=
  ∀ (m : (ℓ : Loc Cert.Slc.nD Cert.Slc.τ Cert.Slc.sig) → Buf (Elt Bits) ℓ) (g : Dev Cert.Slc.nD → PrngReg), Pre_Slc m →
    θ_run (Cert.Slc.defs (F := Bits)) (onTc (τ := Cert.Slc.τ) (Cert.Slc.main (F := Bits))) ⟨m, fun _ => 0, g⟩ (fun r => (∀ c : Dev Cert.Slc.nD,
      r.2.mem ((c.tc : Thread Cert.Slc.nD Cert.Slc.τ).loc Cert.Slc.main_arg0) = m ((c.tc : Thread Cert.Slc.nD Cert.Slc.τ).loc Cert.Slc.main_arg0)
      ∧ r.2.mem ((c.tc : Thread Cert.Slc.nD Cert.Slc.τ).loc Cert.Slc.main_arg1) = m ((c.tc : Thread Cert.Slc.nD Cert.Slc.τ).loc Cert.Slc.main_arg1))
      ∧ r.2.sem = fun _ => 0)

def quiescent_SlcIdeal [hSlcIdeal : Cert.SlcIdeal.Facts] : Prop :=
  ∀ (m : (ℓ : Loc Cert.SlcIdeal.nD Cert.SlcIdeal.τ Cert.SlcIdeal.sig) → Buf (Elt Ideal) ℓ) (g : Dev Cert.SlcIdeal.nD → PrngReg), Pre_SlcIdeal m →
    θ_run (Cert.SlcIdeal.defs (F := Ideal)) (onTc (τ := Cert.SlcIdeal.τ) (Cert.SlcIdeal.main (F := Ideal))) ⟨m, fun _ => 0, g⟩ (fun r => (∀ c : Dev Cert.SlcIdeal.nD,
      r.2.mem ((c.tc : Thread Cert.SlcIdeal.nD Cert.SlcIdeal.τ).loc Cert.SlcIdeal.main_arg0) = m ((c.tc : Thread Cert.SlcIdeal.nD Cert.SlcIdeal.τ).loc Cert.SlcIdeal.main_arg0)
      ∧ r.2.mem ((c.tc : Thread Cert.SlcIdeal.nD Cert.SlcIdeal.τ).loc Cert.SlcIdeal.main_arg1) = m ((c.tc : Thread Cert.SlcIdeal.nD Cert.SlcIdeal.τ).loc Cert.SlcIdeal.main_arg1))
      ∧ r.2.sem = fun _ => 0)

def quiescent_MLstm [hMLstm : Cert.MLstm.Facts] : Prop :=
  ∀ (m : (ℓ : Loc Cert.MLstm.nD Cert.MLstm.τ Cert.MLstm.sig) → Buf (Elt Bits) ℓ) (g : Dev Cert.MLstm.nD → PrngReg), Pre_MLstm m →
    θ_run (Cert.MLstm.defs (F := Bits)) (onTc (τ := Cert.MLstm.τ) (Cert.MLstm.main (F := Bits))) ⟨m, fun _ => 0, g⟩ (fun r => (∀ c : Dev Cert.MLstm.nD,
      r.2.mem ((c.tc : Thread Cert.MLstm.nD Cert.MLstm.τ).loc Cert.MLstm.main_arg0) = m ((c.tc : Thread Cert.MLstm.nD Cert.MLstm.τ).loc Cert.MLstm.main_arg0)
      ∧ r.2.mem ((c.tc : Thread Cert.MLstm.nD Cert.MLstm.τ).loc Cert.MLstm.main_arg1) = m ((c.tc : Thread Cert.MLstm.nD Cert.MLstm.τ).loc Cert.MLstm.main_arg1)
      ∧ r.2.mem ((c.tc : Thread Cert.MLstm.nD Cert.MLstm.τ).loc Cert.MLstm.main_arg2) = m ((c.tc : Thread Cert.MLstm.nD Cert.MLstm.τ).loc Cert.MLstm.main_arg2)
      ∧ r.2.mem ((c.tc : Thread Cert.MLstm.nD Cert.MLstm.τ).loc Cert.MLstm.main_arg3) = m ((c.tc : Thread Cert.MLstm.nD Cert.MLstm.τ).loc Cert.MLstm.main_arg3)
      ∧ r.2.mem ((c.tc : Thread Cert.MLstm.nD Cert.MLstm.τ).loc Cert.MLstm.main_arg4) = m ((c.tc : Thread Cert.MLstm.nD Cert.MLstm.τ).loc Cert.MLstm.main_arg4)
      ∧ r.2.mem ((c.tc : Thread Cert.MLstm.nD Cert.MLstm.τ).loc Cert.MLstm.main_arg5) = m ((c.tc : Thread Cert.MLstm.nD Cert.MLstm.τ).loc Cert.MLstm.main_arg5))
      ∧ r.2.sem = fun _ => 0)

def quiescent_MLstmIdeal [hMLstmIdeal : Cert.MLstmIdeal.Facts] : Prop :=
  ∀ (m : (ℓ : Loc Cert.MLstmIdeal.nD Cert.MLstmIdeal.τ Cert.MLstmIdeal.sig) → Buf (Elt Ideal) ℓ) (g : Dev Cert.MLstmIdeal.nD → PrngReg), Pre_MLstmIdeal m →
    θ_run (Cert.MLstmIdeal.defs (F := Ideal)) (onTc (τ := Cert.MLstmIdeal.τ) (Cert.MLstmIdeal.main (F := Ideal))) ⟨m, fun _ => 0, g⟩ (fun r => (∀ c : Dev Cert.MLstmIdeal.nD,
      r.2.mem ((c.tc : Thread Cert.MLstmIdeal.nD Cert.MLstmIdeal.τ).loc Cert.MLstmIdeal.main_arg0) = m ((c.tc : Thread Cert.MLstmIdeal.nD Cert.MLstmIdeal.τ).loc Cert.MLstmIdeal.main_arg0)
      ∧ r.2.mem ((c.tc : Thread Cert.MLstmIdeal.nD Cert.MLstmIdeal.τ).loc Cert.MLstmIdeal.main_arg1) = m ((c.tc : Thread Cert.MLstmIdeal.nD Cert.MLstmIdeal.τ).loc Cert.MLstmIdeal.main_arg1)
      ∧ r.2.mem ((c.tc : Thread Cert.MLstmIdeal.nD Cert.MLstmIdeal.τ).loc Cert.MLstmIdeal.main_arg2) = m ((c.tc : Thread Cert.MLstmIdeal.nD Cert.MLstmIdeal.τ).loc Cert.MLstmIdeal.main_arg2)
      ∧ r.2.mem ((c.tc : Thread Cert.MLstmIdeal.nD Cert.MLstmIdeal.τ).loc Cert.MLstmIdeal.main_arg3) = m ((c.tc : Thread Cert.MLstmIdeal.nD Cert.MLstmIdeal.τ).loc Cert.MLstmIdeal.main_arg3)
      ∧ r.2.mem ((c.tc : Thread Cert.MLstmIdeal.nD Cert.MLstmIdeal.τ).loc Cert.MLstmIdeal.main_arg4) = m ((c.tc : Thread Cert.MLstmIdeal.nD Cert.MLstmIdeal.τ).loc Cert.MLstmIdeal.main_arg4)
      ∧ r.2.mem ((c.tc : Thread Cert.MLstmIdeal.nD Cert.MLstmIdeal.τ).loc Cert.MLstmIdeal.main_arg5) = m ((c.tc : Thread Cert.MLstmIdeal.nD Cert.MLstmIdeal.τ).loc Cert.MLstmIdeal.main_arg5))
      ∧ r.2.sem = fun _ => 0)

def preserves_Swa_SwaIdeal : Prop :=
  IdealRules.named_const.Statement Cert.SwaIdeal.κ "mask" .f32 0xF149F2CA#32 ⊥

def algebraic_SwaIdeal_SwaRefIdeal_pre_swa_scores_finite [hSwaIdeal : Cert.SwaIdeal.Facts] [hSwaRefIdeal : Cert.SwaRefIdeal.Facts] [hPre_swa_scores_finite : Cert.Pre_swa_scores_finite.Facts] : Prop :=
  ∀ (m : (ℓ : Loc Cert.SwaIdeal.nD Cert.SwaIdeal.τ Cert.SwaIdeal.sig) → Buf (Elt Ideal) ℓ) (g : Dev Cert.SwaIdeal.nD → PrngReg)
    (m' : (ℓ : Loc Cert.SwaRefIdeal.nD Cert.SwaRefIdeal.τ Cert.SwaRefIdeal.sig) → Buf (Elt Ideal) ℓ) (g' : Dev Cert.SwaRefIdeal.nD → PrngReg), Pre_SwaIdeal_swa_scores_finite m →
    (∀ c : Dev Cert.SwaIdeal.nD,
      m' ((c.tc : Thread Cert.SwaRefIdeal.nD Cert.SwaRefIdeal.τ).loc Cert.SwaRefIdeal.main_arg0) = m ((c.tc : Thread Cert.SwaIdeal.nD Cert.SwaIdeal.τ).loc Cert.SwaIdeal.main_arg0)
      ∧ m' ((c.tc : Thread Cert.SwaRefIdeal.nD Cert.SwaRefIdeal.τ).loc Cert.SwaRefIdeal.main_arg1) = m ((c.tc : Thread Cert.SwaIdeal.nD Cert.SwaIdeal.τ).loc Cert.SwaIdeal.main_arg1)) →
    ∃ (v0 : (c : Dev Cert.SwaIdeal.nD) → Buf (Elt Ideal) ((c.tc : Thread Cert.SwaIdeal.nD Cert.SwaIdeal.τ).loc Cert.SwaIdeal.main_v23)),
      θ_run (Cert.SwaIdeal.defs (F := Ideal)) (onTc (τ := Cert.SwaIdeal.τ) (Cert.SwaIdeal.main (F := Ideal))) ⟨m, fun _ => 0, g⟩ (fun r => ∀ c : Dev Cert.SwaIdeal.nD,
          r.2.mem ((c.tc : Thread Cert.SwaIdeal.nD Cert.SwaIdeal.τ).loc Cert.SwaIdeal.main_v23) = v0 c
          ∧ r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
          ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1))
      ∧ θ_run (Cert.SwaRefIdeal.defs (F := Ideal)) (onTc (τ := Cert.SwaRefIdeal.τ) (Cert.SwaRefIdeal.main (F := Ideal))) ⟨m', fun _ => 0, g'⟩ (fun r => ∀ c : Dev Cert.SwaRefIdeal.nD,
          r.2.mem ((c.tc : Thread Cert.SwaRefIdeal.nD Cert.SwaRefIdeal.τ).loc Cert.SwaRefIdeal.main_v59) = v0 c
          ∧ r.2.mem ((c.tc : Thread Cert.SwaRefIdeal.nD Cert.SwaRefIdeal.τ).loc Cert.SwaRefIdeal.main_arg0) = m' ((c.tc : Thread Cert.SwaRefIdeal.nD Cert.SwaRefIdeal.τ).loc Cert.SwaRefIdeal.main_arg0)
          ∧ r.2.mem ((c.tc : Thread Cert.SwaRefIdeal.nD Cert.SwaRefIdeal.τ).loc Cert.SwaRefIdeal.main_arg1) = m' ((c.tc : Thread Cert.SwaRefIdeal.nD Cert.SwaRefIdeal.τ).loc Cert.SwaRefIdeal.main_arg1))

def preserves_Win_WinIdeal : Prop :=
  IdealRules.named_const.Statement Cert.WinIdeal.κ "mask" .f32 0xF149F2CA#32 ⊥

def algebraic_WinIdeal_WinRefIdeal_pre_win_scores_finite [hWinIdeal : Cert.WinIdeal.Facts] [hWinRefIdeal : Cert.WinRefIdeal.Facts] [hPre_win_scores_finite : Cert.Pre_win_scores_finite.Facts] : Prop :=
  ∀ (m : (ℓ : Loc Cert.WinIdeal.nD Cert.WinIdeal.τ Cert.WinIdeal.sig) → Buf (Elt Ideal) ℓ) (g : Dev Cert.WinIdeal.nD → PrngReg)
    (m' : (ℓ : Loc Cert.WinRefIdeal.nD Cert.WinRefIdeal.τ Cert.WinRefIdeal.sig) → Buf (Elt Ideal) ℓ) (g' : Dev Cert.WinRefIdeal.nD → PrngReg), Pre_WinIdeal_win_scores_finite m →
    (∀ c : Dev Cert.WinIdeal.nD,
      m' ((c.tc : Thread Cert.WinRefIdeal.nD Cert.WinRefIdeal.τ).loc Cert.WinRefIdeal.main_arg0) = m ((c.tc : Thread Cert.WinIdeal.nD Cert.WinIdeal.τ).loc Cert.WinIdeal.main_arg0)) →
    ∃ (v0 : (c : Dev Cert.WinIdeal.nD) → Buf (Elt Ideal) ((c.tc : Thread Cert.WinIdeal.nD Cert.WinIdeal.τ).loc Cert.WinIdeal.main_v21)),
      θ_run (Cert.WinIdeal.defs (F := Ideal)) (onTc (τ := Cert.WinIdeal.τ) (Cert.WinIdeal.main (F := Ideal))) ⟨m, fun _ => 0, g⟩ (fun r => ∀ c : Dev Cert.WinIdeal.nD,
          r.2.mem ((c.tc : Thread Cert.WinIdeal.nD Cert.WinIdeal.τ).loc Cert.WinIdeal.main_v21) = v0 c
          ∧ r.2.mem ((c.tc : Thread Cert.WinIdeal.nD Cert.WinIdeal.τ).loc Cert.WinIdeal.main_arg0) = m ((c.tc : Thread Cert.WinIdeal.nD Cert.WinIdeal.τ).loc Cert.WinIdeal.main_arg0))
      ∧ θ_run (Cert.WinRefIdeal.defs (F := Ideal)) (onTc (τ := Cert.WinRefIdeal.τ) (Cert.WinRefIdeal.main (F := Ideal))) ⟨m', fun _ => 0, g'⟩ (fun r => ∀ c : Dev Cert.WinRefIdeal.nD,
          r.2.mem ((c.tc : Thread Cert.WinRefIdeal.nD Cert.WinRefIdeal.τ).loc Cert.WinRefIdeal.main_v48) = v0 c
          ∧ r.2.mem ((c.tc : Thread Cert.WinRefIdeal.nD Cert.WinRefIdeal.τ).loc Cert.WinRefIdeal.main_arg0) = m' ((c.tc : Thread Cert.WinRefIdeal.nD Cert.WinRefIdeal.τ).loc Cert.WinRefIdeal.main_arg0))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v2)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v2) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v13) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)
      ∧ m' ((c.tc : Thread Cert.OutProjRefIdeal.nD Cert.OutProjRefIdeal.τ).loc Cert.OutProjRefIdeal.main_arg5) = m ((c.tc : Thread Cert.OutProjIdeal.nD Cert.OutProjIdeal.τ).loc Cert.OutProjIdeal.main_arg5)) →
    ∃ (v0 : (c : Dev Cert.OutProjIdeal.nD) → Buf (Elt Ideal) ((c.tc : Thread Cert.OutProjIdeal.nD Cert.OutProjIdeal.τ).loc Cert.OutProjIdeal.main_v5)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v5) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v16) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4)
          ∧ r.2.mem ((c.tc : Thread Cert.OutProjRefIdeal.nD Cert.OutProjRefIdeal.τ).loc Cert.OutProjRefIdeal.main_arg5) = m' ((c.tc : Thread Cert.OutProjRefIdeal.nD Cert.OutProjRefIdeal.τ).loc Cert.OutProjRefIdeal.main_arg5))

def preserves_OutMid_OutMidIdeal : Prop :=
  True

def algebraic_OutMidIdeal_OutMidRefIdeal [hOutMidIdeal : Cert.OutMidIdeal.Facts] [hOutMidRefIdeal : Cert.OutMidRefIdeal.Facts] : Prop :=
  ∀ (m : (ℓ : Loc Cert.OutMidIdeal.nD Cert.OutMidIdeal.τ Cert.OutMidIdeal.sig) → Buf (Elt Ideal) ℓ) (g : Dev Cert.OutMidIdeal.nD → PrngReg)
    (m' : (ℓ : Loc Cert.OutMidRefIdeal.nD Cert.OutMidRefIdeal.τ Cert.OutMidRefIdeal.sig) → Buf (Elt Ideal) ℓ) (g' : Dev Cert.OutMidRefIdeal.nD → PrngReg), Pre_OutMidIdeal m →
    (∀ c : Dev Cert.OutMidIdeal.nD,
      m' ((c.tc : Thread Cert.OutMidRefIdeal.nD Cert.OutMidRefIdeal.τ).loc Cert.OutMidRefIdeal.main_arg0) = m ((c.tc : Thread Cert.OutMidIdeal.nD Cert.OutMidIdeal.τ).loc Cert.OutMidIdeal.main_arg0)
      ∧ m' ((c.tc : Thread Cert.OutMidRefIdeal.nD Cert.OutMidRefIdeal.τ).loc Cert.OutMidRefIdeal.main_arg1) = m ((c.tc : Thread Cert.OutMidIdeal.nD Cert.OutMidIdeal.τ).loc Cert.OutMidIdeal.main_arg1)
      ∧ m' ((c.tc : Thread Cert.OutMidRefIdeal.nD Cert.OutMidRefIdeal.τ).loc Cert.OutMidRefIdeal.main_arg2) = m ((c.tc : Thread Cert.OutMidIdeal.nD Cert.OutMidIdeal.τ).loc Cert.OutMidIdeal.main_arg2)
      ∧ m' ((c.tc : Thread Cert.OutMidRefIdeal.nD Cert.OutMidRefIdeal.τ).loc Cert.OutMidRefIdeal.main_arg3) = m ((c.tc : Thread Cert.OutMidIdeal.nD Cert.OutMidIdeal.τ).loc Cert.OutMidIdeal.main_arg3)
      ∧ m' ((c.tc : Thread Cert.OutMidRefIdeal.nD Cert.OutMidRefIdeal.τ).loc Cert.OutMidRefIdeal.main_arg4) = m ((c.tc : Thread Cert.OutMidIdeal.nD Cert.OutMidIdeal.τ).loc Cert.OutMidIdeal.main_arg4)
      ∧ m' ((c.tc : Thread Cert.OutMidRefIdeal.nD Cert.OutMidRefIdeal.τ).loc Cert.OutMidRefIdeal.main_arg5) = m ((c.tc : Thread Cert.OutMidIdeal.nD Cert.OutMidIdeal.τ).loc Cert.OutMidIdeal.main_arg5)) →
    ∃ (v0 : (c : Dev Cert.OutMidIdeal.nD) → Buf (Elt Ideal) ((c.tc : Thread Cert.OutMidIdeal.nD Cert.OutMidIdeal.τ).loc Cert.OutMidIdeal.main_v5)),
      θ_run (Cert.OutMidIdeal.defs (F := Ideal)) (onTc (τ := Cert.OutMidIdeal.τ) (Cert.OutMidIdeal.main (F := Ideal))) ⟨m, fun _ => 0, g⟩ (fun r => ∀ c : Dev Cert.OutMidIdeal.nD,
          r.2.mem ((c.tc : Thread Cert.OutMidIdeal.nD Cert.OutMidIdeal.τ).loc Cert.OutMidIdeal.main_v5) = v0 c
          ∧ r.2.mem ((c.tc : Thread Cert.OutMidIdeal.nD Cert.OutMidIdeal.τ).loc Cert.OutMidIdeal.main_arg0) = m ((c.tc : Thread Cert.OutMidIdeal.nD Cert.OutMidIdeal.τ).loc Cert.OutMidIdeal.main_arg0)
          ∧ r.2.mem ((c.tc : Thread Cert.OutMidIdeal.nD Cert.OutMidIdeal.τ).loc Cert.OutMidIdeal.main_arg1) = m ((c.tc : Thread Cert.OutMidIdeal.nD Cert.OutMidIdeal.τ).loc Cert.OutMidIdeal.main_arg1)
          ∧ r.2.mem ((c.tc : Thread Cert.OutMidIdeal.nD Cert.OutMidIdeal.τ).loc Cert.OutMidIdeal.main_arg2) = m ((c.tc : Thread Cert.OutMidIdeal.nD Cert.OutMidIdeal.τ).loc Cert.OutMidIdeal.main_arg2)
          ∧ r.2.mem ((c.tc : Thread Cert.OutMidIdeal.nD Cert.OutMidIdeal.τ).loc Cert.OutMidIdeal.main_arg3) = m ((c.tc : Thread Cert.OutMidIdeal.nD Cert.OutMidIdeal.τ).loc Cert.OutMidIdeal.main_arg3)
          ∧ r.2.mem ((c.tc : Thread Cert.OutMidIdeal.nD Cert.OutMidIdeal.τ).loc Cert.OutMidIdeal.main_arg4) = m ((c.tc : Thread Cert.OutMidIdeal.nD Cert.OutMidIdeal.τ).loc Cert.OutMidIdeal.main_arg4)
          ∧ r.2.mem ((c.tc : Thread Cert.OutMidIdeal.nD Cert.OutMidIdeal.τ).loc Cert.OutMidIdeal.main_arg5) = m ((c.tc : Thread Cert.OutMidIdeal.nD Cert.OutMidIdeal.τ).loc Cert.OutMidIdeal.main_arg5))
      ∧ θ_run (Cert.OutMidRefIdeal.defs (F := Ideal)) (onTc (τ := Cert.OutMidRefIdeal.τ) (Cert.OutMidRefIdeal.main (F := Ideal))) ⟨m', fun _ => 0, g'⟩ (fun r => ∀ c : Dev Cert.OutMidRefIdeal.nD,
          r.2.mem ((c.tc : Thread Cert.OutMidRefIdeal.nD Cert.OutMidRefIdeal.τ).loc Cert.OutMidRefIdeal.main_v3) = v0 c
          ∧ r.2.mem ((c.tc : Thread Cert.OutMidRefIdeal.nD Cert.OutMidRefIdeal.τ).loc Cert.OutMidRefIdeal.main_arg0) = m' ((c.tc : Thread Cert.OutMidRefIdeal.nD Cert.OutMidRefIdeal.τ).loc Cert.OutMidRefIdeal.main_arg0)
          ∧ r.2.mem ((c.tc : Thread Cert.OutMidRefIdeal.nD Cert.OutMidRefIdeal.τ).loc Cert.OutMidRefIdeal.main_arg1) = m' ((c.tc : Thread Cert.OutMidRefIdeal.nD Cert.OutMidRefIdeal.τ).loc Cert.OutMidRefIdeal.main_arg1)
          ∧ r.2.mem ((c.tc : Thread Cert.OutMidRefIdeal.nD Cert.OutMidRefIdeal.τ).loc Cert.OutMidRefIdeal.main_arg2) = m' ((c.tc : Thread Cert.OutMidRefIdeal.nD Cert.OutMidRefIdeal.τ).loc Cert.OutMidRefIdeal.main_arg2)
          ∧ r.2.mem ((c.tc : Thread Cert.OutMidRefIdeal.nD Cert.OutMidRefIdeal.τ).loc Cert.OutMidRefIdeal.main_arg3) = m' ((c.tc : Thread Cert.OutMidRefIdeal.nD Cert.OutMidRefIdeal.τ).loc Cert.OutMidRefIdeal.main_arg3)
          ∧ r.2.mem ((c.tc : Thread Cert.OutMidRefIdeal.nD Cert.OutMidRefIdeal.τ).loc Cert.OutMidRefIdeal.main_arg4) = m' ((c.tc : Thread Cert.OutMidRefIdeal.nD Cert.OutMidRefIdeal.τ).loc Cert.OutMidRefIdeal.main_arg4)
          ∧ r.2.mem ((c.tc : Thread Cert.OutMidRefIdeal.nD Cert.OutMidRefIdeal.τ).loc Cert.OutMidRefIdeal.main_arg5) = m' ((c.tc : Thread Cert.OutMidRefIdeal.nD Cert.OutMidRefIdeal.τ).loc Cert.OutMidRefIdeal.main_arg5))

def preserves_MixA_MixAIdeal : Prop :=
  True

def algebraic_MixAIdeal_MixARefIdeal [hMixAIdeal : Cert.MixAIdeal.Facts] [hMixARefIdeal : Cert.MixARefIdeal.Facts] : Prop :=
  ∀ (m : (ℓ : Loc Cert.MixAIdeal.nD Cert.MixAIdeal.τ Cert.MixAIdeal.sig) → Buf (Elt Ideal) ℓ) (g : Dev Cert.MixAIdeal.nD → PrngReg)
    (m' : (ℓ : Loc Cert.MixARefIdeal.nD Cert.MixARefIdeal.τ Cert.MixARefIdeal.sig) → Buf (Elt Ideal) ℓ) (g' : Dev Cert.MixARefIdeal.nD → PrngReg), Pre_MixAIdeal m →
    (∀ c : Dev Cert.MixAIdeal.nD,
      m' ((c.tc : Thread Cert.MixARefIdeal.nD Cert.MixARefIdeal.τ).loc Cert.MixARefIdeal.main_arg0) = m ((c.tc : Thread Cert.MixAIdeal.nD Cert.MixAIdeal.τ).loc Cert.MixAIdeal.main_arg0)
      ∧ m' ((c.tc : Thread Cert.MixARefIdeal.nD Cert.MixARefIdeal.τ).loc Cert.MixARefIdeal.main_arg1) = m ((c.tc : Thread Cert.MixAIdeal.nD Cert.MixAIdeal.τ).loc Cert.MixAIdeal.main_arg1)
      ∧ m' ((c.tc : Thread Cert.MixARefIdeal.nD Cert.MixARefIdeal.τ).loc Cert.MixARefIdeal.main_arg2) = m ((c.tc : Thread Cert.MixAIdeal.nD Cert.MixAIdeal.τ).loc Cert.MixAIdeal.main_arg2)
      ∧ m' ((c.tc : Thread Cert.MixARefIdeal.nD Cert.MixARefIdeal.τ).loc Cert.MixARefIdeal.main_arg3) = m ((c.tc : Thread Cert.MixAIdeal.nD Cert.MixAIdeal.τ).loc Cert.MixAIdeal.main_arg3)) →
    ∃ (v0 : (c : Dev Cert.MixAIdeal.nD) → Buf (Elt Ideal) ((c.tc : Thread Cert.MixAIdeal.nD Cert.MixAIdeal.τ).loc Cert.MixAIdeal.main_v0)),
      θ_run (Cert.MixAIdeal.defs (F := Ideal)) (onTc (τ := Cert.MixAIdeal.τ) (Cert.MixAIdeal.main (F := Ideal))) ⟨m, fun _ => 0, g⟩ (fun r => ∀ c : Dev Cert.MixAIdeal.nD,
          r.2.mem ((c.tc : Thread Cert.MixAIdeal.nD Cert.MixAIdeal.τ).loc Cert.MixAIdeal.main_v0) = v0 c
          ∧ r.2.mem ((c.tc : Thread Cert.MixAIdeal.nD Cert.MixAIdeal.τ).loc Cert.MixAIdeal.main_arg0) = m ((c.tc : Thread Cert.MixAIdeal.nD Cert.MixAIdeal.τ).loc Cert.MixAIdeal.main_arg0)
          ∧ r.2.mem ((c.tc : Thread Cert.MixAIdeal.nD Cert.MixAIdeal.τ).loc Cert.MixAIdeal.main_arg1) = m ((c.tc : Thread Cert.MixAIdeal.nD Cert.MixAIdeal.τ).loc Cert.MixAIdeal.main_arg1)
          ∧ r.2.mem ((c.tc : Thread Cert.MixAIdeal.nD Cert.MixAIdeal.τ).loc Cert.MixAIdeal.main_arg2) = m ((c.tc : Thread Cert.MixAIdeal.nD Cert.MixAIdeal.τ).loc Cert.MixAIdeal.main_arg2)
          ∧ r.2.mem ((c.tc : Thread Cert.MixAIdeal.nD Cert.MixAIdeal.τ).loc Cert.MixAIdeal.main_arg3) = m ((c.tc : Thread Cert.MixAIdeal.nD Cert.MixAIdeal.τ).loc Cert.MixAIdeal.main_arg3))
      ∧ θ_run (Cert.MixARefIdeal.defs (F := Ideal)) (onTc (τ := Cert.MixARefIdeal.τ) (Cert.MixARefIdeal.main (F := Ideal))) ⟨m', fun _ => 0, g'⟩ (fun r => ∀ c : Dev Cert.MixARefIdeal.nD,
          r.2.mem ((c.tc : Thread Cert.MixARefIdeal.nD Cert.MixARefIdeal.τ).loc Cert.MixARefIdeal.main_v26) = v0 c
          ∧ r.2.mem ((c.tc : Thread Cert.MixARefIdeal.nD Cert.MixARefIdeal.τ).loc Cert.MixARefIdeal.main_arg0) = m' ((c.tc : Thread Cert.MixARefIdeal.nD Cert.MixARefIdeal.τ).loc Cert.MixARefIdeal.main_arg0)
          ∧ r.2.mem ((c.tc : Thread Cert.MixARefIdeal.nD Cert.MixARefIdeal.τ).loc Cert.MixARefIdeal.main_arg1) = m' ((c.tc : Thread Cert.MixARefIdeal.nD Cert.MixARefIdeal.τ).loc Cert.MixARefIdeal.main_arg1)
          ∧ r.2.mem ((c.tc : Thread Cert.MixARefIdeal.nD Cert.MixARefIdeal.τ).loc Cert.MixARefIdeal.main_arg2) = m' ((c.tc : Thread Cert.MixARefIdeal.nD Cert.MixARefIdeal.τ).loc Cert.MixARefIdeal.main_arg2)
          ∧ r.2.mem ((c.tc : Thread Cert.MixARefIdeal.nD Cert.MixARefIdeal.τ).loc Cert.MixARefIdeal.main_arg3) = m' ((c.tc : Thread Cert.MixARefIdeal.nD Cert.MixARefIdeal.τ).loc Cert.MixARefIdeal.main_arg3))

def preserves_Cmp_CmpIdeal : Prop :=
  IdealRules.named_const.Statement Cert.CmpIdeal.κ "mask" .f32 0xF149F2CA#32 ⊥

def algebraic_CmpIdeal_CmpRefIdeal_pre_cmp_scores_finite [hCmpIdeal : Cert.CmpIdeal.Facts] [hCmpRefIdeal : Cert.CmpRefIdeal.Facts] [hPre_cmp_scores_finite : Cert.Pre_cmp_scores_finite.Facts] : Prop :=
  ∀ (m : (ℓ : Loc Cert.CmpIdeal.nD Cert.CmpIdeal.τ Cert.CmpIdeal.sig) → Buf (Elt Ideal) ℓ) (g : Dev Cert.CmpIdeal.nD → PrngReg)
    (m' : (ℓ : Loc Cert.CmpRefIdeal.nD Cert.CmpRefIdeal.τ Cert.CmpRefIdeal.sig) → Buf (Elt Ideal) ℓ) (g' : Dev Cert.CmpRefIdeal.nD → PrngReg), Pre_CmpIdeal_cmp_scores_finite m →
    (∀ c : Dev Cert.CmpIdeal.nD,
      m' ((c.tc : Thread Cert.CmpRefIdeal.nD Cert.CmpRefIdeal.τ).loc Cert.CmpRefIdeal.main_arg0) = m ((c.tc : Thread Cert.CmpIdeal.nD Cert.CmpIdeal.τ).loc Cert.CmpIdeal.main_arg0)
      ∧ m' ((c.tc : Thread Cert.CmpRefIdeal.nD Cert.CmpRefIdeal.τ).loc Cert.CmpRefIdeal.main_arg1) = m ((c.tc : Thread Cert.CmpIdeal.nD Cert.CmpIdeal.τ).loc Cert.CmpIdeal.main_arg1)
      ∧ m' ((c.tc : Thread Cert.CmpRefIdeal.nD Cert.CmpRefIdeal.τ).loc Cert.CmpRefIdeal.main_arg2) = m ((c.tc : Thread Cert.CmpIdeal.nD Cert.CmpIdeal.τ).loc Cert.CmpIdeal.main_arg2)) →
    ∃ (v0 : (c : Dev Cert.CmpIdeal.nD) → Buf (Elt Ideal) ((c.tc : Thread Cert.CmpIdeal.nD Cert.CmpIdeal.τ).loc Cert.CmpIdeal.main_v15_0)) (v1 : (c : Dev Cert.CmpIdeal.nD) → Buf (Elt Ideal) ((c.tc : Thread Cert.CmpIdeal.nD Cert.CmpIdeal.τ).loc Cert.CmpIdeal.main_v15_1)),
      θ_run (Cert.CmpIdeal.defs (F := Ideal)) (onTc (τ := Cert.CmpIdeal.τ) (Cert.CmpIdeal.main (F := Ideal))) ⟨m, fun _ => 0, g⟩ (fun r => ∀ c : Dev Cert.CmpIdeal.nD,
          r.2.mem ((c.tc : Thread Cert.CmpIdeal.nD Cert.CmpIdeal.τ).loc Cert.CmpIdeal.main_v15_0) = v0 c
          ∧ r.2.mem ((c.tc : Thread Cert.CmpIdeal.nD Cert.CmpIdeal.τ).loc Cert.CmpIdeal.main_v15_1) = v1 c
          ∧ r.2.mem ((c.tc : Thread Cert.CmpIdeal.nD Cert.CmpIdeal.τ).loc Cert.CmpIdeal.main_arg0) = m ((c.tc : Thread Cert.CmpIdeal.nD Cert.CmpIdeal.τ).loc Cert.CmpIdeal.main_arg0)
          ∧ r.2.mem ((c.tc : Thread Cert.CmpIdeal.nD Cert.CmpIdeal.τ).loc Cert.CmpIdeal.main_arg1) = m ((c.tc : Thread Cert.CmpIdeal.nD Cert.CmpIdeal.τ).loc Cert.CmpIdeal.main_arg1)
          ∧ r.2.mem ((c.tc : Thread Cert.CmpIdeal.nD Cert.CmpIdeal.τ).loc Cert.CmpIdeal.main_arg2) = m ((c.tc : Thread Cert.CmpIdeal.nD Cert.CmpIdeal.τ).loc Cert.CmpIdeal.main_arg2))
      ∧ θ_run (Cert.CmpRefIdeal.defs (F := Ideal)) (onTc (τ := Cert.CmpRefIdeal.τ) (Cert.CmpRefIdeal.main (F := Ideal))) ⟨m', fun _ => 0, g'⟩ (fun r => ∀ c : Dev Cert.CmpRefIdeal.nD,
          r.2.mem ((c.tc : Thread Cert.CmpRefIdeal.nD Cert.CmpRefIdeal.τ).loc Cert.CmpRefIdeal.main_v35) = v0 c
          ∧ r.2.mem ((c.tc : Thread Cert.CmpRefIdeal.nD Cert.CmpRefIdeal.τ).loc Cert.CmpRefIdeal.main_v91) = v1 c
          ∧ r.2.mem ((c.tc : Thread Cert.CmpRefIdeal.nD Cert.CmpRefIdeal.τ).loc Cert.CmpRefIdeal.main_arg0) = m' ((c.tc : Thread Cert.CmpRefIdeal.nD Cert.CmpRefIdeal.τ).loc Cert.CmpRefIdeal.main_arg0)
          ∧ r.2.mem ((c.tc : Thread Cert.CmpRefIdeal.nD Cert.CmpRefIdeal.τ).loc Cert.CmpRefIdeal.main_arg1) = m' ((c.tc : Thread Cert.CmpRefIdeal.nD Cert.CmpRefIdeal.τ).loc Cert.CmpRefIdeal.main_arg1)
          ∧ r.2.mem ((c.tc : Thread Cert.CmpRefIdeal.nD Cert.CmpRefIdeal.τ).loc Cert.CmpRefIdeal.main_arg2) = m' ((c.tc : Thread Cert.CmpRefIdeal.nD Cert.CmpRefIdeal.τ).loc Cert.CmpRefIdeal.main_arg2))

def preserves_Compress_CompressIdeal : Prop :=
  True

def algebraic_CompressIdeal_CompressRefIdeal [hCompressIdeal : Cert.CompressIdeal.Facts] [hCompressRefIdeal : Cert.CompressRefIdeal.Facts] : Prop :=
  ∀ (m : (ℓ : Loc Cert.CompressIdeal.nD Cert.CompressIdeal.τ Cert.CompressIdeal.sig) → Buf (Elt Ideal) ℓ) (g : Dev Cert.CompressIdeal.nD → PrngReg)
    (m' : (ℓ : Loc Cert.CompressRefIdeal.nD Cert.CompressRefIdeal.τ Cert.CompressRefIdeal.sig) → Buf (Elt Ideal) ℓ) (g' : Dev Cert.CompressRefIdeal.nD → PrngReg), Pre_CompressIdeal m →
    (∀ c : Dev Cert.CompressIdeal.nD,
      m' ((c.tc : Thread Cert.CompressRefIdeal.nD Cert.CompressRefIdeal.τ).loc Cert.CompressRefIdeal.main_arg0) = m ((c.tc : Thread Cert.CompressIdeal.nD Cert.CompressIdeal.τ).loc Cert.CompressIdeal.main_arg0)
      ∧ m' ((c.tc : Thread Cert.CompressRefIdeal.nD Cert.CompressRefIdeal.τ).loc Cert.CompressRefIdeal.main_arg1) = m ((c.tc : Thread Cert.CompressIdeal.nD Cert.CompressIdeal.τ).loc Cert.CompressIdeal.main_arg1)
      ∧ m' ((c.tc : Thread Cert.CompressRefIdeal.nD Cert.CompressRefIdeal.τ).loc Cert.CompressRefIdeal.main_arg2) = m ((c.tc : Thread Cert.CompressIdeal.nD Cert.CompressIdeal.τ).loc Cert.CompressIdeal.main_arg2)
      ∧ m' ((c.tc : Thread Cert.CompressRefIdeal.nD Cert.CompressRefIdeal.τ).loc Cert.CompressRefIdeal.main_arg3) = m ((c.tc : Thread Cert.CompressIdeal.nD Cert.CompressIdeal.τ).loc Cert.CompressIdeal.main_arg3)
      ∧ m' ((c.tc : Thread Cert.CompressRefIdeal.nD Cert.CompressRefIdeal.τ).loc Cert.CompressRefIdeal.main_arg4) = m ((c.tc : Thread Cert.CompressIdeal.nD Cert.CompressIdeal.τ).loc Cert.CompressIdeal.main_arg4)
      ∧ m' ((c.tc : Thread Cert.CompressRefIdeal.nD Cert.CompressRefIdeal.τ).loc Cert.CompressRefIdeal.main_arg5) = m ((c.tc : Thread Cert.CompressIdeal.nD Cert.CompressIdeal.τ).loc Cert.CompressIdeal.main_arg5)
      ∧ m' ((c.tc : Thread Cert.CompressRefIdeal.nD Cert.CompressRefIdeal.τ).loc Cert.CompressRefIdeal.main_arg6) = m ((c.tc : Thread Cert.CompressIdeal.nD Cert.CompressIdeal.τ).loc Cert.CompressIdeal.main_arg6)) →
    ∃ (v0 : (c : Dev Cert.CompressIdeal.nD) → Buf (Elt Ideal) ((c.tc : Thread Cert.CompressIdeal.nD Cert.CompressIdeal.τ).loc Cert.CompressIdeal.main_v25)),
      θ_run (Cert.CompressIdeal.defs (F := Ideal)) (onTc (τ := Cert.CompressIdeal.τ) (Cert.CompressIdeal.main (F := Ideal))) ⟨m, fun _ => 0, g⟩ (fun r => ∀ c : Dev Cert.CompressIdeal.nD,
          r.2.mem ((c.tc : Thread Cert.CompressIdeal.nD Cert.CompressIdeal.τ).loc Cert.CompressIdeal.main_v25) = v0 c
          ∧ r.2.mem ((c.tc : Thread Cert.CompressIdeal.nD Cert.CompressIdeal.τ).loc Cert.CompressIdeal.main_arg0) = m ((c.tc : Thread Cert.CompressIdeal.nD Cert.CompressIdeal.τ).loc Cert.CompressIdeal.main_arg0)
          ∧ r.2.mem ((c.tc : Thread Cert.CompressIdeal.nD Cert.CompressIdeal.τ).loc Cert.CompressIdeal.main_arg1) = m ((c.tc : Thread Cert.CompressIdeal.nD Cert.CompressIdeal.τ).loc Cert.CompressIdeal.main_arg1)
          ∧ r.2.mem ((c.tc : Thread Cert.CompressIdeal.nD Cert.CompressIdeal.τ).loc Cert.CompressIdeal.main_arg2) = m ((c.tc : Thread Cert.CompressIdeal.nD Cert.CompressIdeal.τ).loc Cert.CompressIdeal.main_arg2)
          ∧ r.2.mem ((c.tc : Thread Cert.CompressIdeal.nD Cert.CompressIdeal.τ).loc Cert.CompressIdeal.main_arg3) = m ((c.tc : Thread Cert.CompressIdeal.nD Cert.CompressIdeal.τ).loc Cert.CompressIdeal.main_arg3)
          ∧ r.2.mem ((c.tc : Thread Cert.CompressIdeal.nD Cert.CompressIdeal.τ).loc Cert.CompressIdeal.main_arg4) = m ((c.tc : Thread Cert.CompressIdeal.nD Cert.CompressIdeal.τ).loc Cert.CompressIdeal.main_arg4)
          ∧ r.2.mem ((c.tc : Thread Cert.CompressIdeal.nD Cert.CompressIdeal.τ).loc Cert.CompressIdeal.main_arg5) = m ((c.tc : Thread Cert.CompressIdeal.nD Cert.CompressIdeal.τ).loc Cert.CompressIdeal.main_arg5)
          ∧ r.2.mem ((c.tc : Thread Cert.CompressIdeal.nD Cert.CompressIdeal.τ).loc Cert.CompressIdeal.main_arg6) = m ((c.tc : Thread Cert.CompressIdeal.nD Cert.CompressIdeal.τ).loc Cert.CompressIdeal.main_arg6))
      ∧ θ_run (Cert.CompressRefIdeal.defs (F := Ideal)) (onTc (τ := Cert.CompressRefIdeal.τ) (Cert.CompressRefIdeal.main (F := Ideal))) ⟨m', fun _ => 0, g'⟩ (fun r => ∀ c : Dev Cert.CompressRefIdeal.nD,
          r.2.mem ((c.tc : Thread Cert.CompressRefIdeal.nD Cert.CompressRefIdeal.τ).loc Cert.CompressRefIdeal.main_v53) = v0 c
          ∧ r.2.mem ((c.tc : Thread Cert.CompressRefIdeal.nD Cert.CompressRefIdeal.τ).loc Cert.CompressRefIdeal.main_arg0) = m' ((c.tc : Thread Cert.CompressRefIdeal.nD Cert.CompressRefIdeal.τ).loc Cert.CompressRefIdeal.main_arg0)
          ∧ r.2.mem ((c.tc : Thread Cert.CompressRefIdeal.nD Cert.CompressRefIdeal.τ).loc Cert.CompressRefIdeal.main_arg1) = m' ((c.tc : Thread Cert.CompressRefIdeal.nD Cert.CompressRefIdeal.τ).loc Cert.CompressRefIdeal.main_arg1)
          ∧ r.2.mem ((c.tc : Thread Cert.CompressRefIdeal.nD Cert.CompressRefIdeal.τ).loc Cert.CompressRefIdeal.main_arg2) = m' ((c.tc : Thread Cert.CompressRefIdeal.nD Cert.CompressRefIdeal.τ).loc Cert.CompressRefIdeal.main_arg2)
          ∧ r.2.mem ((c.tc : Thread Cert.CompressRefIdeal.nD Cert.CompressRefIdeal.τ).loc Cert.CompressRefIdeal.main_arg3) = m' ((c.tc : Thread Cert.CompressRefIdeal.nD Cert.CompressRefIdeal.τ).loc Cert.CompressRefIdeal.main_arg3)
          ∧ r.2.mem ((c.tc : Thread Cert.CompressRefIdeal.nD Cert.CompressRefIdeal.τ).loc Cert.CompressRefIdeal.main_arg4) = m' ((c.tc : Thread Cert.CompressRefIdeal.nD Cert.CompressRefIdeal.τ).loc Cert.CompressRefIdeal.main_arg4)
          ∧ r.2.mem ((c.tc : Thread Cert.CompressRefIdeal.nD Cert.CompressRefIdeal.τ).loc Cert.CompressRefIdeal.main_arg5) = m' ((c.tc : Thread Cert.CompressRefIdeal.nD Cert.CompressRefIdeal.τ).loc Cert.CompressRefIdeal.main_arg5)
          ∧ r.2.mem ((c.tc : Thread Cert.CompressRefIdeal.nD Cert.CompressRefIdeal.τ).loc Cert.CompressRefIdeal.main_arg6) = m' ((c.tc : Thread Cert.CompressRefIdeal.nD Cert.CompressRefIdeal.τ).loc Cert.CompressRefIdeal.main_arg6))

def preserves_Slc_SlcIdeal : Prop :=
  IdealRules.named_const.Statement Cert.SlcIdeal.κ "mask" .f32 0xF149F2CA#32 ⊥

def preserves_MLstm_MLstmIdeal : Prop :=
  IdealRules.named_const.Statement Cert.MLstmIdeal.κ "mask" .f32 0xF149F2CA#32 ⊥

def Claim : Prop :=
  ∃ (hSwa : Cert.Swa.Facts) (hSwaIdeal : Cert.SwaIdeal.Facts) (hSwaRefIdeal : Cert.SwaRefIdeal.Facts) (hWin : Cert.Win.Facts) (hWinIdeal : Cert.WinIdeal.Facts) (hWinRefIdeal : Cert.WinRefIdeal.Facts) (hInProj : Cert.InProj.Facts) (hInProjIdeal : Cert.InProjIdeal.Facts) (hInProjRefIdeal : Cert.InProjRefIdeal.Facts) (hOutProj : Cert.OutProj.Facts) (hOutProjIdeal : Cert.OutProjIdeal.Facts) (hOutProjRefIdeal : Cert.OutProjRefIdeal.Facts) (hOutMid : Cert.OutMid.Facts) (hOutMidIdeal : Cert.OutMidIdeal.Facts) (hOutMidRefIdeal : Cert.OutMidRefIdeal.Facts) (hMixA : Cert.MixA.Facts) (hMixAIdeal : Cert.MixAIdeal.Facts) (hMixARefIdeal : Cert.MixARefIdeal.Facts) (hCmp : Cert.Cmp.Facts) (hCmpIdeal : Cert.CmpIdeal.Facts) (hCmpRefIdeal : Cert.CmpRefIdeal.Facts) (hCompress : Cert.Compress.Facts) (hCompressIdeal : Cert.CompressIdeal.Facts) (hCompressRefIdeal : Cert.CompressRefIdeal.Facts) (hSlc : Cert.Slc.Facts) (hSlcIdeal : Cert.SlcIdeal.Facts) (hMLstm : Cert.MLstm.Facts) (hMLstmIdeal : Cert.MLstmIdeal.Facts) (hPre_swa_scores_finite : Cert.Pre_swa_scores_finite.Facts) (hPre_win_scores_finite : Cert.Pre_win_scores_finite.Facts) (hPre_cmp_scores_finite : Cert.Pre_cmp_scores_finite.Facts),
    quiescent_Swa (hSwa := hSwa)
    ∧ quiescent_SwaIdeal (hSwaIdeal := hSwaIdeal)
    ∧ quiescent_SwaIdeal_pre_swa_scores_finite (hSwaIdeal := hSwaIdeal) (hPre_swa_scores_finite := hPre_swa_scores_finite)
    ∧ quiescent_SwaRefIdeal (hSwaRefIdeal := hSwaRefIdeal)
    ∧ quiescent_SwaRefIdeal_pre_swa_scores_finite (hSwaRefIdeal := hSwaRefIdeal) (hPre_swa_scores_finite := hPre_swa_scores_finite)
    ∧ quiescent_Win (hWin := hWin)
    ∧ quiescent_WinIdeal (hWinIdeal := hWinIdeal)
    ∧ quiescent_WinIdeal_pre_win_scores_finite (hWinIdeal := hWinIdeal) (hPre_win_scores_finite := hPre_win_scores_finite)
    ∧ quiescent_WinRefIdeal (hWinRefIdeal := hWinRefIdeal)
    ∧ quiescent_WinRefIdeal_pre_win_scores_finite (hWinRefIdeal := hWinRefIdeal) (hPre_win_scores_finite := hPre_win_scores_finite)
    ∧ quiescent_InProj (hInProj := hInProj)
    ∧ quiescent_InProjIdeal (hInProjIdeal := hInProjIdeal)
    ∧ quiescent_InProjRefIdeal (hInProjRefIdeal := hInProjRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_OutMid (hOutMid := hOutMid)
    ∧ quiescent_OutMidIdeal (hOutMidIdeal := hOutMidIdeal)
    ∧ quiescent_OutMidRefIdeal (hOutMidRefIdeal := hOutMidRefIdeal)
    ∧ quiescent_MixA (hMixA := hMixA)
    ∧ quiescent_MixAIdeal (hMixAIdeal := hMixAIdeal)
    ∧ quiescent_MixARefIdeal (hMixARefIdeal := hMixARefIdeal)
    ∧ quiescent_Cmp (hCmp := hCmp)
    ∧ quiescent_CmpIdeal (hCmpIdeal := hCmpIdeal)
    ∧ quiescent_CmpIdeal_pre_cmp_scores_finite (hCmpIdeal := hCmpIdeal) (hPre_cmp_scores_finite := hPre_cmp_scores_finite)
    ∧ quiescent_CmpRefIdeal (hCmpRefIdeal := hCmpRefIdeal)
    ∧ quiescent_CmpRefIdeal_pre_cmp_scores_finite (hCmpRefIdeal := hCmpRefIdeal) (hPre_cmp_scores_finite := hPre_cmp_scores_finite)
    ∧ quiescent_Compress (hCompress := hCompress)
    ∧ quiescent_CompressIdeal (hCompressIdeal := hCompressIdeal)
    ∧ quiescent_CompressRefIdeal (hCompressRefIdeal := hCompressRefIdeal)
    ∧ quiescent_Slc (hSlc := hSlc)
    ∧ quiescent_SlcIdeal (hSlcIdeal := hSlcIdeal)
    ∧ quiescent_MLstm (hMLstm := hMLstm)
    ∧ quiescent_MLstmIdeal (hMLstmIdeal := hMLstmIdeal)
    ∧ preserves_Swa_SwaIdeal
    ∧ algebraic_SwaIdeal_SwaRefIdeal_pre_swa_scores_finite (hSwaIdeal := hSwaIdeal) (hSwaRefIdeal := hSwaRefIdeal) (hPre_swa_scores_finite := hPre_swa_scores_finite)
    ∧ preserves_Win_WinIdeal
    ∧ algebraic_WinIdeal_WinRefIdeal_pre_win_scores_finite (hWinIdeal := hWinIdeal) (hWinRefIdeal := hWinRefIdeal) (hPre_win_scores_finite := hPre_win_scores_finite)
    ∧ preserves_InProj_InProjIdeal
    ∧ algebraic_InProjIdeal_InProjRefIdeal (hInProjIdeal := hInProjIdeal) (hInProjRefIdeal := hInProjRefIdeal)
    ∧ preserves_OutProj_OutProjIdeal
    ∧ algebraic_OutProjIdeal_OutProjRefIdeal (hOutProjIdeal := hOutProjIdeal) (hOutProjRefIdeal := hOutProjRefIdeal)
    ∧ preserves_OutMid_OutMidIdeal
    ∧ algebraic_OutMidIdeal_OutMidRefIdeal (hOutMidIdeal := hOutMidIdeal) (hOutMidRefIdeal := hOutMidRefIdeal)
    ∧ preserves_MixA_MixAIdeal
    ∧ algebraic_MixAIdeal_MixARefIdeal (hMixAIdeal := hMixAIdeal) (hMixARefIdeal := hMixARefIdeal)
    ∧ preserves_Cmp_CmpIdeal
    ∧ algebraic_CmpIdeal_CmpRefIdeal_pre_cmp_scores_finite (hCmpIdeal := hCmpIdeal) (hCmpRefIdeal := hCmpRefIdeal) (hPre_cmp_scores_finite := hPre_cmp_scores_finite)
    ∧ preserves_Compress_CompressIdeal
    ∧ algebraic_CompressIdeal_CompressRefIdeal (hCompressIdeal := hCompressIdeal) (hCompressRefIdeal := hCompressRefIdeal)
    ∧ preserves_Slc_SlcIdeal
    ∧ preserves_MLstm_MLstmIdeal
-- ==== Pre_cmp_scores_finite.lean ====
abbrev S2x8192x8448 : Shape := ⟨3, ![2, 8192, 8448]⟩
abbrev S2x2x512x64 : Shape := ⟨4, ![2, 2, 512, 64]⟩
abbrev S2x8192x512 : Shape := ⟨3, ![2, 8192, 512]⟩
abbrev S_ : Shape := ⟨0, ![]⟩
abbrev S2x2x511x64 : Shape := ⟨4, ![2, 2, 511, 64]⟩

class Facts : Prop where
  slices_S2x8192x8448_S2x8192x512_0_0_5120 : S2x8192x8448.Slices ![0, 0, 5120] S2x8192x512
  bcast_S_S2x8192x512 : S_.BroadcastsInDim S2x8192x512 (![] : Fin 0 → Fin S2x8192x512.rank)
  slices_S2x2x512x64_S2x2x511x64_0_0_0_0 : S2x2x512x64.Slices ![0, 0, 0, 0] S2x2x511x64
  bitsLt_bf16_f32 : FTy.bits .bf16 < FTy.bits .f32
  bcast_S_S2x2x511x64 : S_.BroadcastsInDim S2x2x511x64 (![] : Fin 0 → Fin S2x2x511x64.rank)

variable [Facts]

def fn {F : FTy → Type} [FloatOps F] (main_arg0 : FVec F S2x8192x8448 .f32) (main_arg1 : FVec F S2x2x512x64 .bf16) (main_arg2 : FVec F S2x2x512x64 .bf16) : IVec S2x8192x512 1 × IVec S2x2x511x64 1 :=
  let main_v0 : FVec F S2x8192x512 .f32 := (extractStridedSlice S2x8192x512 ![0, 0, 5120] · slices_S2x8192x8448_S2x8192x512_0_0_5120) main_arg0
  let main_v1 : FVec F S2x8192x512 .f32 := Host.absf main_v0
  let main_cst : FVec F S_ .f32 := constant S_ .f32 0x7F800000#32
  let main_v2 : FVec F S2x8192x512 .f32 := broadcastInDim S2x8192x512 ![] bcast_S_S2x8192x512 main_cst
  let main_v3 : IVec S2x8192x512 1 := cmpf .olt main_v1 main_v2
  let main_v4 : FVec F S2x2x511x64 .bf16 := (extractStridedSlice S2x2x511x64 ![0, 0, 0, 0] · slices_S2x2x512x64_S2x2x511x64_0_0_0_0) main_arg1
  let main_v5 : FVec F S2x2x511x64 .f32 := (extf .f32 · bitsLt_bf16_f32) main_v4
  let main_v6 : FVec F S2x2x511x64 .f32 := Host.absf main_v5
  let main_cst_0 : FVec F S_ .f32 := constant S_ .f32 0x7F800000#32
  let main_v7 : FVec F S2x2x511x64 .f32 := broadcastInDim S2x2x511x64 ![] bcast_S_S2x2x511x64 main_cst_0
  let main_v8 : IVec S2x2x511x64 1 := cmpf .olt main_v6 main_v7
  (main_v3, main_v8)
-- ==== Pre_swa_scores_finite.lean ====
abbrev S2x8192x8448 : Shape := ⟨3, ![2, 8192, 8448]⟩
abbrev S8 : Shape := ⟨1, ![8]⟩
abbrev S2x8192x512 : Shape := ⟨3, ![2, 8192, 512]⟩
abbrev S_ : Shape := ⟨0, ![]⟩
abbrev S2x8192x128 : Shape := ⟨3, ![2, 8192, 128]⟩

class Facts : Prop where
  slices_S2x8192x8448_S2x8192x512_0_0_6144 : S2x8192x8448.Slices ![0, 0, 6144] S2x8192x512
  bcast_S_S2x8192x512 : S_.BroadcastsInDim S2x8192x512 (![] : Fin 0 → Fin S2x8192x512.rank)
  slices_S2x8192x8448_S2x8192x128_0_0_7936 : S2x8192x8448.Slices ![0, 0, 7936] S2x8192x128
  bcast_S_S2x8192x128 : S_.BroadcastsInDim S2x8192x128 (![] : Fin 0 → Fin S2x8192x128.rank)
  bcast_S_S8 : S_.BroadcastsInDim S8 (![] : Fin 0 → Fin S8.rank)

variable [Facts]

def fn {F : FTy → Type} [FloatOps F] (main_arg0 : FVec F S2x8192x8448 .f32) (main_arg1 : FVec F S8 .f32) : IVec S2x8192x512 1 × IVec S2x8192x128 1 × IVec S8 1 :=
  let main_v0 : FVec F S2x8192x512 .f32 := (extractStridedSlice S2x8192x512 ![0, 0, 6144] · slices_S2x8192x8448_S2x8192x512_0_0_6144) main_arg0
  let main_v1 : FVec F S2x8192x512 .f32 := Host.absf main_v0
  let main_cst : FVec F S_ .f32 := constant S_ .f32 0x7F800000#32
  let main_v2 : FVec F S2x8192x512 .f32 := broadcastInDim S2x8192x512 ![] bcast_S_S2x8192x512 main_cst
  let main_v3 : IVec S2x8192x512 1 := cmpf .olt main_v1 main_v2
  let main_v4 : FVec F S2x8192x128 .f32 := (extractStridedSlice S2x8192x128 ![0, 0, 7936] · slices_S2x8192x8448_S2x8192x128_0_0_7936) main_arg0
  let main_v5 : FVec F S2x8192x128 .f32 := Host.absf main_v4
  let main_cst_0 : FVec F S_ .f32 := constant S_ .f32 0x7F800000#32
  let main_v6 : FVec F S2x8192x128 .f32 := broadcastInDim S2x8192x128 ![] bcast_S_S2x8192x128 main_cst_0
  let main_v7 : IVec S2x8192x128 1 := cmpf .olt main_v5 main_v6
  let main_cst_1 : FVec F S_ .f32 := constant S_ .f32 0x7F800000#32
  let main_v8 : FVec F S8 .f32 := broadcastInDim S8 ![] bcast_S_S8 main_cst_1
  let main_v9 : IVec S8 1 := cmpf .olt main_arg1 main_v8
  (main_v3, main_v7, main_v9)
-- ==== Pre_win_scores_finite.lean ====
abbrev S2x8192x8448 : Shape := ⟨3, ![2, 8192, 8448]⟩
abbrev S2x8192x512 : Shape := ⟨3, ![2, 8192, 512]⟩
abbrev S_ : Shape := ⟨0, ![]⟩
abbrev S2x8192x128 : Shape := ⟨3, ![2, 8192, 128]⟩

class Facts : Prop where
  slices_S2x8192x8448_S2x8192x512_0_0_5120 : S2x8192x8448.Slices ![0, 0, 5120] S2x8192x512
  bcast_S_S2x8192x512 : S_.BroadcastsInDim S2x8192x512 (![] : Fin 0 → Fin S2x8192x512.rank)
  slices_S2x8192x8448_S2x8192x128_0_0_7680 : S2x8192x8448.Slices ![0, 0, 7680] S2x8192x128
  bcast_S_S2x8192x128 : S_.BroadcastsInDim S2x8192x128 (![] : Fin 0 → Fin S2x8192x128.rank)

variable [Facts]

def fn {F : FTy → Type} [FloatOps F] (main_arg0 : FVec F S2x8192x8448 .f32) : IVec S2x8192x512 1 × IVec S2x8192x128 1 :=
  let main_v0 : FVec F S2x8192x512 .f32 := (extractStridedSlice S2x8192x512 ![0, 0, 5120] · slices_S2x8192x8448_S2x8192x512_0_0_5120) main_arg0
  let main_v1 : FVec F S2x8192x512 .f32 := Host.absf main_v0
  let main_cst : FVec F S_ .f32 := constant S_ .f32 0x7F800000#32
  let main_v2 : FVec F S2x8192x512 .f32 := broadcastInDim S2x8192x512 ![] bcast_S_S2x8192x512 main_cst
  let main_v3 : IVec S2x8192x512 1 := cmpf .olt main_v1 main_v2
  let main_v4 : FVec F S2x8192x128 .f32 := (extractStridedSlice S2x8192x128 ![0, 0, 7680] · slices_S2x8192x8448_S2x8192x128_0_0_7680) main_arg0
  let main_v5 : FVec F S2x8192x128 .f32 := Host.absf main_v4
  let main_cst_0 : FVec F S_ .f32 := constant S_ .f32 0x7F800000#32
  let main_v6 : FVec F S2x8192x128 .f32 := broadcastInDim S2x8192x128 ![] bcast_S_S2x8192x128 main_cst_0
  let main_v7 : IVec S2x8192x128 1 := cmpf .olt main_v5 main_v6
  (main_v3, main_v7)
-- ==== Swa.lean ====
abbrev S2x8192x8448 : Shape := ⟨3, ![2, 8192, 8448]⟩
abbrev S8 : Shape := ⟨1, ![8]⟩
abbrev S2x8192x128 : Shape := ⟨3, ![2, 8192, 128]⟩
abbrev S2x8192x2x64 : Shape := ⟨4, ![2, 8192, 2, 64]⟩
abbrev S2x2x8192x64 : Shape := ⟨4, ![2, 2, 8192, 64]⟩
abbrev S_ : Shape := ⟨0, ![]⟩
abbrev S2x2x8320x64 : Shape := ⟨4, ![2, 2, 8320, 64]⟩
abbrev S2x4x1x1 : Shape := ⟨4, ![2, 4, 1, 1]⟩
abbrev S2x4x1x128 : Shape := ⟨4, ![2, 4, 1, 128]⟩
abbrev S2x8192x512 : Shape := ⟨3, ![2, 8192, 512]⟩
abbrev S1x128x256 : Shape := ⟨3, ![1, 128, 256]⟩
abbrev S1x1x8320x64 : Shape := ⟨4, ![1, 1, 8320, 64]⟩
abbrev S1x4x1x128 : Shape := ⟨4, ![1, 4, 1, 128]⟩
abbrev S1x1x256x64 : Shape := ⟨4, ![1, 1, 256, 64]⟩
abbrev S256x64 : Shape := ⟨2, ![256, 64]⟩
abbrev S1x256 : Shape := ⟨2, ![1, 256]⟩
abbrev S128x1 : Shape := ⟨2, ![128, 1]⟩
abbrev S128x256 : Shape := ⟨2, ![128, 256]⟩
abbrev S1x128x64 : Shape := ⟨3, ![1, 128, 64]⟩
abbrev S128x64 : Shape := ⟨2, ![128, 64]⟩
abbrev S1x1x1x128 : Shape := ⟨4, ![1, 1, 1, 128]⟩
abbrev S1x128 : Shape := ⟨2, ![1, 128]⟩
abbrev S1x1 : Shape := ⟨2, ![1, 1]⟩
abbrev S128 : Shape := ⟨1, ![128]⟩

abbrev nBuf : Space → Nat
  | .hbm => 34
  | .vmem => 14
  | .smem => 0
  | _ => 0

abbrev bufTy : (tb : Table) → Fin (tcTables nBuf tb) → BufTy
  | .hbm, ⟨0, _⟩ => ⟨S2x8192x8448, .f32⟩
  | .hbm, ⟨1, _⟩ => ⟨S8, .f32⟩
  | .hbm, ⟨2, _⟩ => ⟨S2x8192x128, .f32⟩
  | .hbm, ⟨3, _⟩ => ⟨S2x8192x128, .f32⟩
  | .hbm, ⟨4, _⟩ => ⟨S2x8192x2x64, .f32⟩
  | .hbm, ⟨5, _⟩ => ⟨S2x2x8192x64, .f32⟩
  | .hbm, ⟨6, _⟩ => ⟨S2x2x8192x64, .bf16⟩
  | .hbm, ⟨7, _⟩ => ⟨S_, .i32⟩
  | .hbm, ⟨8, _⟩ => ⟨S_, .bf16⟩
  | .hbm, ⟨9, _⟩ => ⟨S2x2x8320x64, .bf16⟩
  | .hbm, ⟨10, _⟩ => ⟨S2x8192x2x64, .f32⟩
  | .hbm, ⟨11, _⟩ => ⟨S2x2x8192x64, .f32⟩
  | .hbm, ⟨12, _⟩ => ⟨S2x2x8192x64, .bf16⟩
  | .hbm, ⟨13, _⟩ => ⟨S_, .i32⟩
  | .hbm, ⟨14, _⟩ => ⟨S_, .bf16⟩
  | .hbm, ⟨15, _⟩ => ⟨S2x2x8320x64, .bf16⟩
  | .hbm, ⟨16, _⟩ => ⟨S8, .f32⟩
  | .hbm, ⟨17, _⟩ => ⟨S_, .f32⟩
  | .hbm, ⟨18, _⟩ => ⟨S8, .f32⟩
  | .hbm, ⟨19, _⟩ => ⟨S8, .f32⟩
  | .hbm, ⟨20, _⟩ => ⟨S_, .f32⟩
  | .hbm, ⟨21, _⟩ => ⟨S8, .f32⟩
  | .hbm, ⟨22, _⟩ => ⟨S8, .f32⟩
  | .hbm, ⟨23, _⟩ => ⟨S_, .f32⟩
  | .hbm, ⟨24, _⟩ => ⟨S8, .f32⟩
  | .hbm, ⟨25, _⟩ => ⟨S8, .f32⟩
  | .hbm, ⟨26, _⟩ => ⟨S_, .f32⟩
  | .hbm, ⟨27, _⟩ => ⟨S8, .f32⟩
  | .hbm, ⟨28, _⟩ => ⟨S8, .f32⟩
  | .hbm, ⟨29, _⟩ => ⟨S2x4x1x1, .f32⟩
  | .hbm, ⟨30, _⟩ => ⟨S2x4x1x128, .f32⟩
  | .hbm, ⟨31, _⟩ => ⟨S2x4x1x1, .f32⟩
  | .hbm, ⟨32, _⟩ => ⟨S2x4x1x128, .f32⟩
  | .hbm, ⟨33, _⟩ => ⟨S2x8192x512, .bf16⟩
  | .local _ .vmem, ⟨0, _⟩ => ⟨S1x128x256, .f32⟩
  | .local _ .vmem, ⟨1, _⟩ => ⟨S1x128x256, .f32⟩
  | .local _ .vmem, ⟨2, _⟩ => ⟨S1x1x8320x64, .bf16⟩
  | .local _ .vmem, ⟨3, _⟩ => ⟨S1x1x8320x64, .bf16⟩
  | .local _ .vmem, ⟨4, _⟩ => ⟨S1x1x8320x64, .bf16⟩
  | .local _ .vmem, ⟨5, _⟩ => ⟨S1x1x8320x64, .bf16⟩
  | .local _ .vmem, ⟨6, _⟩ => ⟨S1x4x1x128, .f32⟩
  | .local _ .vmem, ⟨7, _⟩ => ⟨S1x4x1x128, .f32⟩
  | .local _ .vmem, ⟨8, _⟩ => ⟨S1x4x1x128, .f32⟩
  | .local _ .vmem, ⟨9, _⟩ => ⟨S1x4x1x128, .f32⟩
  | .local _ .vmem, ⟨10, _⟩ => ⟨S1x128x256, .f32⟩
  | .local _ .vmem, ⟨11, _⟩ => ⟨S1x128x256, .f32⟩
  | .local _ .vmem, ⟨12, _⟩ => ⟨S1x128x256, .bf16⟩
  | .local _ .vmem, ⟨13, _⟩ => ⟨S1x128x256, .bf16⟩
  | _, _ => ⟨S2x8192x8448, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_call0_v0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c_0 : Ref sig .tc := ⟨.hbm, 13, rfl⟩
abbrev main_call1_v0 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![2, 2, 64], ![false, false, false]⟩

def k0_mult1 (i : grid0.Coords) : BitVec 32 :=
  let arg2 : BitVec 32 := BitVec.ofNat 32 (i 2).val
  let c128_i32 : BitVec 32 := 128#32
  let v0 : BitVec 32 := Scalar.muli arg2 c128_i32
  v0
def k0_off1 (i : grid0.Coords) : Fin 4 → Nat :=
  let c0 : Index := 0#32
  let c0_0 : Index := 0#32
  let arg2 : BitVec 32 := BitVec.ofNat 32 (i 2).val
  let c128_i32 : BitVec 32 := 128#32
  let v0 : BitVec 32 := Scalar.muli arg2 c128_i32
  let v1 : BitVec 32 := v0
  let v2 : Index := Scalar.indexCast v1
  let c0_1 : Index := 0#32
  ![0, 0, v2.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c24_i32 : BitVec 32 := 24#32
  let v0 : BitVec 32 := Scalar.addi c24_i32 arg1
  let c0_i32 : BitVec 32 := 0#32
  ![arg0.toNat, arg2.toNat, v0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c26_i32 : BitVec 32 := 26#32
  let v0 : BitVec 32 := Scalar.addi c26_i32 arg1
  let c0_i32 : BitVec 32 := 0#32
  ![arg0.toNat, arg2.toNat, v0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x8320x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x8320x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x4x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x4x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x128x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== SwaIdeal.lean ====
variable {F : FTy → Type} [FloatOps F] [Named F]
def κ : String → Option EReal := fun
  | "mask" => some ⊥
  | _ => none
-- ==== SwaRefIdeal.lean ====
abbrev S2x8192x8448 : Shape := ⟨3, ![2, 8192, 8448]⟩
abbrev S8 : Shape := ⟨1, ![8]⟩
abbrev S2x8192x512 : Shape := ⟨3, ![2, 8192, 512]⟩
abbrev S2x8192x8x64 : Shape := ⟨4, ![2, 8192, 8, 64]⟩
abbrev S2x8192x128 : Shape := ⟨3, ![2, 8192, 128]⟩
abbrev S2x8192x2x64 : Shape := ⟨4, ![2, 8192, 2, 64]⟩
abbrev S_ : Shape := ⟨0, ![]⟩
abbrev S2x8192x2x4x64 : Shape := ⟨5, ![2, 8192, 2, 4, 64]⟩
abbrev S8192x8192 : Shape := ⟨2, ![8192, 8192]⟩
abbrev S2x2x8192x8192x4 : Shape := ⟨5, ![2, 2, 8192, 8192, 4]⟩
abbrev S2x2x4x8192x8192 : Shape := ⟨5, ![2, 2, 4, 8192, 8192]⟩
abbrev S1x2x4x1x1 : Shape := ⟨5, ![1, 2, 4, 1, 1]⟩
abbrev S1x1x1x8192x8192 : Shape := ⟨5, ![1, 1, 1, 8192, 8192]⟩
abbrev S1x2x4x8192x8192 : Shape := ⟨5, ![1, 2, 4, 8192, 8192]⟩
abbrev S2x2x4x8192 : Shape := ⟨4, ![2, 2, 4, 8192]⟩
abbrev S2x2x4x8192x1 : Shape := ⟨5, ![2, 2, 4, 8192, 1]⟩
abbrev S2x2x64x4x8192 : Shape := ⟨5, ![2, 2, 64, 4, 8192]⟩

abbrev nBuf : Space → Nat
  | .hbm => 83
  | .vmem => 0
  | .smem => 0
  | _ => 0

abbrev bufTy : (tb : Table) → Fin (tcTables nBuf tb) → BufTy
  | .hbm, ⟨0, _⟩ => ⟨S2x8192x8448, .f32⟩
  | .hbm, ⟨1, _⟩ => ⟨S8, .f32⟩
  | .hbm, ⟨2, _⟩ => ⟨S2x8192x512, .f32⟩
  | .hbm, ⟨3, _⟩ => ⟨S2x8192x8x64, .f32⟩
  | .hbm, ⟨4, _⟩ => ⟨S2x8192x512, .f32⟩
  | .hbm, ⟨5, _⟩ => ⟨S2x8192x128, .f32⟩
  | .hbm, ⟨6, _⟩ => ⟨S2x8192x2x64, .f32⟩
  | .hbm, ⟨7, _⟩ => ⟨S2x8192x128, .f32⟩
  | .hbm, ⟨8, _⟩ => ⟨S2x8192x2x64, .f32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S_, .f32⟩
  | .hbm, ⟨17, _⟩ => ⟨S8, .f32⟩
  | .hbm, ⟨18, _⟩ => ⟨S8, .f32⟩
  | .hbm, ⟨19, _⟩ => ⟨S_, .f32⟩
  | .hbm, ⟨20, _⟩ => ⟨S8, .f32⟩
  | .hbm, ⟨21, _⟩ => ⟨S8, .f32⟩
  | .hbm, ⟨22, _⟩ => ⟨S2x8192x2x4x64, .f32⟩
  | .hbm, ⟨23, _⟩ => ⟨S8192x8192, .i32⟩
  | .hbm, ⟨24, _⟩ => ⟨S8192x8192, .i32⟩
  | .hbm, ⟨25, _⟩ => ⟨S8192x8192, .i32⟩
  | .hbm, ⟨26, _⟩ => ⟨S_, .i32⟩
  | .hbm, ⟨27, _⟩ => ⟨S8192x8192, .i32⟩
  | .hbm, ⟨28, _⟩ => ⟨S8192x8192, .i1⟩
  | .hbm, ⟨29, _⟩ => ⟨S_, .i32⟩
  | .hbm, ⟨30, _⟩ => ⟨S8192x8192, .i32⟩
  | .hbm, ⟨31, _⟩ => ⟨S8192x8192, .i1⟩
  | .hbm, ⟨32, _⟩ => ⟨S8192x8192, .i1⟩
  | .hbm, ⟨33, _⟩ => ⟨S2x2x8192x8192x4, .f32⟩
  | .hbm, ⟨34, _⟩ => ⟨S2x2x4x8192x8192, .f32⟩
  | .hbm, ⟨35, _⟩ => ⟨S_, .f32⟩
  | .hbm, ⟨36, _⟩ => ⟨S2x2x4x8192x8192, .f32⟩
  | .hbm, ⟨37, _⟩ => ⟨S2x2x4x8192x8192, .f32⟩
  | .hbm, ⟨38, _⟩ => ⟨S1x2x4x1x1, .f32⟩
  | .hbm, ⟨39, _⟩ => ⟨S8192x8192, .f32⟩
  | .hbm, ⟨40, _⟩ => ⟨S1x1x1x8192x8192, .f32⟩
  | .hbm, ⟨41, _⟩ => ⟨S1x2x4x8192x8192, .f32⟩
  | .hbm, ⟨42, _⟩ => ⟨S1x2x4x8192x8192, .f32⟩
  | .hbm, ⟨43, _⟩ => ⟨S1x2x4x8192x8192, .f32⟩
  | .hbm, ⟨44, _⟩ => ⟨S2x2x4x8192x8192, .f32⟩
  | .hbm, ⟨45, _⟩ => ⟨S2x2x4x8192x8192, .f32⟩
  | .hbm, ⟨46, _⟩ => ⟨S_, .f32⟩
  | .hbm, ⟨47, _⟩ => ⟨S_, .f32⟩
  | .hbm, ⟨48, _⟩ => ⟨S2x2x4x8192x8192, .i1⟩
  | .hbm, ⟨49, _⟩ => ⟨S2x2x4x8192x8192, .f32⟩
  | .hbm, ⟨50, _⟩ => ⟨S2x2x4x8192x8192, .f32⟩
  | .hbm, ⟨51, _⟩ => ⟨S_, .f32⟩
  | .hbm, ⟨52, _⟩ => ⟨S2x2x4x8192, .f32⟩
  | .hbm, ⟨53, _⟩ => ⟨S2x2x4x8192x1, .f32⟩
  | .hbm, ⟨54, _⟩ => ⟨S1x2x4x1x1, .f32⟩
  | .hbm, ⟨55, _⟩ => ⟨S2x2x4x8192x1, .f32⟩
  | .hbm, ⟨56, _⟩ => ⟨S2x2x4x8192x1, .f32⟩
  | .hbm, ⟨57, _⟩ => ⟨S2x2x4x8192x8192, .f32⟩
  | .hbm, ⟨58, _⟩ => ⟨S2x2x4x8192x8192, .f32⟩
  | .hbm, ⟨59, _⟩ => ⟨S2x2x4x8192x8192, .f32⟩
  | .hbm, ⟨60, _⟩ => ⟨S_, .f32⟩
  | .hbm, ⟨61, _⟩ => ⟨S2x2x4x8192, .f32⟩
  | .hbm, ⟨62, _⟩ => ⟨S2x2x4x8192x1, .f32⟩
  | .hbm, ⟨63, _⟩ => ⟨S2x2x4x8192x1, .f32⟩
  | .hbm, ⟨64, _⟩ => ⟨S2x2x4x8192x1, .f32⟩
  | .hbm, ⟨65, _⟩ => ⟨S2x2x4x8192x1, .f32⟩
  | .hbm, ⟨66, _⟩ => ⟨S2x2x4x8192x1, .f32⟩
  | .hbm, ⟨67, _⟩ => ⟨S2x2x4x8192x8192, .f32⟩
  | .hbm, ⟨68, _⟩ => ⟨S2x2x4x8192x8192, .f32⟩
  | .hbm, ⟨69, _⟩ => ⟨S2x2x64x4x8192, .f32⟩
  | .hbm, ⟨70, _⟩ => ⟨S2x8192x2x4x64, .f32⟩
  | .hbm, ⟨71, _⟩ => ⟨S2x8192x512, .f32⟩
  | .hbm, ⟨72, _⟩ => ⟨S2x8192x512, .f32⟩
  | .hbm, ⟨73, _⟩ => ⟨S2x8192x512, .f32⟩
  | .hbm, ⟨74, _⟩ => ⟨S_, .f32⟩
  | .hbm, ⟨75, _⟩ => ⟨S2x8192x512, .f32⟩
  | .hbm, ⟨76, _⟩ => ⟨S2x8192x512, .f32⟩
  | .hbm, ⟨77, _⟩ => ⟨S_, .f32⟩
  | .hbm, ⟨78, _⟩ => ⟨S2x8192x512, .f32⟩
  | .hbm, ⟨79, _⟩ => ⟨S2x8192x512, .f32⟩
  | .hbm, ⟨80, _⟩ => ⟨S2x8192x512, .f32⟩
  | .hbm, ⟨81, _⟩ => ⟨S2x8192x512, .f32⟩
  | .hbm, ⟨82, _⟩ => ⟨S2x8192x512, .bf16⟩
  | _, _ => ⟨S2x8192x8448, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_c : Ref sig .tc := ⟨.hbm, 26, rfl⟩
abbrev main_v20 : Ref sig .tc := ⟨.hbm, 27, rfl⟩
abbrev main_v21 : Ref sig .tc := ⟨.hbm, 28, rfl⟩
abbrev main_c_3 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_4 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_5 : Ref sig .tc := ⟨.hbm, 46, rfl⟩
abbrev main_call0_v0 : Ref sig .tc := ⟨.hbm, 47, rfl⟩
abbrev main_call0_v1 : Ref sig .tc := ⟨.hbm, 48, rfl⟩
abbrev main_call0_v2 : Ref sig .tc := ⟨.hbm, 49, rfl⟩
abbrev main_v37 : Ref sig .tc := ⟨.hbm, 50, rfl⟩
abbrev main_cst_6 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_7 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_call1_v0 : Ref sig .tc := ⟨.hbm, 72, rfl⟩
abbrev main_call1_v1 : Ref sig .tc := ⟨.hbm, 73, rfl⟩
abbrev main_call1_cst : Ref sig .tc := ⟨.hbm, 74, rfl⟩
abbrev main_call1_v2 : Ref sig .tc := ⟨.hbm, 75, rfl⟩
abbrev main_call1_v3 : Ref sig .tc := ⟨.hbm, 76, rfl⟩
abbrev main_call1_cst_0 : Ref sig .tc := ⟨.hbm, 77, rfl⟩
abbrev main_call1_v4 : Ref sig .tc := ⟨.hbm, 78, rfl⟩
abbrev main_call1_v5 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩

abbrev nD : Nat := 1
abbrev τ : Topo := Topo.v7x

variable {F : FTy → Type} [FloatOps F]
-- ==== Win.lean ====
abbrev S2x8192x8448 : Shape := ⟨3, ![2, 8192, 8448]⟩
abbrev S2x8192x128 : Shape := ⟨3, ![2, 8192, 128]⟩
abbrev S2x8192x2x64 : Shape := ⟨4, ![2, 8192, 2, 64]⟩
abbrev S2x2x8192x64 : Shape := ⟨4, ![2, 2, 8192, 64]⟩
abbrev S_ : Shape := ⟨0, ![]⟩
abbrev S2x2x8704x64 : Shape := ⟨4, ![2, 2, 8704, 64]⟩
abbrev S8 : Shape := ⟨1, ![8]⟩
abbrev S2x4x1x1 : Shape := ⟨4, ![2, 4, 1, 1]⟩
abbrev S2x4x1x128 : Shape := ⟨4, ![2, 4, 1, 128]⟩
abbrev S2x8192x512 : Shape := ⟨3, ![2, 8192, 512]⟩
abbrev S1x128x256 : Shape := ⟨3, ![1, 128, 256]⟩
abbrev S1x1x8704x64 : Shape := ⟨4, ![1, 1, 8704, 64]⟩
abbrev S1x4x1x128 : Shape := ⟨4, ![1, 4, 1, 128]⟩
abbrev S1x1x640x64 : Shape := ⟨4, ![1, 1, 640, 64]⟩
abbrev S640x64 : Shape := ⟨2, ![640, 64]⟩
abbrev S1x640 : Shape := ⟨2, ![1, 640]⟩
abbrev S128x1 : Shape := ⟨2, ![128, 1]⟩
abbrev S128x640 : Shape := ⟨2, ![128, 640]⟩
abbrev S1x128x64 : Shape := ⟨3, ![1, 128, 64]⟩
abbrev S128x64 : Shape := ⟨2, ![128, 64]⟩
abbrev S1x1x1x128 : Shape := ⟨4, ![1, 1, 1, 128]⟩
abbrev S1x128 : Shape := ⟨2, ![1, 128]⟩
abbrev S1x1 : Shape := ⟨2, ![1, 1]⟩
abbrev S128 : Shape := ⟨1, ![128]⟩

abbrev nBuf : Space → Nat
  | .hbm => 31
  | .vmem => 10
  | .smem => 0
  | _ => 0

abbrev bufTy : (tb : Table) → Fin (tcTables nBuf tb) → BufTy
  | .hbm, ⟨0, _⟩ => ⟨S2x8192x8448, .f32⟩
  | .hbm, ⟨1, _⟩ => ⟨S2x8192x128, .f32⟩
  | .hbm, ⟨2, _⟩ => ⟨S2x8192x128, .f32⟩
  | .hbm, ⟨3, _⟩ => ⟨S2x8192x2x64, .f32⟩
  | .hbm, ⟨4, _⟩ => ⟨S2x2x8192x64, .f32⟩
  | .hbm, ⟨5, _⟩ => ⟨S2x2x8192x64, .bf16⟩
  | .hbm, ⟨6, _⟩ => ⟨S_, .i32⟩
  | .hbm, ⟨7, _⟩ => ⟨S_, .bf16⟩
  | .hbm, ⟨8, _⟩ => ⟨S2x2x8704x64, .bf16⟩
  | .hbm, ⟨9, _⟩ => ⟨S2x8192x2x64, .f32⟩
  | .hbm, ⟨10, _⟩ => ⟨S2x2x8192x64, .f32⟩
  | .hbm, ⟨11, _⟩ => ⟨S2x2x8192x64, .bf16⟩
  | .hbm, ⟨12, _⟩ => ⟨S_, .i32⟩
  | .hbm, ⟨13, _⟩ => ⟨S_, .bf16⟩
  | .hbm, ⟨14, _⟩ => ⟨S2x2x8704x64, .bf16⟩
  | .hbm, ⟨15, _⟩ => ⟨S8, .f32⟩
  | .hbm, ⟨16, _⟩ => ⟨S_, .f32⟩
  | .hbm, ⟨17, _⟩ => ⟨S8, .f32⟩
  | .hbm, ⟨18, _⟩ => ⟨S8, .f32⟩
  | .hbm, ⟨19, _⟩ => ⟨S_, .f32⟩
  | .hbm, ⟨20, _⟩ => ⟨S8, .f32⟩
  | .hbm, ⟨21, _⟩ => ⟨S8, .f32⟩
  | .hbm, ⟨22, _⟩ => ⟨S_, .f32⟩
  | .hbm, ⟨23, _⟩ => ⟨S8, .f32⟩
  | .hbm, ⟨24, _⟩ => ⟨S8, .f32⟩
  | .hbm, ⟨25, _⟩ => ⟨S_, .f32⟩
  | .hbm, ⟨26, _⟩ => ⟨S8, .f32⟩
  | .hbm, ⟨27, _⟩ => ⟨S8, .f32⟩
  | .hbm, ⟨28, _⟩ => ⟨S2x4x1x1, .f32⟩
  | .hbm, ⟨29, _⟩ => ⟨S2x4x1x128, .f32⟩
  | .hbm, ⟨30, _⟩ => ⟨S2x8192x512, .f32⟩
  | .local _ .vmem, ⟨0, _⟩ => ⟨S1x128x256, .f32⟩
  | .local _ .vmem, ⟨1, _⟩ => ⟨S1x128x256, .f32⟩
  | .local _ .vmem, ⟨2, _⟩ => ⟨S1x1x8704x64, .bf16⟩
  | .local _ .vmem, ⟨3, _⟩ => ⟨S1x1x8704x64, .bf16⟩
  | .local _ .vmem, ⟨4, _⟩ => ⟨S1x1x8704x64, .bf16⟩
  | .local _ .vmem, ⟨5, _⟩ => ⟨S1x1x8704x64, .bf16⟩
  | .local _ .vmem, ⟨6, _⟩ => ⟨S1x4x1x128, .f32⟩
  | .local _ .vmem, ⟨7, _⟩ => ⟨S1x4x1x128, .f32⟩
  | .local _ .vmem, ⟨8, _⟩ => ⟨S1x128x256, .f32⟩
  | .local _ .vmem, ⟨9, _⟩ => ⟨S1x128x256, .f32⟩
  | _, _ => ⟨S2x8192x8448, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_c : Ref sig .tc := ⟨.hbm, 6, rfl⟩
abbrev main_call0_v0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c_0 : Ref sig .tc := ⟨.hbm, 12, rfl⟩
abbrev main_call1_v0 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 2, 64], ![false, false, false]⟩

def k0_mult1 (i : grid0.Coords) : BitVec 32 :=
  let arg2 : BitVec 32 := BitVec.ofNat 32 (i 2).val
  let c128_i32 : BitVec 32 := 128#32
  let v0 : BitVec 32 := Scalar.muli arg2 c128_i32
  v0
def k0_off1 (i : grid0.Coords) : Fin 4 → Nat :=
  let c0 : Index := 0#32
  let c0_0 : Index := 0#32
  let arg2 : BitVec 32 := BitVec.ofNat 32 (i 2).val
  let c128_i32 : BitVec 32 := 128#32
  let v0 : BitVec 32 := Scalar.muli arg2 c128_i32
  let v1 : BitVec 32 := v0
  let v2 : Index := Scalar.indexCast v1
  let c0_1 : Index := 0#32
  ![0, 0, v2.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c20_i32 : BitVec 32 := 20#32
  let v0 : BitVec 32 := Scalar.addi c20_i32 arg1
  let c0_i32 : BitVec 32 := 0#32
  ![arg0.toNat, arg2.toNat, v0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x8704x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x8704x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x4x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== WinIdeal.lean ====
variable {F : FTy → Type} [FloatOps F] [Named F]
def κ : String → Option EReal := fun
  | "mask" => some ⊥
  | _ => none
-- ==== WinRefIdeal.lean ====
abbrev S2x8192x8448 : Shape := ⟨3, ![2, 8192, 8448]⟩
abbrev S2x8192x512 : Shape := ⟨3, ![2, 8192, 512]⟩
abbrev S2x8192x8x64 : Shape := ⟨4, ![2, 8192, 8, 64]⟩
abbrev S2x8192x128 : Shape := ⟨3, ![2, 8192, 128]⟩
abbrev S2x8192x2x64 : Shape := ⟨4, ![2, 8192, 2, 64]⟩
abbrev S8 : Shape := ⟨1, ![8]⟩
abbrev S_ : Shape := ⟨0, ![]⟩
abbrev S2x8192x2x4x64 : Shape := ⟨5, ![2, 8192, 2, 4, 64]⟩
abbrev S8192x8192 : Shape := ⟨2, ![8192, 8192]⟩
abbrev S2x2x8192x8192x4 : Shape := ⟨5, ![2, 2, 8192, 8192, 4]⟩
abbrev S2x2x4x8192x8192 : Shape := ⟨5, ![2, 2, 4, 8192, 8192]⟩
abbrev S1x2x4x1x1 : Shape := ⟨5, ![1, 2, 4, 1, 1]⟩
abbrev S1x1x1x8192x8192 : Shape := ⟨5, ![1, 1, 1, 8192, 8192]⟩
abbrev S1x2x4x8192x8192 : Shape := ⟨5, ![1, 2, 4, 8192, 8192]⟩
abbrev S2x2x4x8192 : Shape := ⟨4, ![2, 2, 4, 8192]⟩
abbrev S2x2x4x8192x1 : Shape := ⟨5, ![2, 2, 4, 8192, 1]⟩
abbrev S2x2x64x4x8192 : Shape := ⟨5, ![2, 2, 64, 4, 8192]⟩

abbrev nBuf : Space → Nat
  | .hbm => 63
  | .vmem => 0
  | .smem => 0
  | _ => 0

abbrev bufTy : (tb : Table) → Fin (tcTables nBuf tb) → BufTy
  | .hbm, ⟨0, _⟩ => ⟨S2x8192x8448, .f32⟩
  | .hbm, ⟨1, _⟩ => ⟨S2x8192x512, .f32⟩
  | .hbm, ⟨2, _⟩ => ⟨S2x8192x8x64, .f32⟩
  | .hbm, ⟨3, _⟩ => ⟨S2x8192x128, .f32⟩
  | .hbm, ⟨4, _⟩ => ⟨S2x8192x2x64, .f32⟩
  | .hbm, ⟨5, _⟩ => ⟨S2x8192x128, .f32⟩
  | .hbm, ⟨6, _⟩ => ⟨S2x8192x2x64, .f32⟩
  | .hbm, ⟨7, _⟩ => ⟨S8, .f32⟩
  | .hbm, ⟨8, _⟩ => ⟨S_, .f32⟩
  | .hbm, ⟨9, _⟩ => ⟨S8, .f32⟩
  | .hbm, ⟨10, _⟩ => ⟨S8, .f32⟩
  | .hbm, ⟨11, _⟩ => ⟨S_, .f32⟩
  | .hbm, ⟨12, _⟩ => ⟨S8, .f32⟩
  | .hbm, ⟨13, _⟩ => ⟨S8, .f32⟩
  | .hbm, ⟨14, _⟩ => ⟨S_, .f32⟩
  | .hbm, ⟨15, _⟩ => ⟨S8, .f32⟩
  | .hbm, ⟨16, _⟩ => ⟨S8, .f32⟩
  | .hbm, ⟨17, _⟩ => ⟨S_, .f32⟩
  | .hbm, ⟨18, _⟩ => ⟨S8, .f32⟩
  | .hbm, ⟨19, _⟩ => ⟨S8, .f32⟩
  | .hbm, ⟨20, _⟩ => ⟨S2x8192x2x4x64, .f32⟩
  | .hbm, ⟨21, _⟩ => ⟨S8192x8192, .i32⟩
  | .hbm, ⟨22, _⟩ => ⟨S8192x8192, .i32⟩
  | .hbm, ⟨23, _⟩ => ⟨S8192x8192, .i32⟩
  | .hbm, ⟨24, _⟩ => ⟨S_, .i32⟩
  | .hbm, ⟨25, _⟩ => ⟨S8192x8192, .i32⟩
  | .hbm, ⟨26, _⟩ => ⟨S8192x8192, .i1⟩
  | .hbm, ⟨27, _⟩ => ⟨S_, .i32⟩
  | .hbm, ⟨28, _⟩ => ⟨S8192x8192, .i32⟩
  | .hbm, ⟨29, _⟩ => ⟨S8192x8192, .i1⟩
  | .hbm, ⟨30, _⟩ => ⟨S8192x8192, .i1⟩
  | .hbm, ⟨31, _⟩ => ⟨S2x2x8192x8192x4, .f32⟩
  | .hbm, ⟨32, _⟩ => ⟨S2x2x4x8192x8192, .f32⟩
  | .hbm, ⟨33, _⟩ => ⟨S_, .f32⟩
  | .hbm, ⟨34, _⟩ => ⟨S2x2x4x8192x8192, .f32⟩
  | .hbm, ⟨35, _⟩ => ⟨S2x2x4x8192x8192, .f32⟩
  | .hbm, ⟨36, _⟩ => ⟨S1x2x4x1x1, .f32⟩
  | .hbm, ⟨37, _⟩ => ⟨S8192x8192, .f32⟩
  | .hbm, ⟨38, _⟩ => ⟨S1x1x1x8192x8192, .f32⟩
  | .hbm, ⟨39, _⟩ => ⟨S1x2x4x8192x8192, .f32⟩
  | .hbm, ⟨40, _⟩ => ⟨S1x2x4x8192x8192, .f32⟩
  | .hbm, ⟨41, _⟩ => ⟨S1x2x4x8192x8192, .f32⟩
  | .hbm, ⟨42, _⟩ => ⟨S2x2x4x8192x8192, .f32⟩
  | .hbm, ⟨43, _⟩ => ⟨S2x2x4x8192x8192, .f32⟩
  | .hbm, ⟨44, _⟩ => ⟨S_, .f32⟩
  | .hbm, ⟨45, _⟩ => ⟨S_, .f32⟩
  | .hbm, ⟨46, _⟩ => ⟨S2x2x4x8192x8192, .i1⟩
  | .hbm, ⟨47, _⟩ => ⟨S2x2x4x8192x8192, .f32⟩
  | .hbm, ⟨48, _⟩ => ⟨S2x2x4x8192x8192, .f32⟩
  | .hbm, ⟨49, _⟩ => ⟨S_, .f32⟩
  | .hbm, ⟨50, _⟩ => ⟨S2x2x4x8192, .f32⟩
  | .hbm, ⟨51, _⟩ => ⟨S2x2x4x8192x1, .f32⟩
  | .hbm, ⟨52, _⟩ => ⟨S2x2x4x8192x8192, .f32⟩
  | .hbm, ⟨53, _⟩ => ⟨S2x2x4x8192x8192, .f32⟩
  | .hbm, ⟨54, _⟩ => ⟨S2x2x4x8192x8192, .f32⟩
  | .hbm, ⟨55, _⟩ => ⟨S_, .f32⟩
  | .hbm, ⟨56, _⟩ => ⟨S2x2x4x8192, .f32⟩
  | .hbm, ⟨57, _⟩ => ⟨S2x2x4x8192x1, .f32⟩
  | .hbm, ⟨58, _⟩ => ⟨S2x2x4x8192x8192, .f32⟩
  | .hbm, ⟨59, _⟩ => ⟨S2x2x4x8192x8192, .f32⟩
  | .hbm, ⟨60, _⟩ => ⟨S2x2x64x4x8192, .f32⟩
  | .hbm, ⟨61, _⟩ => ⟨S2x8192x2x4x64, .f32⟩
  | .hbm, ⟨62, _⟩ => ⟨S2x8192x512, .f32⟩
  | _, _ => ⟨S2x8192x8448, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_cst : Ref sig .tc := ⟨.hbm, 8, rfl⟩
abbrev main_v7 : Ref sig .tc := ⟨.hbm, 9, rfl⟩
abbrev main_v8 : Ref sig .tc := ⟨.hbm, 10, rfl⟩
abbrev main_cst_0 : Ref sig .tc := ⟨.hbm, 11, rfl⟩
abbrev main_v9 : Ref sig .tc := ⟨.hbm, 12, rfl⟩
abbrev main_v10 : Ref sig .tc := ⟨.hbm, 13, rfl⟩
abbrev main_cst_1 : Ref sig .tc := ⟨.hbm, 14, rfl⟩
abbrev main_v11 : Ref sig .tc := ⟨.hbm, 15, rfl⟩
abbrev main_v12 : Ref sig .tc := ⟨.hbm, 16, rfl⟩
abbrev main_cst_2 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_c : Ref sig .tc := ⟨.hbm, 24, rfl⟩
abbrev main_v19 : Ref sig .tc := ⟨.hbm, 25, rfl⟩
abbrev main_v20 : Ref sig .tc := ⟨.hbm, 26, rfl⟩
abbrev main_c_3 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_4 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_cst_5 : Ref sig .tc := ⟨.hbm, 44, rfl⟩
abbrev main_call0_v0 : Ref sig .tc := ⟨.hbm, 45, rfl⟩
abbrev main_call0_v1 : Ref sig .tc := ⟨.hbm, 46, rfl⟩
abbrev main_call0_v2 : Ref sig .tc := ⟨.hbm, 47, rfl⟩
abbrev main_v36 : Ref sig .tc := ⟨.hbm, 48, rfl⟩
abbrev main_cst_6 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_7 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩

abbrev nD : Nat := 1
abbrev τ : Topo := Topo.v7x

variable {F : FTy → Type} [FloatOps F]
-- ==== InProj.lean ====
abbrev S16384x2048 : Shape := ⟨2, ![16384, 2048]⟩
abbrev S2048 : Shape := ⟨1, ![2048]⟩
abbrev S2048x8448 : Shape := ⟨2, ![2048, 8448]⟩
abbrev S1x2048 : Shape := ⟨2, ![1, 2048]⟩
abbrev S16384x8448 : Shape := ⟨2, ![16384, 8448]⟩
abbrev S1024x2048 : Shape := ⟨2, ![1024, 2048]⟩
abbrev S2048x768 : Shape := ⟨2, ![2048, 768]⟩
abbrev S1024x768 : Shape := ⟨2, ![1024, 768]⟩
abbrev S1024 : Shape := ⟨1, ![1024]⟩
abbrev S1024x1 : Shape := ⟨2, ![1024, 1]⟩

abbrev nBuf : Space → Nat
  | .hbm => 6
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x8448, .f32⟩
  | .hbm, ⟨3, _⟩ => ⟨S1x2048, .f32⟩
  | .hbm, ⟨4, _⟩ => ⟨S2048x8448, .bf16⟩
  | .hbm, ⟨5, _⟩ => ⟨S16384x8448, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x768, .bf16⟩
  | .local _ .vmem, ⟨4, _⟩ => ⟨S2048x768, .bf16⟩
  | .local _ .vmem, ⟨5, _⟩ => ⟨S1024x768, .f32⟩
  | .local _ .vmem, ⟨6, _⟩ => ⟨S1024x768, .f32⟩
  | .local _ .vmem, ⟨7, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InProjRefIdeal.lean ====
abbrev S16384x2048 : Shape := ⟨2, ![16384, 2048]⟩
abbrev S2048 : Shape := ⟨1, ![2048]⟩
abbrev S2048x8448 : Shape := ⟨2, ![2048, 8448]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x8448 : Shape := ⟨2, ![16384, 8448]⟩

abbrev nBuf : Space → Nat
  | .hbm => 20
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x8448, .f32⟩
  | .hbm, ⟨3, _⟩ => ⟨S16384x2048, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x2048, .f32⟩
  | .hbm, ⟨15, _⟩ => ⟨S16384x2048, .f32⟩
  | .hbm, ⟨16, _⟩ => ⟨S1x2048, .f32⟩
  | .hbm, ⟨17, _⟩ => ⟨S16384x2048, .f32⟩
  | .hbm, ⟨18, _⟩ => ⟨S16384x2048, .f32⟩
  | .hbm, ⟨19, _⟩ => ⟨S16384x8448, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== OutProj.lean ====
abbrev S16384x512 : Shape := ⟨2, ![16384, 512]⟩
abbrev S16384x1024 : Shape := ⟨2, ![16384, 1024]⟩
abbrev S16384x2048 : Shape := ⟨2, ![16384, 2048]⟩
abbrev S2048x2048 : Shape := ⟨2, ![2048, 2048]⟩
abbrev S2048 : Shape := ⟨1, ![2048]⟩
abbrev S512x2048 : Shape := ⟨2, ![512, 2048]⟩
abbrev S1024x2048 : Shape := ⟨2, ![1024, 2048]⟩
abbrev S1x2048 : Shape := ⟨2, ![1, 2048]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩

abbrev nBuf : Space → Nat
  | .hbm => 12
  | .vmem => 14
  | .smem => 0
  | _ => 0

abbrev bufTy : (tb : Table) → Fin (tcTables nBuf tb) → BufTy
  | .hbm, ⟨0, _⟩ => ⟨S16384x512, .bf16⟩
  | .hbm, ⟨1, _⟩ => ⟨S16384x1024, .bf16⟩
  | .hbm, ⟨2, _⟩ => ⟨S16384x512, .bf16⟩
  | .hbm, ⟨3, _⟩ => ⟨S16384x2048, .f32⟩
  | .hbm, ⟨4, _⟩ => ⟨S2048x2048, .f32⟩
  | .hbm, ⟨5, _⟩ => ⟨S2048, .f32⟩
  | .hbm, ⟨6, _⟩ => ⟨S2048x2048, .bf16⟩
  | .hbm, ⟨7, _⟩ => ⟨S512x2048, .bf16⟩
  | .hbm, ⟨8, _⟩ => ⟨S1024x2048, .bf16⟩
  | .hbm, ⟨9, _⟩ => ⟨S512x2048, .bf16⟩
  | .hbm, ⟨10, _⟩ => ⟨S1x2048, .f32⟩
  | .hbm, ⟨11, _⟩ => ⟨S16384x2048, .f32⟩
  | .local _ .vmem, ⟨0, _⟩ => ⟨S512x512, .bf16⟩
  | .local _ .vmem, ⟨1, _⟩ => ⟨S512x512, .bf16⟩
  | .local _ .vmem, ⟨2, _⟩ => ⟨S512x1024, .bf16⟩
  | .local _ .vmem, ⟨3, _⟩ => ⟨S512x1024, .bf16⟩
  | .local _ .vmem, ⟨4, _⟩ => ⟨S512x512, .bf16⟩
  | .local _ .vmem, ⟨5, _⟩ => ⟨S512x512, .bf16⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S1024x2048, .bf16⟩
  | .local _ .vmem, ⟨10, _⟩ => ⟨S512x2048, .bf16⟩
  | .local _ .vmem, ⟨11, _⟩ => ⟨S1x2048, .f32⟩
  | .local _ .vmem, ⟨12, _⟩ => ⟨S512x2048, .f32⟩
  | .local _ .vmem, ⟨13, _⟩ => ⟨S512x2048, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== OutProjRefIdeal.lean ====
abbrev S16384x512 : Shape := ⟨2, ![16384, 512]⟩
abbrev S16384x1024 : Shape := ⟨2, ![16384, 1024]⟩
abbrev S16384x2048 : Shape := ⟨2, ![16384, 2048]⟩
abbrev S2048x2048 : Shape := ⟨2, ![2048, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 26
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x1024, .bf16⟩
  | .hbm, ⟨2, _⟩ => ⟨S16384x512, .bf16⟩
  | .hbm, ⟨3, _⟩ => ⟨S16384x2048, .f32⟩
  | .hbm, ⟨4, _⟩ => ⟨S2048x2048, .f32⟩
  | .hbm, ⟨5, _⟩ => ⟨S2048, .f32⟩
  | .hbm, ⟨6, _⟩ => ⟨S16384x2048, .bf16⟩
  | .hbm, ⟨7, _⟩ => ⟨S16384x2048, .f32⟩
  | .hbm, ⟨8, _⟩ => ⟨S16384x2048, .f32⟩
  | .hbm, ⟨9, _⟩ => ⟨S16384x2048, .f32⟩
  | .hbm, ⟨10, _⟩ => ⟨S16384x2048, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1, .f32⟩
  | .hbm, ⟨21, _⟩ => ⟨S16384x2048, .f32⟩
  | .hbm, ⟨22, _⟩ => ⟨S16384x2048, .f32⟩
  | .hbm, ⟨23, _⟩ => ⟨S1x2048, .f32⟩
  | .hbm, ⟨24, _⟩ => ⟨S16384x2048, .f32⟩
  | .hbm, ⟨25, _⟩ => ⟨S16384x2048, .f32⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]
-- ==== OutMid.lean ====
abbrev S16384x512 : Shape := ⟨2, ![16384, 512]⟩
abbrev S16384x1024 : Shape := ⟨2, ![16384, 1024]⟩
abbrev S16384x2048 : Shape := ⟨2, ![16384, 2048]⟩
abbrev S2048x2048 : Shape := ⟨2, ![2048, 2048]⟩
abbrev S2048 : Shape := ⟨1, ![2048]⟩
abbrev S512x2048 : Shape := ⟨2, ![512, 2048]⟩
abbrev S1024x2048 : Shape := ⟨2, ![1024, 2048]⟩
abbrev S1x2048 : Shape := ⟨2, ![1, 2048]⟩
abbrev S512x512 : Shape := ⟨2, ![512, 512]⟩
abbrev S512x1024 : Shape := ⟨2, ![512, 1024]⟩

abbrev nBuf : Space → Nat
  | .hbm => 12
  | .vmem => 14
  | .smem => 0
  | _ => 0

abbrev bufTy : (tb : Table) → Fin (tcTables nBuf tb) → BufTy
  | .hbm, ⟨0, _⟩ => ⟨S16384x512, .bf16⟩
  | .hbm, ⟨1, _⟩ => ⟨S16384x1024, .bf16⟩
  | .hbm, ⟨2, _⟩ => ⟨S16384x512, .bf16⟩
  | .hbm, ⟨3, _⟩ => ⟨S16384x2048, .f32⟩
  | .hbm, ⟨4, _⟩ => ⟨S2048x2048, .f32⟩
  | .hbm, ⟨5, _⟩ => ⟨S2048, .f32⟩
  | .hbm, ⟨6, _⟩ => ⟨S2048x2048, .bf16⟩
  | .hbm, ⟨7, _⟩ => ⟨S512x2048, .bf16⟩
  | .hbm, ⟨8, _⟩ => ⟨S1024x2048, .bf16⟩
  | .hbm, ⟨9, _⟩ => ⟨S512x2048, .bf16⟩
  | .hbm, ⟨10, _⟩ => ⟨S1x2048, .f32⟩
  | .hbm, ⟨11, _⟩ => ⟨S16384x2048, .f32⟩
  | .local _ .vmem, ⟨0, _⟩ => ⟨S512x512, .bf16⟩
  | .local _ .vmem, ⟨1, _⟩ => ⟨S512x512, .bf16⟩
  | .local _ .vmem, ⟨2, _⟩ => ⟨S512x1024, .bf16⟩
  | .local _ .vmem, ⟨3, _⟩ => ⟨S512x1024, .bf16⟩
  | .local _ .vmem, ⟨4, _⟩ => ⟨S512x512, .bf16⟩
  | .local _ .vmem, ⟨5, _⟩ => ⟨S512x512, .bf16⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S1024x2048, .bf16⟩
  | .local _ .vmem, ⟨10, _⟩ => ⟨S512x2048, .bf16⟩
  | .local _ .vmem, ⟨11, _⟩ => ⟨S1x2048, .f32⟩
  | .local _ .vmem, ⟨12, _⟩ => ⟨S512x2048, .f32⟩
  | .local _ .vmem, ⟨13, _⟩ => ⟨S512x2048, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== OutMidRefIdeal.lean ====
abbrev S16384x512 : Shape := ⟨2, ![16384, 512]⟩
abbrev S16384x1024 : Shape := ⟨2, ![16384, 1024]⟩
abbrev S16384x2048 : Shape := ⟨2, ![16384, 2048]⟩
abbrev S2048x2048 : Shape := ⟨2, ![2048, 2048]⟩
abbrev S2048 : Shape := ⟨1, ![2048]⟩

abbrev nBuf : Space → Nat
  | .hbm => 10
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x1024, .bf16⟩
  | .hbm, ⟨2, _⟩ => ⟨S16384x512, .bf16⟩
  | .hbm, ⟨3, _⟩ => ⟨S16384x2048, .f32⟩
  | .hbm, ⟨4, _⟩ => ⟨S2048x2048, .f32⟩
  | .hbm, ⟨5, _⟩ => ⟨S2048, .f32⟩
  | .hbm, ⟨6, _⟩ => ⟨S16384x2048, .bf16⟩
  | .hbm, ⟨7, _⟩ => ⟨S16384x2048, .f32⟩
  | .hbm, ⟨8, _⟩ => ⟨S16384x2048, .f32⟩
  | .hbm, ⟨9, _⟩ => ⟨S16384x2048, .f32⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩

abbrev nD : Nat := 1
abbrev τ : Topo := Topo.v7x

variable {F : FTy → Type} [FloatOps F]
-- ==== MixA.lean ====
abbrev S16384x512 : Shape := ⟨2, ![16384, 512]⟩
abbrev S16384x8448 : Shape := ⟨2, ![16384, 8448]⟩
abbrev S512x512 : Shape := ⟨2, ![512, 512]⟩
abbrev S512x128 : Shape := ⟨2, ![512, 128]⟩
abbrev S512x1 : Shape := ⟨2, ![512, 1]⟩
abbrev S512x64 : Shape := ⟨2, ![512, 64]⟩

abbrev nBuf : Space → Nat
  | .hbm => 5
  | .vmem => 12
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S16384x8448, .f32⟩
  | .hbm, ⟨4, _⟩ => ⟨S16384x512, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x128, .f32⟩
  | .local _ .vmem, ⟨7, _⟩ => ⟨S512x128, .f32⟩
  | .local _ .vmem, ⟨8, _⟩ => ⟨S512x512, .f32⟩
  | .local _ .vmem, ⟨9, _⟩ => ⟨S512x512, .f32⟩
  | .local _ .vmem, ⟨10, _⟩ => ⟨S512x512, .bf16⟩
  | .local _ .vmem, ⟨11, _⟩ => ⟨S512x512, .bf16⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c64_i32 : BitVec 32 := 64#32
  let c0_i32 : BitVec 32 := 0#32
  ![arg0.toNat, c64_i32.toNat]

def cc0_transform_4 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MixARefIdeal.lean ====
abbrev S16384x512 : Shape := ⟨2, ![16384, 512]⟩
abbrev S16384x8448 : Shape := ⟨2, ![16384, 8448]⟩
abbrev S16384x24 : Shape := ⟨2, ![16384, 24]⟩
abbrev S16384x8x3 : Shape := ⟨3, ![16384, 8, 3]⟩
abbrev S_ : Shape := ⟨0, ![]⟩
abbrev S16384x8x1 : Shape := ⟨3, ![16384, 8, 1]⟩
abbrev S16384x8x64 : Shape := ⟨3, ![16384, 8, 64]⟩

abbrev nBuf : Space → Nat
  | .hbm => 41
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S16384x8448, .f32⟩
  | .hbm, ⟨4, _⟩ => ⟨S16384x24, .f32⟩
  | .hbm, ⟨5, _⟩ => ⟨S16384x8x3, .f32⟩
  | .hbm, ⟨6, _⟩ => ⟨S16384x8x3, .f32⟩
  | .hbm, ⟨7, _⟩ => ⟨S16384x8x3, .f32⟩
  | .hbm, ⟨8, _⟩ => ⟨S_, .f32⟩
  | .hbm, ⟨9, _⟩ => ⟨S16384x8x3, .f32⟩
  | .hbm, ⟨10, _⟩ => ⟨S16384x8x3, .f32⟩
  | .hbm, ⟨11, _⟩ => ⟨S_, .f32⟩
  | .hbm, ⟨12, _⟩ => ⟨S16384x8x3, .f32⟩
  | .hbm, ⟨13, _⟩ => ⟨S16384x8x3, .f32⟩
  | .hbm, ⟨14, _⟩ => ⟨S16384x8x1, .f32⟩
  | .hbm, ⟨15, _⟩ => ⟨S16384x8x64, .f32⟩
  | .hbm, ⟨16, _⟩ => ⟨S16384x8x64, .f32⟩
  | .hbm, ⟨17, _⟩ => ⟨S16384x8x64, .f32⟩
  | .hbm, ⟨18, _⟩ => ⟨S16384x8x1, .f32⟩
  | .hbm, ⟨19, _⟩ => ⟨S16384x8x64, .f32⟩
  | .hbm, ⟨20, _⟩ => ⟨S16384x8x64, .f32⟩
  | .hbm, ⟨21, _⟩ => ⟨S16384x8x64, .f32⟩
  | .hbm, ⟨22, _⟩ => ⟨S16384x8x64, .f32⟩
  | .hbm, ⟨23, _⟩ => ⟨S16384x8x1, .f32⟩
  | .hbm, ⟨24, _⟩ => ⟨S16384x8x64, .f32⟩
  | .hbm, ⟨25, _⟩ => ⟨S16384x8x64, .f32⟩
  | .hbm, ⟨26, _⟩ => ⟨S16384x8x64, .f32⟩
  | .hbm, ⟨27, _⟩ => ⟨S16384x8x64, .f32⟩
  | .hbm, ⟨28, _⟩ => ⟨S16384x512, .f32⟩
  | .hbm, ⟨29, _⟩ => ⟨S16384x512, .f32⟩
  | .hbm, ⟨30, _⟩ => ⟨S16384x512, .f32⟩
  | .hbm, ⟨31, _⟩ => ⟨S16384x512, .f32⟩
  | .hbm, ⟨32, _⟩ => ⟨S_, .f32⟩
  | .hbm, ⟨33, _⟩ => ⟨S16384x512, .f32⟩
  | .hbm, ⟨34, _⟩ => ⟨S16384x512, .f32⟩
  | .hbm, ⟨35, _⟩ => ⟨S_, .f32⟩
  | .hbm, ⟨36, _⟩ => ⟨S16384x512, .f32⟩
  | .hbm, ⟨37, _⟩ => ⟨S16384x512, .f32⟩
  | .hbm, ⟨38, _⟩ => ⟨S16384x512, .f32⟩
  | .hbm, ⟨39, _⟩ => ⟨S16384x512, .f32⟩
  | .hbm, ⟨40, _⟩ => ⟨S16384x512, .bf16⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Cmp.lean ====
abbrev S2x8192x8448 : Shape := ⟨3, ![2, 8192, 8448]⟩
abbrev S2x2x512x64 : Shape := ⟨4, ![2, 2, 512, 64]⟩
abbrev S512x128 : Shape := ⟨2, ![512, 128]⟩
abbrev S_ : Shape := ⟨0, ![]⟩
abbrev S2x8192x512 : Shape := ⟨3, ![2, 8192, 512]⟩
abbrev S2x2x8192x128 : Shape := ⟨4, ![2, 2, 8192, 128]⟩
abbrev S1x128x512 : Shape := ⟨3, ![1, 128, 512]⟩
abbrev S1x2x512x64 : Shape := ⟨4, ![1, 2, 512, 64]⟩
abbrev S1x2x128x128 : Shape := ⟨4, ![1, 2, 128, 128]⟩
abbrev S128x1 : Shape := ⟨2, ![128, 1]⟩
abbrev S1x512 : Shape := ⟨2, ![1, 512]⟩
abbrev S128x512 : Shape := ⟨2, ![128, 512]⟩
abbrev S1x128 : Shape := ⟨2, ![1, 128]⟩
abbrev S128x128 : Shape := ⟨2, ![128, 128]⟩
abbrev S1x1x512x64 : Shape := ⟨4, ![1, 1, 512, 64]⟩
abbrev S512x64 : Shape := ⟨2, ![512, 64]⟩
abbrev S1x128x64 : Shape := ⟨3, ![1, 128, 64]⟩
abbrev S128x64 : Shape := ⟨2, ![128, 64]⟩
abbrev S128 : Shape := ⟨1, ![128]⟩
abbrev S1x1x128x128 : Shape := ⟨4, ![1, 1, 128, 128]⟩

abbrev nBuf : Space → Nat
  | .hbm => 24
  | .vmem => 11
  | .smem => 0
  | _ => 0

abbrev bufTy : (tb : Table) → Fin (tcTables nBuf tb) → BufTy
  | .hbm, ⟨0, _⟩ => ⟨S2x8192x8448, .f32⟩
  | .hbm, ⟨1, _⟩ => ⟨S2x2x512x64, .bf16⟩
  | .hbm, ⟨2, _⟩ => ⟨S2x2x512x64, .bf16⟩
  | .hbm, ⟨3, _⟩ => ⟨S512x128, .i32⟩
  | .hbm, ⟨4, _⟩ => ⟨S_, .i32⟩
  | .hbm, ⟨5, _⟩ => ⟨S512x128, .i32⟩
  | .hbm, ⟨6, _⟩ => ⟨S512x128, .i32⟩
  | .hbm, ⟨7, _⟩ => ⟨S512x128, .i32⟩
  | .hbm, ⟨8, _⟩ => ⟨S_, .i32⟩
  | .hbm, ⟨9, _⟩ => ⟨S512x128, .i32⟩
  | .hbm, ⟨10, _⟩ => ⟨S512x128, .i32⟩
  | .hbm, ⟨11, _⟩ => ⟨S_, .i32⟩
  | .hbm, ⟨12, _⟩ => ⟨S512x128, .i32⟩
  | .hbm, ⟨13, _⟩ => ⟨S512x128, .i32⟩
  | .hbm, ⟨14, _⟩ => ⟨S512x128, .i1⟩
  | .hbm, ⟨15, _⟩ => ⟨S_, .i32⟩
  | .hbm, ⟨16, _⟩ => ⟨S512x128, .i32⟩
  | .hbm, ⟨17, _⟩ => ⟨S512x128, .i32⟩
  | .hbm, ⟨18, _⟩ => ⟨S512x128, .i1⟩
  | .hbm, ⟨19, _⟩ => ⟨S512x128, .i1⟩
  | .hbm, ⟨20, _⟩ => ⟨S512x128, .f32⟩
  | .hbm, ⟨21, _⟩ => ⟨S512x128, .bf16⟩
  | .hbm, ⟨22, _⟩ => ⟨S2x8192x512, .f32⟩
  | .hbm, ⟨23, _⟩ => ⟨S2x2x8192x128, .bf16⟩
  | .local _ .vmem, ⟨0, _⟩ => ⟨S1x128x512, .f32⟩
  | .local _ .vmem, ⟨1, _⟩ => ⟨S1x128x512, .f32⟩
  | .local _ .vmem, ⟨2, _⟩ => ⟨S1x2x512x64, .bf16⟩
  | .local _ .vmem, ⟨3, _⟩ => ⟨S1x2x512x64, .bf16⟩
  | .local _ .vmem, ⟨4, _⟩ => ⟨S1x2x512x64, .bf16⟩
  | .local _ .vmem, ⟨5, _⟩ => ⟨S1x2x512x64, .bf16⟩
  | .local _ .vmem, ⟨6, _⟩ => ⟨S512x128, .bf16⟩
  | .local _ .vmem, ⟨7, _⟩ => ⟨S1x128x512, .f32⟩
  | .local _ .vmem, ⟨8, _⟩ => ⟨S1x128x512, .f32⟩
  | .local _ .vmem, ⟨9, _⟩ => ⟨S1x2x128x128, .bf16⟩
  | .local _ .vmem, ⟨10, _⟩ => ⟨S1x2x128x128, .bf16⟩
  | _, _ => ⟨S2x8192x8448, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_c_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15_0 : Ref sig .tc := ⟨.hbm, 22, rfl⟩
abbrev main_v15_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![2, 64], ![false, false]⟩

def cc0_transform_0 (i : grid0.Coords) : Fin 3 → Nat :=
  let arg0 : BitVec 32 := BitVec.ofNat 32 (i 0).val
  let arg1 : BitVec 32 := BitVec.ofNat 32 (i 1).val
  let c10_i32 : BitVec 32 := 10#32
  let c0_i32 : BitVec 32 := 0#32
  ![arg0.toNat, arg1.toNat, c10_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x512x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2x512x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S512x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2x128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== CmpIdeal.lean ====
variable {F : FTy → Type} [FloatOps F] [Named F]
def κ : String → Option EReal := fun
  | "mask" => some ⊥
  | _ => none
-- ==== CmpRefIdeal.lean ====
abbrev S2x8192x8448 : Shape := ⟨3, ![2, 8192, 8448]⟩
abbrev S2x2x512x64 : Shape := ⟨4, ![2, 2, 512, 64]⟩
abbrev S2x8192x512 : Shape := ⟨3, ![2, 8192, 512]⟩
abbrev S2x8192x2x4x64 : Shape := ⟨5, ![2, 8192, 2, 4, 64]⟩
abbrev S2x2x511x64 : Shape := ⟨4, ![2, 2, 511, 64]⟩
abbrev S8192x511 : Shape := ⟨2, ![8192, 511]⟩
abbrev S_ : Shape := ⟨0, ![]⟩
abbrev S2x2x511x8192x4 : Shape := ⟨5, ![2, 2, 511, 8192, 4]⟩
abbrev S2x2x4x8192x511 : Shape := ⟨5, ![2, 2, 4, 8192, 511]⟩
abbrev S2x2x4x8192 : Shape := ⟨4, ![2, 2, 4, 8192]⟩
abbrev S2x2x4x8192x1 : Shape := ⟨5, ![2, 2, 4, 8192, 1]⟩
abbrev S8192 : Shape := ⟨1, ![8192]⟩
abbrev S8192x1 : Shape := ⟨2, ![8192, 1]⟩
abbrev S1x1x1x8192x1 : Shape := ⟨5, ![1, 1, 1, 8192, 1]⟩
abbrev S2x2x64x4x8192 : Shape := ⟨5, ![2, 2, 64, 4, 8192]⟩
abbrev S511x128 : Shape := ⟨2, ![511, 128]⟩
abbrev S2x2x8192x511 : Shape := ⟨4, ![2, 2, 8192, 511]⟩
abbrev S2x2x8192x128 : Shape := ⟨4, ![2, 2, 8192, 128]⟩
abbrev S8192x128 : Shape := ⟨2, ![8192, 128]⟩
abbrev S128x128 : Shape := ⟨2, ![128, 128]⟩
abbrev S2x2x8192x1x128 : Shape := ⟨5, ![2, 2, 8192, 1, 128]⟩
abbrev S2x2x8192x128x1 : Shape := ⟨5, ![2, 2, 8192, 128, 1]⟩
abbrev S2x2x8192x128x128 : Shape := ⟨5, ![2, 2, 8192, 128, 128]⟩
abbrev S1x1x1x128x128 : Shape := ⟨5, ![1, 1, 1, 128, 128]⟩
abbrev S1x1x8192x128 : Shape := ⟨4, ![1, 1, 8192, 128]⟩

abbrev nBuf : Space → Nat
  | .hbm => 128
  | .vmem => 0
  | .smem => 0
  | _ => 0

abbrev bufTy : (tb : Table) → Fin (tcTables nBuf tb) → BufTy
  | .hbm, ⟨0, _⟩ => ⟨S2x8192x8448, .f32⟩
  | .hbm, ⟨1, _⟩ => ⟨S2x2x512x64, .bf16⟩
  | .hbm, ⟨2, _⟩ => ⟨S2x2x512x64, .bf16⟩
  | .hbm, ⟨3, _⟩ => ⟨S2x8192x512, .f32⟩
  | .hbm, ⟨4, _⟩ => ⟨S2x8192x2x4x64, .f32⟩
  | .hbm, ⟨5, _⟩ => ⟨S2x2x511x64, .bf16⟩
  | .hbm, ⟨6, _⟩ => ⟨S2x2x511x64, .f32⟩
  | .hbm, ⟨7, _⟩ => ⟨S2x2x511x64, .bf16⟩
  | .hbm, ⟨8, _⟩ => ⟨S2x2x511x64, .f32⟩
  | .hbm, ⟨9, _⟩ => ⟨S8192x511, .i32⟩
  | .hbm, ⟨10, _⟩ => ⟨S8192x511, .i32⟩
  | .hbm, ⟨11, _⟩ => ⟨S_, .i32⟩
  | .hbm, ⟨12, _⟩ => ⟨S8192x511, .i32⟩
  | .hbm, ⟨13, _⟩ => ⟨S8192x511, .i32⟩
  | .hbm, ⟨14, _⟩ => ⟨S_, .i32⟩
  | .hbm, ⟨15, _⟩ => ⟨S8192x511, .i32⟩
  | .hbm, ⟨16, _⟩ => ⟨S8192x511, .i32⟩
  | .hbm, ⟨17, _⟩ => ⟨S8192x511, .i1⟩
  | .hbm, ⟨18, _⟩ => ⟨S2x2x511x8192x4, .f32⟩
  | .hbm, ⟨19, _⟩ => ⟨S2x2x4x8192x511, .f32⟩
  | .hbm, ⟨20, _⟩ => ⟨S_, .f32⟩
  | .hbm, ⟨21, _⟩ => ⟨S2x2x4x8192x511, .f32⟩
  | .hbm, ⟨22, _⟩ => ⟨S2x2x4x8192x511, .f32⟩
  | .hbm, ⟨23, _⟩ => ⟨S_, .f32⟩
  | .hbm, ⟨24, _⟩ => ⟨S_, .f32⟩
  | .hbm, ⟨25, _⟩ => ⟨S2x2x4x8192x511, .i1⟩
  | .hbm, ⟨26, _⟩ => ⟨S2x2x4x8192x511, .f32⟩
  | .hbm, ⟨27, _⟩ => ⟨S2x2x4x8192x511, .f32⟩
  | .hbm, ⟨28, _⟩ => ⟨S_, .f32⟩
  | .hbm, ⟨29, _⟩ => ⟨S2x2x4x8192, .f32⟩
  | .hbm, ⟨30, _⟩ => ⟨S2x2x4x8192x1, .f32⟩
  | .hbm, ⟨31, _⟩ => ⟨S2x2x4x8192x511, .f32⟩
  | .hbm, ⟨32, _⟩ => ⟨S2x2x4x8192x511, .f32⟩
  | .hbm, ⟨33, _⟩ => ⟨S2x2x4x8192x511, .f32⟩
  | .hbm, ⟨34, _⟩ => ⟨S_, .f32⟩
  | .hbm, ⟨35, _⟩ => ⟨S2x2x4x8192, .f32⟩
  | .hbm, ⟨36, _⟩ => ⟨S2x2x4x8192x1, .f32⟩
  | .hbm, ⟨37, _⟩ => ⟨S2x2x4x8192x511, .f32⟩
  | .hbm, ⟨38, _⟩ => ⟨S2x2x4x8192x511, .f32⟩
  | .hbm, ⟨39, _⟩ => ⟨S_, .i1⟩
  | .hbm, ⟨40, _⟩ => ⟨S8192, .i1⟩
  | .hbm, ⟨41, _⟩ => ⟨S8192x1, .i1⟩
  | .hbm, ⟨42, _⟩ => ⟨S8192x1, .f32⟩
  | .hbm, ⟨43, _⟩ => ⟨S1x1x1x8192x1, .f32⟩
  | .hbm, ⟨44, _⟩ => ⟨S2x2x4x8192x511, .f32⟩
  | .hbm, ⟨45, _⟩ => ⟨S2x2x4x8192x511, .f32⟩
  | .hbm, ⟨46, _⟩ => ⟨S2x2x64x4x8192, .f32⟩
  | .hbm, ⟨47, _⟩ => ⟨S2x8192x2x4x64, .f32⟩
  | .hbm, ⟨48, _⟩ => ⟨S2x8192x512, .f32⟩
  | .hbm, ⟨49, _⟩ => ⟨S511x128, .i32⟩
  | .hbm, ⟨50, _⟩ => ⟨S_, .i32⟩
  | .hbm, ⟨51, _⟩ => ⟨S511x128, .i32⟩
  | .hbm, ⟨52, _⟩ => ⟨S511x128, .i32⟩
  | .hbm, ⟨53, _⟩ => ⟨S511x128, .i32⟩
  | .hbm, ⟨54, _⟩ => ⟨S_, .i32⟩
  | .hbm, ⟨55, _⟩ => ⟨S511x128, .i32⟩
  | .hbm, ⟨56, _⟩ => ⟨S511x128, .i32⟩
  | .hbm, ⟨57, _⟩ => ⟨S_, .i32⟩
  | .hbm, ⟨58, _⟩ => ⟨S511x128, .i32⟩
  | .hbm, ⟨59, _⟩ => ⟨S511x128, .i32⟩
  | .hbm, ⟨60, _⟩ => ⟨S511x128, .i1⟩
  | .hbm, ⟨61, _⟩ => ⟨S_, .i32⟩
  | .hbm, ⟨62, _⟩ => ⟨S511x128, .i32⟩
  | .hbm, ⟨63, _⟩ => ⟨S511x128, .i32⟩
  | .hbm, ⟨64, _⟩ => ⟨S511x128, .i1⟩
  | .hbm, ⟨65, _⟩ => ⟨S511x128, .i1⟩
  | .hbm, ⟨66, _⟩ => ⟨S511x128, .f32⟩
  | .hbm, ⟨67, _⟩ => ⟨S_, .f32⟩
  | .hbm, ⟨68, _⟩ => ⟨S2x2x8192x511, .f32⟩
  | .hbm, ⟨69, _⟩ => ⟨S2x2x8192x128, .f32⟩
  | .hbm, ⟨70, _⟩ => ⟨S8192x128, .i32⟩
  | .hbm, ⟨71, _⟩ => ⟨S8192x128, .i32⟩
  | .hbm, ⟨72, _⟩ => ⟨S_, .i32⟩
  | .hbm, ⟨73, _⟩ => ⟨S8192x128, .i32⟩
  | .hbm, ⟨74, _⟩ => ⟨S8192x128, .i32⟩
  | .hbm, ⟨75, _⟩ => ⟨S8192x128, .i1⟩
  | .hbm, ⟨76, _⟩ => ⟨S_, .i32⟩
  | .hbm, ⟨77, _⟩ => ⟨S8192x128, .i32⟩
  | .hbm, ⟨78, _⟩ => ⟨S8192x128, .i1⟩
  | .hbm, ⟨79, _⟩ => ⟨S_, .i32⟩
  | .hbm, ⟨80, _⟩ => ⟨S8192x128, .i32⟩
  | .hbm, ⟨81, _⟩ => ⟨S8192x128, .i32⟩
  | .hbm, ⟨82, _⟩ => ⟨S_, .i32⟩
  | .hbm, ⟨83, _⟩ => ⟨S8192x128, .i32⟩
  | .hbm, ⟨84, _⟩ => ⟨S8192x128, .i32⟩
  | .hbm, ⟨85, _⟩ => ⟨S8192x128, .i1⟩
  | .hbm, ⟨86, _⟩ => ⟨S8192x128, .i1⟩
  | .hbm, ⟨87, _⟩ => ⟨S8192x128, .i1⟩
  | .hbm, ⟨88, _⟩ => ⟨S_, .f32⟩
  | .hbm, ⟨89, _⟩ => ⟨S_, .f32⟩
  | .hbm, ⟨90, _⟩ => ⟨S2x2x8192x128, .i1⟩
  | .hbm, ⟨91, _⟩ => ⟨S2x2x8192x128, .f32⟩
  | .hbm, ⟨92, _⟩ => ⟨S2x2x8192x128, .f32⟩
  | .hbm, ⟨93, _⟩ => ⟨S_, .f32⟩
  | .hbm, ⟨94, _⟩ => ⟨S_, .f32⟩
  | .hbm, ⟨95, _⟩ => ⟨S2x2x8192x128, .i1⟩
  | .hbm, ⟨96, _⟩ => ⟨S2x2x8192x128, .f32⟩
  | .hbm, ⟨97, _⟩ => ⟨S2x2x8192x128, .f32⟩
  | .hbm, ⟨98, _⟩ => ⟨S128x128, .i32⟩
  | .hbm, ⟨99, _⟩ => ⟨S128x128, .i32⟩
  | .hbm, ⟨100, _⟩ => ⟨S2x2x8192x1x128, .f32⟩
  | .hbm, ⟨101, _⟩ => ⟨S2x2x8192x128x1, .f32⟩
  | .hbm, ⟨102, _⟩ => ⟨S2x2x8192x128x128, .f32⟩
  | .hbm, ⟨103, _⟩ => ⟨S2x2x8192x128x128, .f32⟩
  | .hbm, ⟨104, _⟩ => ⟨S2x2x8192x128x128, .i1⟩
  | .hbm, ⟨105, _⟩ => ⟨S2x2x8192x128x128, .f32⟩
  | .hbm, ⟨106, _⟩ => ⟨S2x2x8192x128x128, .f32⟩
  | .hbm, ⟨107, _⟩ => ⟨S2x2x8192x128x128, .i1⟩
  | .hbm, ⟨108, _⟩ => ⟨S128x128, .i1⟩
  | .hbm, ⟨109, _⟩ => ⟨S1x1x1x128x128, .i1⟩
  | .hbm, ⟨110, _⟩ => ⟨S2x2x8192x128x128, .i1⟩
  | .hbm, ⟨111, _⟩ => ⟨S2x2x8192x128x128, .i1⟩
  | .hbm, ⟨112, _⟩ => ⟨S2x2x8192x128x128, .i1⟩
  | .hbm, ⟨113, _⟩ => ⟨S2x2x8192x128x128, .f32⟩
  | .hbm, ⟨114, _⟩ => ⟨S_, .f32⟩
  | .hbm, ⟨115, _⟩ => ⟨S2x2x8192x128, .f32⟩
  | .hbm, ⟨116, _⟩ => ⟨S_, .f32⟩
  | .hbm, ⟨117, _⟩ => ⟨S2x2x8192x128, .f32⟩
  | .hbm, ⟨118, _⟩ => ⟨S2x2x8192x128, .i1⟩
  | .hbm, ⟨119, _⟩ => ⟨S1x1x8192x128, .i1⟩
  | .hbm, ⟨120, _⟩ => ⟨S2x2x8192x128, .i1⟩
  | .hbm, ⟨121, _⟩ => ⟨S2x2x8192x128, .i1⟩
  | .hbm, ⟨122, _⟩ => ⟨S_, .f32⟩
  | .hbm, ⟨123, _⟩ => ⟨S_, .f32⟩
  | .hbm, ⟨124, _⟩ => ⟨S2x2x8192x128, .f32⟩
  | .hbm, ⟨125, _⟩ => ⟨S2x2x8192x128, .f32⟩
  | .hbm, ⟨126, _⟩ => ⟨S2x2x8192x128, .f32⟩
  | .hbm, ⟨127, _⟩ => ⟨S2x2x8192x128, .bf16⟩
  | _, _ => ⟨S2x8192x8448, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_v8 : Ref sig .tc := ⟨.hbm, 12, rfl⟩
abbrev main_v9 : Ref sig .tc := ⟨.hbm, 13, rfl⟩
abbrev main_c_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_c_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_c_5 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_c_6 : Ref sig .tc := ⟨.hbm, 54, rfl⟩
abbrev main_v40 : Ref sig .tc := ⟨.hbm, 55, rfl⟩
abbrev main_v41 : Ref sig .tc := ⟨.hbm, 56, rfl⟩
abbrev main_c_7 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_c_8 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_9 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_c_10 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_c_11 : Ref sig .tc := ⟨.hbm, 76, rfl⟩
abbrev main_v57 : Ref sig .tc := ⟨.hbm, 77, rfl⟩
abbrev main_v58 : Ref sig .tc := ⟨.hbm, 78, rfl⟩
abbrev main_c_12 : Ref sig .tc := ⟨.hbm, 79, rfl⟩
abbrev main_v59 : Ref sig .tc := ⟨.hbm, 80, rfl⟩
abbrev main_v60 : Ref sig .tc := ⟨.hbm, 81, rfl⟩
abbrev main_c_13 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_cst_14 : Ref sig .tc := ⟨.hbm, 88, rfl⟩
abbrev main_call1_v0 : Ref sig .tc := ⟨.hbm, 89, rfl⟩
abbrev main_call1_v1 : Ref sig .tc := ⟨.hbm, 90, rfl⟩
abbrev main_call1_v2 : Ref sig .tc := ⟨.hbm, 91, rfl⟩
abbrev main_v66 : Ref sig .tc := ⟨.hbm, 92, rfl⟩
abbrev main_cst_15 : Ref sig .tc := ⟨.hbm, 93, rfl⟩
abbrev main_call2_v0 : Ref sig .tc := ⟨.hbm, 94, rfl⟩
abbrev main_call2_v1 : Ref sig .tc := ⟨.hbm, 95, rfl⟩
abbrev main_call2_v2 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_cst_16 : Ref sig .tc := ⟨.hbm, 114, rfl⟩
abbrev main_v84 : Ref sig .tc := ⟨.hbm, 115, rfl⟩
abbrev main_cst_17 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_cst_18 : Ref sig .tc := ⟨.hbm, 122, rfl⟩
abbrev main_cst_19 : Ref sig .tc := ⟨.hbm, 123, rfl⟩
abbrev main_call3_v0 : Ref sig .tc := ⟨.hbm, 124, rfl⟩
abbrev main_call3_v1 : Ref sig .tc := ⟨.hbm, 125, rfl⟩
abbrev main_v90 : Ref sig .tc := ⟨.hbm, 126, rfl⟩
abbrev main_v91 : Ref sig .tc := ⟨.hbm, 127, rfl⟩

abbrev nD : Nat := 1
abbrev τ : Topo := Topo.v7x

variable {F : FTy → Type} [FloatOps F]
-- ==== Compress.lean ====
abbrev S2x8192x8448 : Shape := ⟨3, ![2, 8192, 8448]⟩
abbrev S32x64 : Shape := ⟨2, ![32, 64]⟩
abbrev S2048x64 : Shape := ⟨2, ![2048, 64]⟩
abbrev S64x64 : Shape := ⟨2, ![64, 64]⟩
abbrev S2x8192x128 : Shape := ⟨3, ![2, 8192, 128]⟩
abbrev S1x2x8192x128 : Shape := ⟨4, ![1, 2, 8192, 128]⟩
abbrev S2x2x8192x128 : Shape := ⟨4, ![2, 2, 8192, 128]⟩
abbrev S2x2x512x16x2x64 : Shape := ⟨6, ![2, 2, 512, 16, 2, 64]⟩
abbrev S2x2x2x512x16x64 : Shape := ⟨6, ![2, 2, 2, 512, 16, 64]⟩
abbrev S2x2x2x512x1024 : Shape := ⟨5, ![2, 2, 2, 512, 1024]⟩
abbrev S1x32x64 : Shape := ⟨3, ![1, 32, 64]⟩
abbrev S2x32x64 : Shape := ⟨3, ![2, 32, 64]⟩
abbrev S1x2048x64 : Shape := ⟨3, ![1, 2048, 64]⟩
abbrev S2x2048x64 : Shape := ⟨3, ![2, 2048, 64]⟩
abbrev S1x64x64 : Shape := ⟨3, ![1, 64, 64]⟩
abbrev S2x64x64 : Shape := ⟨3, ![2, 64, 64]⟩
abbrev S2x16x64 : Shape := ⟨3, ![2, 16, 64]⟩
abbrev S2x1x1024 : Shape := ⟨3, ![2, 1, 1024]⟩
abbrev S2x1024x64 : Shape := ⟨3, ![2, 1024, 64]⟩
abbrev S2x2x2x512x64 : Shape := ⟨5, ![2, 2, 2, 512, 64]⟩
abbrev S1x1x1x512x1024 : Shape := ⟨5, ![1, 1, 1, 512, 1024]⟩
abbrev S1x1x1024 : Shape := ⟨3, ![1, 1, 1024]⟩
abbrev S1x1024x64 : Shape := ⟨3, ![1, 1024, 64]⟩
abbrev S1x1x1x512x64 : Shape := ⟨5, ![1, 1, 1, 512, 64]⟩
abbrev S520x64 : Shape := ⟨2, ![520, 64]⟩
abbrev S512x1024 : Shape := ⟨2, ![512, 1024]⟩
abbrev S1x1024 : Shape := ⟨2, ![1, 1024]⟩
abbrev S1024x64 : Shape := ⟨2, ![1024, 64]⟩
abbrev S512x64 : Shape := ⟨2, ![512, 64]⟩
abbrev S8x64 : Shape := ⟨2, ![8, 64]⟩

abbrev nBuf : Space → Nat
  | .hbm => 33
  | .vmem => 15
  | .smem => 0
  | _ => 0

abbrev bufTy : (tb : Table) → Fin (tcTables nBuf tb) → BufTy
  | .hbm, ⟨0, _⟩ => ⟨S2x8192x8448, .f32⟩
  | .hbm, ⟨1, _⟩ => ⟨S32x64, .f32⟩
  | .hbm, ⟨2, _⟩ => ⟨S2048x64, .f32⟩
  | .hbm, ⟨3, _⟩ => ⟨S64x64, .f32⟩
  | .hbm, ⟨4, _⟩ => ⟨S32x64, .f32⟩
  | .hbm, ⟨5, _⟩ => ⟨S2048x64, .f32⟩
  | .hbm, ⟨6, _⟩ => ⟨S64x64, .f32⟩
  | .hbm, ⟨7, _⟩ => ⟨S2x8192x128, .f32⟩
  | .hbm, ⟨8, _⟩ => ⟨S2x8192x128, .f32⟩
  | .hbm, ⟨9, _⟩ => ⟨S1x2x8192x128, .f32⟩
  | .hbm, ⟨10, _⟩ => ⟨S1x2x8192x128, .f32⟩
  | .hbm, ⟨11, _⟩ => ⟨S2x2x8192x128, .f32⟩
  | .hbm, ⟨12, _⟩ => ⟨S2x2x512x16x2x64, .f32⟩
  | .hbm, ⟨13, _⟩ => ⟨S2x2x2x512x16x64, .f32⟩
  | .hbm, ⟨14, _⟩ => ⟨S2x2x2x512x1024, .f32⟩
  | .hbm, ⟨15, _⟩ => ⟨S1x32x64, .f32⟩
  | .hbm, ⟨16, _⟩ => ⟨S1x32x64, .f32⟩
  | .hbm, ⟨17, _⟩ => ⟨S2x32x64, .f32⟩
  | .hbm, ⟨18, _⟩ => ⟨S1x2048x64, .f32⟩
  | .hbm, ⟨19, _⟩ => ⟨S1x2048x64, .f32⟩
  | .hbm, ⟨20, _⟩ => ⟨S2x2048x64, .f32⟩
  | .hbm, ⟨21, _⟩ => ⟨S2x2048x64, .bf16⟩
  | .hbm, ⟨22, _⟩ => ⟨S1x64x64, .f32⟩
  | .hbm, ⟨23, _⟩ => ⟨S1x64x64, .f32⟩
  | .hbm, ⟨24, _⟩ => ⟨S2x64x64, .f32⟩
  | .hbm, ⟨25, _⟩ => ⟨S2x64x64, .bf16⟩
  | .hbm, ⟨26, _⟩ => ⟨S2x16x64, .f32⟩
  | .hbm, ⟨27, _⟩ => ⟨S2x1x1024, .f32⟩
  | .hbm, ⟨28, _⟩ => ⟨S2x16x64, .f32⟩
  | .hbm, ⟨29, _⟩ => ⟨S2x1x1024, .f32⟩
  | .hbm, ⟨30, _⟩ => ⟨S2x1024x64, .bf16⟩
  | .hbm, ⟨31, _⟩ => ⟨S2x1024x64, .bf16⟩
  | .hbm, ⟨32, _⟩ => ⟨S2x2x2x512x64, .bf16⟩
  | .local _ .vmem, ⟨0, _⟩ => ⟨S1x1x1x512x1024, .f32⟩
  | .local _ .vmem, ⟨1, _⟩ => ⟨S1x1x1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024x64, .bf16⟩
  | .local _ .vmem, ⟨7, _⟩ => ⟨S1x1024x64, .bf16⟩
  | .local _ .vmem, ⟨8, _⟩ => ⟨S1x1024x64, .bf16⟩
  | .local _ .vmem, ⟨9, _⟩ => ⟨S1x1024x64, .bf16⟩
  | .local _ .vmem, ⟨10, _⟩ => ⟨S1x64x64, .bf16⟩
  | .local _ .vmem, ⟨11, _⟩ => ⟨S1x64x64, .bf16⟩
  | .local _ .vmem, ⟨12, _⟩ => ⟨S1x1x1x512x64, .bf16⟩
  | .local _ .vmem, ⟨13, _⟩ => ⟨S1x1x1x512x64, .bf16⟩
  | .local _ .vmem, ⟨14, _⟩ => ⟨S520x64, .f32⟩
  | _, _ => ⟨S2x8192x8448, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![2, 2, 2], ![false, false, false]⟩

def cc0_transform_0 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

abbrev stage0_0 : Fin 2 → Memref sig .tc .vmem S1x1x1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1024x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x1024x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1x64x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S1x1x1x512x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== CompressRefIdeal.lean ====
abbrev S2x8192x8448 : Shape := ⟨3, ![2, 8192, 8448]⟩
abbrev S32x64 : Shape := ⟨2, ![32, 64]⟩
abbrev S2048x64 : Shape := ⟨2, ![2048, 64]⟩
abbrev S64x64 : Shape := ⟨2, ![64, 64]⟩
abbrev S2x8192x128 : Shape := ⟨3, ![2, 8192, 128]⟩
abbrev S2x512x16x2x64 : Shape := ⟨5, ![2, 512, 16, 2, 64]⟩
abbrev S2x511x16x2x64 : Shape := ⟨5, ![2, 511, 16, 2, 64]⟩
abbrev S2x511x32x2x64 : Shape := ⟨5, ![2, 511, 32, 2, 64]⟩
abbrev S32x1x64 : Shape := ⟨3, ![32, 1, 64]⟩
abbrev S1x1x32x1x64 : Shape := ⟨5, ![1, 1, 32, 1, 64]⟩
abbrev S2x2x511x32x64 : Shape := ⟨5, ![2, 2, 511, 32, 64]⟩
abbrev S2x2x511x2048 : Shape := ⟨4, ![2, 2, 511, 2048]⟩
abbrev S2x1x16x2x64 : Shape := ⟨5, ![2, 1, 16, 2, 64]⟩
abbrev S16x64 : Shape := ⟨2, ![16, 64]⟩
abbrev S16x1x64 : Shape := ⟨3, ![16, 1, 64]⟩
abbrev S1x1x16x1x64 : Shape := ⟨5, ![1, 1, 16, 1, 64]⟩
abbrev S2x2x1x16x64 : Shape := ⟨5, ![2, 2, 1, 16, 64]⟩
abbrev S2x2x1x1024 : Shape := ⟨4, ![2, 2, 1, 1024]⟩
abbrev S2x2x511x64 : Shape := ⟨4, ![2, 2, 511, 64]⟩
abbrev S1024x64 : Shape := ⟨2, ![1024, 64]⟩
abbrev S2x2x1x64 : Shape := ⟨4, ![2, 2, 1, 64]⟩
abbrev S2x2x512x64 : Shape := ⟨4, ![2, 2, 512, 64]⟩
abbrev S_ : Shape := ⟨0, ![]⟩
abbrev S1x2x2x512x64 : Shape := ⟨5, ![1, 2, 2, 512, 64]⟩
abbrev S2x2x2x512x64 : Shape := ⟨5, ![2, 2, 2, 512, 64]⟩

abbrev nBuf : Space → Nat
  | .hbm => 77
  | .vmem => 0
  | .smem => 0
  | _ => 0

abbrev bufTy : (tb : Table) → Fin (tcTables nBuf tb) → BufTy
  | .hbm, ⟨0, _⟩ => ⟨S2x8192x8448, .f32⟩
  | .hbm, ⟨1, _⟩ => ⟨S32x64, .f32⟩
  | .hbm, ⟨2, _⟩ => ⟨S2048x64, .f32⟩
  | .hbm, ⟨3, _⟩ => ⟨S64x64, .f32⟩
  | .hbm, ⟨4, _⟩ => ⟨S32x64, .f32⟩
  | .hbm, ⟨5, _⟩ => ⟨S2048x64, .f32⟩
  | .hbm, ⟨6, _⟩ => ⟨S64x64, .f32⟩
  | .hbm, ⟨7, _⟩ => ⟨S2x8192x128, .f32⟩
  | .hbm, ⟨8, _⟩ => ⟨S2x512x16x2x64, .f32⟩
  | .hbm, ⟨9, _⟩ => ⟨S2x511x16x2x64, .f32⟩
  | .hbm, ⟨10, _⟩ => ⟨S2x511x16x2x64, .f32⟩
  | .hbm, ⟨11, _⟩ => ⟨S2x511x32x2x64, .f32⟩
  | .hbm, ⟨12, _⟩ => ⟨S32x1x64, .f32⟩
  | .hbm, ⟨13, _⟩ => ⟨S1x1x32x1x64, .f32⟩
  | .hbm, ⟨14, _⟩ => ⟨S2x511x32x2x64, .f32⟩
  | .hbm, ⟨15, _⟩ => ⟨S2x511x32x2x64, .f32⟩
  | .hbm, ⟨16, _⟩ => ⟨S2x2x511x32x64, .f32⟩
  | .hbm, ⟨17, _⟩ => ⟨S2x2x511x2048, .f32⟩
  | .hbm, ⟨18, _⟩ => ⟨S2x1x16x2x64, .f32⟩
  | .hbm, ⟨19, _⟩ => ⟨S16x64, .f32⟩
  | .hbm, ⟨20, _⟩ => ⟨S16x1x64, .f32⟩
  | .hbm, ⟨21, _⟩ => ⟨S1x1x16x1x64, .f32⟩
  | .hbm, ⟨22, _⟩ => ⟨S2x1x16x2x64, .f32⟩
  | .hbm, ⟨23, _⟩ => ⟨S2x1x16x2x64, .f32⟩
  | .hbm, ⟨24, _⟩ => ⟨S2x2x1x16x64, .f32⟩
  | .hbm, ⟨25, _⟩ => ⟨S2x2x1x1024, .f32⟩
  | .hbm, ⟨26, _⟩ => ⟨S2x2x511x64, .f32⟩
  | .hbm, ⟨27, _⟩ => ⟨S1024x64, .f32⟩
  | .hbm, ⟨28, _⟩ => ⟨S2x2x1x64, .f32⟩
  | .hbm, ⟨29, _⟩ => ⟨S2x2x512x64, .f32⟩
  | .hbm, ⟨30, _⟩ => ⟨S2x2x512x64, .f32⟩
  | .hbm, ⟨31, _⟩ => ⟨S2x2x512x64, .f32⟩
  | .hbm, ⟨32, _⟩ => ⟨S_, .f32⟩
  | .hbm, ⟨33, _⟩ => ⟨S2x2x512x64, .f32⟩
  | .hbm, ⟨34, _⟩ => ⟨S2x2x512x64, .f32⟩
  | .hbm, ⟨35, _⟩ => ⟨S_, .f32⟩
  | .hbm, ⟨36, _⟩ => ⟨S2x2x512x64, .f32⟩
  | .hbm, ⟨37, _⟩ => ⟨S2x2x512x64, .f32⟩
  | .hbm, ⟨38, _⟩ => ⟨S2x2x512x64, .f32⟩
  | .hbm, ⟨39, _⟩ => ⟨S2x2x512x64, .f32⟩
  | .hbm, ⟨40, _⟩ => ⟨S2x8192x128, .f32⟩
  | .hbm, ⟨41, _⟩ => ⟨S2x512x16x2x64, .f32⟩
  | .hbm, ⟨42, _⟩ => ⟨S2x511x16x2x64, .f32⟩
  | .hbm, ⟨43, _⟩ => ⟨S2x511x16x2x64, .f32⟩
  | .hbm, ⟨44, _⟩ => ⟨S2x511x32x2x64, .f32⟩
  | .hbm, ⟨45, _⟩ => ⟨S32x1x64, .f32⟩
  | .hbm, ⟨46, _⟩ => ⟨S1x1x32x1x64, .f32⟩
  | .hbm, ⟨47, _⟩ => ⟨S2x511x32x2x64, .f32⟩
  | .hbm, ⟨48, _⟩ => ⟨S2x511x32x2x64, .f32⟩
  | .hbm, ⟨49, _⟩ => ⟨S2x2x511x32x64, .f32⟩
  | .hbm, ⟨50, _⟩ => ⟨S2x2x511x2048, .f32⟩
  | .hbm, ⟨51, _⟩ => ⟨S2x1x16x2x64, .f32⟩
  | .hbm, ⟨52, _⟩ => ⟨S16x64, .f32⟩
  | .hbm, ⟨53, _⟩ => ⟨S16x1x64, .f32⟩
  | .hbm, ⟨54, _⟩ => ⟨S1x1x16x1x64, .f32⟩
  | .hbm, ⟨55, _⟩ => ⟨S2x1x16x2x64, .f32⟩
  | .hbm, ⟨56, _⟩ => ⟨S2x1x16x2x64, .f32⟩
  | .hbm, ⟨57, _⟩ => ⟨S2x2x1x16x64, .f32⟩
  | .hbm, ⟨58, _⟩ => ⟨S2x2x1x1024, .f32⟩
  | .hbm, ⟨59, _⟩ => ⟨S2x2x511x64, .f32⟩
  | .hbm, ⟨60, _⟩ => ⟨S1024x64, .f32⟩
  | .hbm, ⟨61, _⟩ => ⟨S2x2x1x64, .f32⟩
  | .hbm, ⟨62, _⟩ => ⟨S2x2x512x64, .f32⟩
  | .hbm, ⟨63, _⟩ => ⟨S2x2x512x64, .f32⟩
  | .hbm, ⟨64, _⟩ => ⟨S2x2x512x64, .f32⟩
  | .hbm, ⟨65, _⟩ => ⟨S_, .f32⟩
  | .hbm, ⟨66, _⟩ => ⟨S2x2x512x64, .f32⟩
  | .hbm, ⟨67, _⟩ => ⟨S2x2x512x64, .f32⟩
  | .hbm, ⟨68, _⟩ => ⟨S_, .f32⟩
  | .hbm, ⟨69, _⟩ => ⟨S2x2x512x64, .f32⟩
  | .hbm, ⟨70, _⟩ => ⟨S2x2x512x64, .f32⟩
  | .hbm, ⟨71, _⟩ => ⟨S2x2x512x64, .f32⟩
  | .hbm, ⟨72, _⟩ => ⟨S2x2x512x64, .f32⟩
  | .hbm, ⟨73, _⟩ => ⟨S1x2x2x512x64, .f32⟩
  | .hbm, ⟨74, _⟩ => ⟨S1x2x2x512x64, .f32⟩
  | .hbm, ⟨75, _⟩ => ⟨S2x2x2x512x64, .f32⟩
  | .hbm, ⟨76, _⟩ => ⟨S2x2x2x512x64, .bf16⟩
  | _, _ => ⟨S2x8192x8448, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_call1_v0 : Ref sig .tc := ⟨.hbm, 63, rfl⟩
abbrev main_call1_v1 : Ref sig .tc := ⟨.hbm, 64, rfl⟩
abbrev main_call1_cst : Ref sig .tc := ⟨.hbm, 65, rfl⟩
abbrev main_call1_v2 : Ref sig .tc := ⟨.hbm, 66, rfl⟩
abbrev main_call1_v3 : Ref sig .tc := ⟨.hbm, 67, rfl⟩
abbrev main_call1_cst_0 : Ref sig .tc := ⟨.hbm, 68, rfl⟩
abbrev main_call1_v4 : Ref sig .tc := ⟨.hbm, 69, rfl⟩
abbrev main_call1_v5 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩

abbrev nD : Nat := 1
abbrev τ : Topo := Topo.v7x

variable {F : FTy → Type} [FloatOps F]
-- ==== Slc.lean ====
abbrev S2x8192x8448 : Shape := ⟨3, ![2, 8192, 8448]⟩
abbrev S2x2x8192x128 : Shape := ⟨4, ![2, 2, 8192, 128]⟩
abbrev S2x8192x128 : Shape := ⟨3, ![2, 8192, 128]⟩
abbrev S8192x128 : Shape := ⟨2, ![8192, 128]⟩
abbrev S_ : Shape := ⟨0, ![]⟩
abbrev S2x8192x2x64 : Shape := ⟨4, ![2, 8192, 2, 64]⟩
abbrev S2x2x8192x64 : Shape := ⟨4, ![2, 2, 8192, 64]⟩
abbrev S2x2x8192x192 : Shape := ⟨4, ![2, 2, 8192, 192]⟩
abbrev S8 : Shape := ⟨1, ![8]⟩
abbrev S2x4x1x1 : Shape := ⟨4, ![2, 4, 1, 1]⟩
abbrev S2x4x1x128 : Shape := ⟨4, ![2, 4, 1, 128]⟩
abbrev S2x8192x512 : Shape := ⟨3, ![2, 8192, 512]⟩
abbrev S1x256x256 : Shape := ⟨3, ![1, 256, 256]⟩
abbrev S1x1x256x128 : Shape := ⟨4, ![1, 1, 256, 128]⟩
abbrev S1x1x8192x192 : Shape := ⟨4, ![1, 1, 8192, 192]⟩
abbrev S1x1x8192x64 : Shape := ⟨4, ![1, 1, 8192, 64]⟩
abbrev S1x4x1x128 : Shape := ⟨4, ![1, 4, 1, 128]⟩
abbrev S4x256x192 : Shape := ⟨3, ![4, 256, 192]⟩
abbrev S4x256x1 : Shape := ⟨3, ![4, 256, 1]⟩
abbrev S4x256x64 : Shape := ⟨3, ![4, 256, 64]⟩
abbrev S256x128 : Shape := ⟨2, ![256, 128]⟩
abbrev S1x256x128 : Shape := ⟨3, ![1, 256, 128]⟩
abbrev S1x256x64 : Shape := ⟨3, ![1, 256, 64]⟩
abbrev S256x64 : Shape := ⟨2, ![256, 64]⟩
abbrev S1x512 : Shape := ⟨2, ![1, 512]⟩
abbrev S1x1x512x192 : Shape := ⟨4, ![1, 1, 512, 192]⟩
abbrev S512x192 : Shape := ⟨2, ![512, 192]⟩
abbrev S1x1x512x64 : Shape := ⟨4, ![1, 1, 512, 64]⟩
abbrev S512x64 : Shape := ⟨2, ![512, 64]⟩
abbrev S1x256x192 : Shape := ⟨3, ![1, 256, 192]⟩
abbrev S256x192 : Shape := ⟨2, ![256, 192]⟩
abbrev S256x512 : Shape := ⟨2, ![256, 512]⟩
abbrev S1x1x1x128 : Shape := ⟨4, ![1, 1, 1, 128]⟩
abbrev S1x128 : Shape := ⟨2, ![1, 128]⟩
abbrev S1x1 : Shape := ⟨2, ![1, 1]⟩
abbrev S1x256x1 : Shape := ⟨3, ![1, 256, 1]⟩
abbrev S256x1 : Shape := ⟨2, ![256, 1]⟩
abbrev S256 : Shape := ⟨1, ![256]⟩

abbrev nBuf : Space → Nat
  | .hbm => 51
  | .vmem => 16
  | .smem => 0
  | _ => 0

abbrev bufTy : (tb : Table) → Fin (tcTables nBuf tb) → BufTy
  | .hbm, ⟨0, _⟩ => ⟨S2x8192x8448, .f32⟩
  | .hbm, ⟨1, _⟩ => ⟨S2x2x8192x128, .bf16⟩
  | .hbm, ⟨2, _⟩ => ⟨S2x8192x128, .f32⟩
  | .hbm, ⟨3, _⟩ => ⟨S2x8192x128, .f32⟩
  | .hbm, ⟨4, _⟩ => ⟨S8192x128, .i32⟩
  | .hbm, ⟨5, _⟩ => ⟨S_, .i32⟩
  | .hbm, ⟨6, _⟩ => ⟨S_, .i32⟩
  | .hbm, ⟨7, _⟩ => ⟨S8192x128, .i32⟩
  | .hbm, ⟨8, _⟩ => ⟨S8192x128, .i32⟩
  | .hbm, ⟨9, _⟩ => ⟨S8192x128, .i32⟩
  | .hbm, ⟨10, _⟩ => ⟨S_, .i32⟩
  | .hbm, ⟨11, _⟩ => ⟨S8192x128, .i32⟩
  | .hbm, ⟨12, _⟩ => ⟨S8192x128, .i1⟩
  | .hbm, ⟨13, _⟩ => ⟨S8192x128, .i32⟩
  | .hbm, ⟨14, _⟩ => ⟨S8192x128, .i32⟩
  | .hbm, ⟨15, _⟩ => ⟨S_, .i32⟩
  | .hbm, ⟨16, _⟩ => ⟨S8192x128, .i32⟩
  | .hbm, ⟨17, _⟩ => ⟨S8192x128, .i1⟩
  | .hbm, ⟨18, _⟩ => ⟨S8192x128, .i1⟩
  | .hbm, ⟨19, _⟩ => ⟨S_, .i32⟩
  | .hbm, ⟨20, _⟩ => ⟨S8192x128, .i32⟩
  | .hbm, ⟨21, _⟩ => ⟨S8192x128, .i32⟩
  | .hbm, ⟨22, _⟩ => ⟨S8192x128, .i32⟩
  | .hbm, ⟨23, _⟩ => ⟨S8192x128, .i32⟩
  | .hbm, ⟨24, _⟩ => ⟨S8192x128, .i1⟩
  | .hbm, ⟨25, _⟩ => ⟨S8192x128, .f32⟩
  | .hbm, ⟨26, _⟩ => ⟨S8192x128, .bf16⟩
  | .hbm, ⟨27, _⟩ => ⟨S2x2x8192x128, .bf16⟩
  | .hbm, ⟨28, _⟩ => ⟨S2x8192x2x64, .f32⟩
  | .hbm, ⟨29, _⟩ => ⟨S2x2x8192x64, .f32⟩
  | .hbm, ⟨30, _⟩ => ⟨S2x2x8192x64, .bf16⟩
  | .hbm, ⟨31, _⟩ => ⟨S2x2x8192x192, .bf16⟩
  | .hbm, ⟨32, _⟩ => ⟨S2x8192x2x64, .f32⟩
  | .hbm, ⟨33, _⟩ => ⟨S2x2x8192x64, .f32⟩
  | .hbm, ⟨34, _⟩ => ⟨S2x2x8192x64, .bf16⟩
  | .hbm, ⟨35, _⟩ => ⟨S8, .f32⟩
  | .hbm, ⟨36, _⟩ => ⟨S_, .f32⟩
  | .hbm, ⟨37, _⟩ => ⟨S8, .f32⟩
  | .hbm, ⟨38, _⟩ => ⟨S8, .f32⟩
  | .hbm, ⟨39, _⟩ => ⟨S_, .f32⟩
  | .hbm, ⟨40, _⟩ => ⟨S8, .f32⟩
  | .hbm, ⟨41, _⟩ => ⟨S8, .f32⟩
  | .hbm, ⟨42, _⟩ => ⟨S_, .f32⟩
  | .hbm, ⟨43, _⟩ => ⟨S8, .f32⟩
  | .hbm, ⟨44, _⟩ => ⟨S8, .f32⟩
  | .hbm, ⟨45, _⟩ => ⟨S_, .f32⟩
  | .hbm, ⟨46, _⟩ => ⟨S8, .f32⟩
  | .hbm, ⟨47, _⟩ => ⟨S8, .f32⟩
  | .hbm, ⟨48, _⟩ => ⟨S2x4x1x1, .f32⟩
  | .hbm, ⟨49, _⟩ => ⟨S2x4x1x128, .f32⟩
  | .hbm, ⟨50, _⟩ => ⟨S2x8192x512, .f32⟩
  | .local _ .vmem, ⟨0, _⟩ => ⟨S1x256x256, .f32⟩
  | .local _ .vmem, ⟨1, _⟩ => ⟨S1x256x256, .f32⟩
  | .local _ .vmem, ⟨2, _⟩ => ⟨S1x1x256x128, .bf16⟩
  | .local _ .vmem, ⟨3, _⟩ => ⟨S1x1x256x128, .bf16⟩
  | .local _ .vmem, ⟨4, _⟩ => ⟨S1x1x8192x192, .bf16⟩
  | .local _ .vmem, ⟨5, _⟩ => ⟨S1x1x8192x192, .bf16⟩
  | .local _ .vmem, ⟨6, _⟩ => ⟨S1x1x8192x64, .bf16⟩
  | .local _ .vmem, ⟨7, _⟩ => ⟨S1x1x8192x64, .bf16⟩
  | .local _ .vmem, ⟨8, _⟩ => ⟨S1x4x1x128, .f32⟩
  | .local _ .vmem, ⟨9, _⟩ => ⟨S1x4x1x128, .f32⟩
  | .local _ .vmem, ⟨10, _⟩ => ⟨S1x256x256, .f32⟩
  | .local _ .vmem, ⟨11, _⟩ => ⟨S1x256x256, .f32⟩
  | .local _ .vmem, ⟨12, _⟩ => ⟨S4x256x192, .bf16⟩
  | .local _ .vmem, ⟨13, _⟩ => ⟨S4x256x1, .f32⟩
  | .local _ .vmem, ⟨14, _⟩ => ⟨S4x256x1, .f32⟩
  | .local _ .vmem, ⟨15, _⟩ => ⟨S4x256x64, .f32⟩
  | _, _ => ⟨S2x8192x8448, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_c : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_0 : Ref sig .tc := ⟨.hbm, 19, rfl⟩
abbrev main_call0_v12 : Ref sig .tc := ⟨.hbm, 20, rfl⟩
abbrev main_call0_v13 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_cst : Ref sig .tc := ⟨.hbm, 36, rfl⟩
abbrev main_v17 : Ref sig .tc := ⟨.hbm, 37, rfl⟩
abbrev main_v18 : Ref sig .tc := ⟨.hbm, 38, rfl⟩
abbrev main_cst_0 : Ref sig .tc := ⟨.hbm, 39, rfl⟩
abbrev main_v19 : Ref sig .tc := ⟨.hbm, 40, rfl⟩
abbrev main_v20 : Ref sig .tc := ⟨.hbm, 41, rfl⟩
abbrev main_cst_1 : Ref sig .tc := ⟨.hbm, 42, rfl⟩
abbrev main_v21 : Ref sig .tc := ⟨.hbm, 43, rfl⟩
abbrev main_v22 : Ref sig .tc := ⟨.hbm, 44, rfl⟩
abbrev main_cst_2 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 2, 32], ![false, false, false]⟩

@[reducible] def k0_t1_loop (i : grid0.Coords) : Scf.Loop 32 :=
  let c0_i32_48 : BitVec 32 := 0#32
  let arg2 : BitVec 32 := BitVec.ofNat 32 (i 2).val
  let c256_i32 : BitVec 32 := 256#32
  let v0 : BitVec 32 := Scalar.muli arg2 c256_i32
  let c512_i32 : BitVec 32 := 512#32
  let v60 : BitVec 32 := Scalar.divsi v0 c512_i32
  let v61 : BitVec 32 := Scalar.subi v60 c0_i32_48
  let c1_i32 : BitVec 32 := 1#32
  let v63 : BitVec 32 := Scalar.divsi v61 c1_i32
  let v64 : BitVec 32 := Scalar.muli v63 c1_i32
  let v65 : BitVec 32 := Scalar.addi c0_i32_48 v64
  let c1_i32_49 : BitVec 32 := 1#32
  ⟨c0_i32_48, v65, c1_i32_49⟩
def k0_mult1 (i : grid0.Coords) (k0_t1 : Fin (k0_t1_loop i).trips) : BitVec 32 :=
  let c0_i32_48 : BitVec 32 := 0#32
  let c1_i32_49 : BitVec 32 := 1#32
  let arg13 : BitVec 32 := Scf.iv c0_i32_48 c1_i32_49 k0_t1
  let c512_i32_214 : BitVec 32 := 512#32
  let v297 : BitVec 32 := Scalar.muli arg13 c512_i32_214
  v297
def k0_off1 (i : grid0.Coords) (k0_t1 : Fin (k0_t1_loop i).trips) : Fin 4 → Nat :=
  let c0_215 : Index := 0#32
  let c0_216 : Index := 0#32
  let c0_i32_48 : BitVec 32 := 0#32
  let c1_i32_49 : BitVec 32 := 1#32
  let arg13 : BitVec 32 := Scf.iv c0_i32_48 c1_i32_49 k0_t1
  let c512_i32_214 : BitVec 32 := 512#32
  let v297 : BitVec 32 := Scalar.muli arg13 c512_i32_214
  let v298 : BitVec 32 := v297
  let v299 : Index := Scalar.indexCast v298
  let c0_217 : Index := 0#32
  ![0, 0, v299.toNat, 0]
def k0_off2 (i : grid0.Coords) (k0_t1 : Fin (k0_t1_loop i).trips) : Fin 4 → Nat :=
  let c0_218 : Index := 0#32
  let c0_219 : Index := 0#32
  let c0_i32_48 : BitVec 32 := 0#32
  let c1_i32_49 : BitVec 32 := 1#32
  let arg13 : BitVec 32 := Scf.iv c0_i32_48 c1_i32_49 k0_t1
  let c512_i32_214 : BitVec 32 := 512#32
  let v297 : BitVec 32 := Scalar.muli arg13 c512_i32_214
  let v298 : BitVec 32 := v297
  let v302 : Index := Scalar.indexCast v298
  let c0_220 : Index := 0#32
  ![0, 0, v302.toNat, 0]
@[reducible] def k0_t2_loop (i : grid0.Coords) : Scf.Loop 32 :=
  let c0_i32_48 : BitVec 32 := 0#32
  let arg2 : BitVec 32 := BitVec.ofNat 32 (i 2).val
  let c256_i32 : BitVec 32 := 256#32
  let v0 : BitVec 32 := Scalar.muli arg2 c256_i32
  let c512_i32 : BitVec 32 := 512#32
  let v60 : BitVec 32 := Scalar.divsi v0 c512_i32
  let v61 : BitVec 32 := Scalar.subi v60 c0_i32_48
  let c1_i32 : BitVec 32 := 1#32
  let v63 : BitVec 32 := Scalar.divsi v61 c1_i32
  let v64 : BitVec 32 := Scalar.muli v63 c1_i32
  let v65 : BitVec 32 := Scalar.addi c0_i32_48 v64
  let v62 : BitVec 32 := Scalar.addi c0_i32_48 v61
  let c1_i32_50 : BitVec 32 := 1#32
  ⟨v65, v62, c1_i32_50⟩
def k0_mult2 (i : grid0.Coords) (k0_t2 : Fin (k0_t2_loop i).trips) : BitVec 32 :=
  let c0_i32_48 : BitVec 32 := 0#32
  let arg2 : BitVec 32 := BitVec.ofNat 32 (i 2).val
  let c256_i32 : BitVec 32 := 256#32
  let v0 : BitVec 32 := Scalar.muli arg2 c256_i32
  let c512_i32 : BitVec 32 := 512#32
  let v60 : BitVec 32 := Scalar.divsi v0 c512_i32
  let v61 : BitVec 32 := Scalar.subi v60 c0_i32_48
  let c1_i32 : BitVec 32 := 1#32
  let v63 : BitVec 32 := Scalar.divsi v61 c1_i32
  let v64 : BitVec 32 := Scalar.muli v63 c1_i32
  let v65 : BitVec 32 := Scalar.addi c0_i32_48 v64
  let c1_i32_50 : BitVec 32 := 1#32
  let arg13 : BitVec 32 := Scf.iv v65 c1_i32_50 k0_t2
  let c512_i32_214 : BitVec 32 := 512#32
  let v297 : BitVec 32 := Scalar.muli arg13 c512_i32_214
  v297
def k0_off3 (i : grid0.Coords) (k0_t2 : Fin (k0_t2_loop i).trips) : Fin 4 → Nat :=
  let c0_215 : Index := 0#32
  let c0_216 : Index := 0#32
  let c0_i32_48 : BitVec 32 := 0#32
  let arg2 : BitVec 32 := BitVec.ofNat 32 (i 2).val
  let c256_i32 : BitVec 32 := 256#32
  let v0 : BitVec 32 := Scalar.muli arg2 c256_i32
  let c512_i32 : BitVec 32 := 512#32
  let v60 : BitVec 32 := Scalar.divsi v0 c512_i32
  let v61 : BitVec 32 := Scalar.subi v60 c0_i32_48
  let c1_i32 : BitVec 32 := 1#32
  let v63 : BitVec 32 := Scalar.divsi v61 c1_i32
  let v64 : BitVec 32 := Scalar.muli v63 c1_i32
  let v65 : BitVec 32 := Scalar.addi c0_i32_48 v64
  let c1_i32_50 : BitVec 32 := 1#32
  let arg13 : BitVec 32 := Scf.iv v65 c1_i32_50 k0_t2
  let c512_i32_214 : BitVec 32 := 512#32
  let v297 : BitVec 32 := Scalar.muli arg13 c512_i32_214
  let v298 : BitVec 32 := v297
  let v299 : Index := Scalar.indexCast v298
  let c0_217 : Index := 0#32
  ![0, 0, v299.toNat, 0]
def k0_off4 (i : grid0.Coords) (k0_t2 : Fin (k0_t2_loop i).trips) : Fin 4 → Nat :=
  let c0_218 : Index := 0#32
  let c0_219 : Index := 0#32
  let c0_i32_48 : BitVec 32 := 0#32
  let arg2 : BitVec 32 := BitVec.ofNat 32 (i 2).val
  let c256_i32 : BitVec 32 := 256#32
  let v0 : BitVec 32 := Scalar.muli arg2 c256_i32
  let c512_i32 : BitVec 32 := 512#32
  let v60 : BitVec 32 := Scalar.divsi v0 c512_i32
  let v61 : BitVec 32 := Scalar.subi v60 c0_i32_48
  let c1_i32 : BitVec 32 := 1#32
  let v63 : BitVec 32 := Scalar.divsi v61 c1_i32
  let v64 : BitVec 32 := Scalar.muli v63 c1_i32
  let v65 : BitVec 32 := Scalar.addi c0_i32_48 v64
  let c1_i32_50 : BitVec 32 := 1#32
  let arg13 : BitVec 32 := Scf.iv v65 c1_i32_50 k0_t2
  let c512_i32_214 : BitVec 32 := 512#32
  let v297 : BitVec 32 := Scalar.muli arg13 c512_i32_214
  let v298 : BitVec 32 := v297
  let v302 : Index := Scalar.indexCast v298
  let c0_220 : Index := 0#32
  ![0, 0, v302.toNat, 0]
def k0_mult3 (i : grid0.Coords) : BitVec 32 :=
  let arg2 : BitVec 32 := BitVec.ofNat 32 (i 2).val
  let c256_i32 : BitVec 32 := 256#32
  let v0 : BitVec 32 := Scalar.muli arg2 c256_i32
  let c512_i32 : BitVec 32 := 512#32
  let v60 : BitVec 32 := Scalar.divsi v0 c512_i32
  let c512_i32_51 : BitVec 32 := 512#32
  let v66 : BitVec 32 := Scalar.muli v60 c512_i32_51
  v66
def k0_off5 (i : grid0.Coords) : Fin 4 → Nat :=
  let c0_52 : Index := 0#32
  let c0_53 : Index := 0#32
  let arg2 : BitVec 32 := BitVec.ofNat 32 (i 2).val
  let c256_i32 : BitVec 32 := 256#32
  let v0 : BitVec 32 := Scalar.muli arg2 c256_i32
  let c512_i32 : BitVec 32 := 512#32
  let v60 : BitVec 32 := Scalar.divsi v0 c512_i32
  let c512_i32_51 : BitVec 32 := 512#32
  let v66 : BitVec 32 := Scalar.muli v60 c512_i32_51
  let v67 : BitVec 32 := v66
  let v68 : Index := Scalar.indexCast v67
  let c0_54 : Index := 0#32
  ![0, 0, v68.toNat, 0]
def k0_off6 (i : grid0.Coords) : Fin 4 → Nat :=
  let c0_55 : Index := 0#32
  let c0_56 : Index := 0#32
  let arg2 : BitVec 32 := BitVec.ofNat 32 (i 2).val
  let c256_i32 : BitVec 32 := 256#32
  let v0 : BitVec 32 := Scalar.muli arg2 c256_i32
  let c512_i32 : BitVec 32 := 512#32
  let v60 : BitVec 32 := Scalar.divsi v0 c512_i32
  let c512_i32_51 : BitVec 32 := 512#32
  let v66 : BitVec 32 := Scalar.muli v60 c512_i32_51
  let v67 : BitVec 32 := v66
  let v71 : Index := Scalar.indexCast v67
  let c0_57 : Index := 0#32
  ![0, 0, v71.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c20_i32 : BitVec 32 := 20#32
  let v0 : BitVec 32 := Scalar.addi c20_i32 arg1
  let c0_i32 : BitVec 32 := 0#32
  ![arg0.toNat, arg2.toNat, v0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x8192x192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x8192x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x4x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== SlcIdeal.lean ====
variable {F : FTy → Type} [FloatOps F] [Named F]
def κ : String → Option EReal := fun
  | "mask" => some ⊥
  | _ => none
-- ==== MLstm.lean ====
abbrev S2x8192x8448 : Shape := ⟨3, ![2, 8192, 8448]⟩
abbrev S4 : Shape := ⟨1, ![4]⟩
abbrev S4x2048 : Shape := ⟨2, ![4, 2048]⟩
abbrev S2048 : Shape := ⟨1, ![2048]⟩
abbrev S1024 : Shape := ⟨1, ![1024]⟩
abbrev S2x8192x8 : Shape := ⟨3, ![2, 8192, 8]⟩
abbrev S2x8x8192 : Shape := ⟨3, ![2, 8, 8192]⟩
abbrev S2x8x8192x1 : Shape := ⟨4, ![2, 8, 8192, 1]⟩
abbrev S2x8x1x8192 : Shape := ⟨4, ![2, 8, 1, 8192]⟩
abbrev S4x1x1 : Shape := ⟨3, ![4, 1, 1]⟩
abbrev S1x2048 : Shape := ⟨2, ![1, 2048]⟩
abbrev S1x1024 : Shape := ⟨2, ![1, 1024]⟩
abbrev S2x8192x1024 : Shape := ⟨3, ![2, 8192, 1024]⟩
abbrev S1x256x256 : Shape := ⟨3, ![1, 256, 256]⟩
abbrev S1x1x256x1 : Shape := ⟨4, ![1, 1, 256, 1]⟩
abbrev S1x1x1x256 : Shape := ⟨4, ![1, 1, 1, 256]⟩
abbrev S1x1x1 : Shape := ⟨3, ![1, 1, 1]⟩
abbrev S4x256 : Shape := ⟨2, ![4, 256]⟩
abbrev S1x256 : Shape := ⟨2, ![1, 256]⟩
abbrev S264x256 : Shape := ⟨2, ![264, 256]⟩
abbrev S256x256 : Shape := ⟨2, ![256, 256]⟩
abbrev S1x1 : Shape := ⟨2, ![1, 1]⟩
abbrev S8x256 : Shape := ⟨2, ![8, 256]⟩
abbrev S256x1 : Shape := ⟨2, ![256, 1]⟩
abbrev S256 : Shape := ⟨1, ![256]⟩
abbrev S1 : Shape := ⟨1, ![1]⟩

abbrev nBuf : Space → Nat
  | .hbm => 15
  | .vmem => 39
  | .smem => 0
  | _ => 0

abbrev bufTy : (tb : Table) → Fin (tcTables nBuf tb) → BufTy
  | .hbm, ⟨0, _⟩ => ⟨S2x8192x8448, .f32⟩
  | .hbm, ⟨1, _⟩ => ⟨S4, .f32⟩
  | .hbm, ⟨2, _⟩ => ⟨S4, .f32⟩
  | .hbm, ⟨3, _⟩ => ⟨S4x2048, .f32⟩
  | .hbm, ⟨4, _⟩ => ⟨S2048, .f32⟩
  | .hbm, ⟨5, _⟩ => ⟨S1024, .f32⟩
  | .hbm, ⟨6, _⟩ => ⟨S2x8192x8, .f32⟩
  | .hbm, ⟨7, _⟩ => ⟨S2x8x8192, .f32⟩
  | .hbm, ⟨8, _⟩ => ⟨S2x8x8192x1, .f32⟩
  | .hbm, ⟨9, _⟩ => ⟨S2x8x1x8192, .f32⟩
  | .hbm, ⟨10, _⟩ => ⟨S4x1x1, .f32⟩
  | .hbm, ⟨11, _⟩ => ⟨S4x1x1, .f32⟩
  | .hbm, ⟨12, _⟩ => ⟨S1x2048, .f32⟩
  | .hbm, ⟨13, _⟩ => ⟨S1x1024, .f32⟩
  | .hbm, ⟨14, _⟩ => ⟨S2x8192x1024, .bf16⟩
  | .local _ .vmem, ⟨0, _⟩ => ⟨S1x256x256, .f32⟩
  | .local _ .vmem, ⟨1, _⟩ => ⟨S1x256x256, .f32⟩
  | .local _ .vmem, ⟨2, _⟩ => ⟨S1x256x256, .f32⟩
  | .local _ .vmem, ⟨3, _⟩ => ⟨S1x256x256, .f32⟩
  | .local _ .vmem, ⟨4, _⟩ => ⟨S1x256x256, .f32⟩
  | .local _ .vmem, ⟨5, _⟩ => ⟨S1x256x256, .f32⟩
  | .local _ .vmem, ⟨6, _⟩ => ⟨S1x256x256, .f32⟩
  | .local _ .vmem, ⟨7, _⟩ => ⟨S1x256x256, .f32⟩
  | .local _ .vmem, ⟨8, _⟩ => ⟨S1x256x256, .f32⟩
  | .local _ .vmem, ⟨9, _⟩ => ⟨S1x256x256, .f32⟩
  | .local _ .vmem, ⟨10, _⟩ => ⟨S1x1x256x1, .f32⟩
  | .local _ .vmem, ⟨11, _⟩ => ⟨S1x1x256x1, .f32⟩
  | .local _ .vmem, ⟨12, _⟩ => ⟨S1x1x256x1, .f32⟩
  | .local _ .vmem, ⟨13, _⟩ => ⟨S1x1x256x1, .f32⟩
  | .local _ .vmem, ⟨14, _⟩ => ⟨S1x1x1x256, .f32⟩
  | .local _ .vmem, ⟨15, _⟩ => ⟨S1x1x1x256, .f32⟩
  | .local _ .vmem, ⟨16, _⟩ => ⟨S1x1x1x256, .f32⟩
  | .local _ .vmem, ⟨17, _⟩ => ⟨S1x1x1x256, .f32⟩
  | .local _ .vmem, ⟨18, _⟩ => ⟨S1x1x1, .f32⟩
  | .local _ .vmem, ⟨19, _⟩ => ⟨S1x1x1, .f32⟩
  | .local _ .vmem, ⟨20, _⟩ => ⟨S1x1x1, .f32⟩
  | .local _ .vmem, ⟨21, _⟩ => ⟨S1x1x1, .f32⟩
  | .local _ .vmem, ⟨22, _⟩ => ⟨S4x256, .f32⟩
  | .local _ .vmem, ⟨23, _⟩ => ⟨S4x256, .f32⟩
  | .local _ .vmem, ⟨24, _⟩ => ⟨S4x256, .f32⟩
  | .local _ .vmem, ⟨25, _⟩ => ⟨S4x256, .f32⟩
  | .local _ .vmem, ⟨26, _⟩ => ⟨S1x256, .f32⟩
  | .local _ .vmem, ⟨27, _⟩ => ⟨S1x256, .f32⟩
  | .local _ .vmem, ⟨28, _⟩ => ⟨S1x256, .f32⟩
  | .local _ .vmem, ⟨29, _⟩ => ⟨S1x256, .f32⟩
  | .local _ .vmem, ⟨30, _⟩ => ⟨S1x256, .f32⟩
  | .local _ .vmem, ⟨31, _⟩ => ⟨S1x256, .f32⟩
  | .local _ .vmem, ⟨32, _⟩ => ⟨S1x256x256, .bf16⟩
  | .local _ .vmem, ⟨33, _⟩ => ⟨S1x256x256, .bf16⟩
  | .local _ .vmem, ⟨34, _⟩ => ⟨S264x256, .f32⟩
  | .local _ .vmem, ⟨35, _⟩ => ⟨S264x256, .f32⟩
  | .local _ .vmem, ⟨36, _⟩ => ⟨S256x256, .f32⟩
  | .local _ .vmem, ⟨37, _⟩ => ⟨S1x256, .f32⟩
  | .local _ .vmem, ⟨38, _⟩ => ⟨S1x1, .f32⟩
  | _, _ => ⟨S2x8192x8448, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_scratch0 : Ref sig .tc := ⟨.vmem, 34, rfl⟩
abbrev cc0_scratch1 : Ref sig .tc := ⟨.vmem, 35, rfl⟩
abbrev cc0_scratch2 : Ref sig .tc := ⟨.vmem, 36, rfl⟩
abbrev cc0_scratch3 : Ref sig .tc := ⟨.vmem, 37, rfl⟩
abbrev cc0_scratch4 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33

abbrev nD : Nat := 1
abbrev τ : Topo := Topo.v7x

variable {F : FTy → Type} [FloatOps F]

abbrev grid0 : Pipeline.Grid := ⟨3, ![2, 4, 32], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, arg2.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi c12_i32 arg1
  let c0_i32 : BitVec 32 := 0#32
  ![arg0.toNat, arg2.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, arg2.toNat, v0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  ![arg0.toNat, v0.toNat, arg2.toNat, c0_i32.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  ![arg0.toNat, v0.toNat, c0_i32.toNat, arg2.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_13 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_14 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_15 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_16 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x256x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1x1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x1x1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x1x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true, false]

abbrev stage0_10 : Fin 2 → Memref sig .tc .vmem S1x1x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true, false]

abbrev stage0_11 : Fin 2 → Memref sig .tc .vmem S4x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true, false]

abbrev stage0_12 : Fin 2 → Memref sig .tc .vmem S4x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true, false]

abbrev stage0_13 : Fin 2 → Memref sig .tc .vmem S1x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true, false]

abbrev stage0_14 : Fin 2 → Memref sig .tc .vmem S1x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![false, true, false]

abbrev stage0_15 : Fin 2 → Memref sig .tc .vmem S1x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![false, true, false]

abbrev stage0_16 : Fin 2 → Memref sig .tc .vmem S1x256x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true, true]
-- ==== MLstmIdeal.lean ====
variable {F : FTy → Type} [FloatOps F] [Named F]
def κ : String → Option EReal := fun
  | "mask" => some ⊥
  | _ => none
-- ==== Proof.Words.lean ====
module

public import Idealize.ShloMosaic.Lib.Pipeline.ValueKit
public import Idealize.ShloMosaic.PureOps.Ideal

@[expose] public section

noncomputable section

/-! # Positions as 32-bit words -/

namespace Cert.Words

open Idealize.ShloMosaic

/-- A difference of positions, read signed. -/
theorem dist_toInt (t s : ℕ) (ht : t < 65536) (hs : s < 65536) :
    (IntOp.subi (BitVec.ofNat 32 t) (BitVec.ofNat 32 s)).toInt = (t : ℤ) - s := by
  simp only [IntOp.subi, BitVec.toInt_sub, BitVec.toInt_ofNat']
  simp only [Int.bmod_def]
  omega

/-- A small natural number as a word, read signed. -/
theorem lit_toInt (n : ℕ) (h : n < 1073741824) : (BitVec.ofNat 32 n).toInt = (n : ℤ) := by
  simp only [BitVec.toInt_ofNat', Int.bmod_def]
  omega

/-- A difference of small words, read signed. -/
theorem sub_toInt (x y : BitVec 32) (a b : ℤ) (hx : x.toInt = a) (hy : y.toInt = b) (h : -2147483648 ≤ a - b)
    (h' : a - b < 2147483648) : (IntOp.subi x y).toInt = a - b := by
  rw [IntOp.subi, BitVec.toInt_sub, hx, hy, Int.bmod_def]
  omega

/-- A sum of small words, read signed. -/
theorem add_toInt (x y : BitVec 32) (a b : ℤ) (hx : x.toInt = a) (hy : y.toInt = b) (h : -2147483648 ≤ a + b)
    (h' : a + b < 2147483648) : (IntOp.addi x y).toInt = a + b := by
  rw [IntOp.addi, BitVec.toInt_add, hx, hy, Int.bmod_def]
  omega

/-- A block's first position, read signed. -/
theorem block_toInt (n : ℕ) (hn : n < 4096) : (Scalar.muli (BitVec.ofNat 32 n) 128#32).toInt = (n : ℤ) * 128 := by
  rw [Scalar.muli, IntOp.muli, BitVec.toInt_mul, lit_toInt n (by omega), show (128#32).toInt = 128 by decide, Int.bmod_def]
  omega

/-- A key counted from `k` back. -/
theorem key_toInt (c k : ℕ) (hc : c < 65536) (hk : k < 65536) :
    (IntOp.subi (BitVec.ofNat 32 c) (BitVec.ofNat 32 k)).toInt = (c : ℤ) - k :=
  sub_toInt _ _ _ _ (lit_toInt c (by omega)) (lit_toInt k (by omega)) (by omega) (by omega)

/-- A row less a key counted from `k` back. -/
theorem back_toInt (r c k : ℕ) (hr : r < 65536) (hc : c < 65536) (hk : k < 65536) :
    (IntOp.subi (BitVec.ofNat 32 r) (IntOp.subi (BitVec.ofNat 32 c) (BitVec.ofNat 32 k))).toInt = (r : ℤ) - ((c : ℤ) - k) :=
  sub_toInt _ _ _ _ (lit_toInt r (by omega)) (key_toInt c k hc hk) (by omega) (by omega)

/-- The same difference with its sign changed. -/
theorem fore_toInt (r c k : ℕ) (hr : r < 65536) (hc : c < 65536) (hk : k < 65536) :
    (IntOp.subi 0#32 (IntOp.subi (BitVec.ofNat 32 r) (IntOp.subi (BitVec.ofNat 32 c) (BitVec.ofNat 32 k)))).toInt
      = 0 - ((r : ℤ) - ((c : ℤ) - k)) :=
  sub_toInt _ _ _ _ (by decide) (back_toInt r c k hr hc hk) (by omega) (by omega)

/-- The position of a key counted from `k` back in block `n`. -/
theorem pos_toInt (c k n : ℕ) (hc : c < 65536) (hk : k < 65536) (hn : n < 4096) :
    (IntOp.addi (IntOp.subi (BitVec.ofNat 32 c) (BitVec.ofNat 32 k)) (Scalar.muli (BitVec.ofNat 32 n) 128#32)).toInt
      = (c : ℤ) - k + n * 128 :=
  add_toInt _ _ _ _ (key_toInt c k hc hk) (block_toInt n hn) (by omega) (by omega)

/-- A bit chooses as its proposition does. -/
theorem select_ite {α : Type} (p : Prop) [Decidable p] (x y : α) :
    Scalar.select (if p then 1#1 else 0#1) x y = if p then x else y := by
  by_cases h : p <;> simp [h, Scalar.select]

/-- At least, as a bit. -/
theorem sge_ite (x y : BitVec 32) : IntOp.cmpi .sge x y = if y.toInt ≤ x.toInt then 1#1 else 0#1 := by
  simp only [IntOp.cmpi, BitVec.sle]
  by_cases h : y.toInt ≤ x.toInt <;> simp [h]

/-- Less, as a bit. -/
theorem slt_ite (x y : BitVec 32) : IntOp.cmpi .slt x y = if x.toInt < y.toInt then 1#1 else 0#1 := by
  simp only [IntOp.cmpi, BitVec.slt]
  by_cases h : x.toInt < y.toInt <;> simp [h]

/-- Both, as a bit. -/
theorem and_ite (p q : Prop) [Decidable p] [Decidable q] :
    IntOp.andi (if p then 1#1 else 0#1) (if q then 1#1 else 0#1) = if p ∧ q then 1#1 else 0#1 := by
  by_cases h : p <;> by_cases h' : q <;> simp [h, h', IntOp.andi]

/-- Eight, as the single-precision literal. -/
theorem lit_eight : Ideal.ofBits .f32 0x41000000#32 = ((8 : ℝ) : EReal) := by
  simp [Ideal.ofBits, Ideal.ieee, -EReal.coe_mul]; norm_num

/-- Minus eight. -/
theorem lit_neg_eight : Ideal.ofBits .f32 0xC1000000#32 = ((-8 : ℝ) : EReal) := by
  simp [Ideal.ofBits, Ideal.ieee, -EReal.coe_mul]; norm_num

/-- Two. -/
theorem lit_two : Ideal.ofBits .f32 0x40000000#32 = ((2 : ℝ) : EReal) := by
  simp [Ideal.ofBits, Ideal.ieee, -EReal.coe_mul]; norm_num

/-- One. -/
theorem lit_one : Ideal.ofBits .f32 0x3F800000#32 = ((1 : ℝ) : EReal) := by
  simp [Ideal.ofBits, Ideal.ieee, -EReal.coe_mul]; norm_num

/-- One eighth. -/
theorem lit_eighth : Ideal.ofBits .f32 0x3E000000#32 = ((1 / 8 : ℝ) : EReal) := by
  simp [Ideal.ofBits, Ideal.ieee, -EReal.coe_mul]; norm_num

/-- Minus infinity. -/
theorem lit_bot : Ideal.ofBits .f32 0xFF800000#32 = ⊥ := by
  simp [Ideal.ofBits, Ideal.ieee]

/-- Infinity. -/
theorem lit_top : Ideal.ofBits .f32 0x7F800000#32 = ⊤ := by
  simp [Ideal.ofBits, Ideal.ieee]

/-- The slope of head `n`. -/
def slope (n : ℕ) : EReal :=
  Ideal.pow (Ideal.ofBits .f32 0x40000000#32)
    (Ideal.div (Ideal.ofBits .f32 0xC1000000#32 * (1 + ((((BitVec.ofNat 32 n).toInt : ℤ) : ℝ) : EReal)))
      (Ideal.ofBits .f32 0x41000000#32))

/-- A slope is a real number. -/
theorem slope_real (n : ℕ) : ∃ r : ℝ, slope n = (r : EReal) := by
  unfold slope
  rw [lit_two, lit_neg_eight, lit_eight, Ideal.div_coe (by norm_num), ← EReal.coe_one, ← EReal.coe_add,
    ← EReal.coe_mul, ← EReal.coe_mul, Ideal.pow_coe_coe]
  exact ⟨_, rfl⟩

/-- A sum of products of real numbers is a real number. -/
theorem dot_real {ι : Type} (s : Finset ι) (f g : ι → EReal) (hf : ∀ i, ∃ r : ℝ, f i = (r : EReal))
    (hg : ∀ i, ∃ r : ℝ, g i = (r : EReal)) : ∃ r : ℝ, ∑ i ∈ s, f i * g i = (r : EReal) := by
  classical
  induction s using Finset.induction_on with
  | empty => exact ⟨0, by simp⟩
  | insert a s ha ih =>
    obtain ⟨x, hx⟩ := hf a
    obtain ⟨y, hy⟩ := hg a
    obtain ⟨z, hz⟩ := ih
    exact ⟨x * y + z, by rw [Finset.sum_insert ha, hx, hy, hz, ← EReal.coe_mul, ← EReal.coe_add]⟩

/-- A finite absolute value is a real number's. -/
theorem real_of_abs {x : EReal} (h : x ≠ ⊤ ∧ x ≠ ⊥) : ∃ r : ℝ, x = (r : EReal) :=
  ⟨x.toReal, (EReal.coe_toReal h.1 h.2).symm⟩

end Cert.Words

end
-- ==== Proof.SwaRef.lean ====
module

public import proofs.«01_k».proof.Proof.Gen.SwaRefIdeal.Read
public import Idealize.ShloMosaic.Lib.Pipeline.ValueKit
public import proofs.«01_k».proof.Proof.Words

@[expose] public section

set_option maxRecDepth 16384

noncomputable section

/-! # The sliding-window reference, read at one point -/

namespace Cert.SwaRefIdeal.Rows

open Cert.SwaRefIdeal Cert.SwaRefIdeal.Gen Idealize.ShloMosaic Idealize.ShloMosaic.TcCoe Idealize.SL.Sem
open Cert.SwaRefIdeal.Read

variable (x0 : (⟨S2x8192x8448, .f32⟩ : BufTy).Contents (Elt Ideal)) (x1 : (⟨S8, .f32⟩ : BufTy).Contents (Elt Ideal))

/-- A row maximum along the last axis. -/
theorem row_max (v : FVec Ideal S2x2x4x8192x8192 .f32) (z : FVec Ideal S_ .f32) (b g : Fin 2) (h : Fin 4) (t : Fin 8192) :
    Host.reduce FloatOps.maximumf v z reducesTo_S2x2x4x8192x8192_S2x2x4x8192_d4 h_S_ (ix4 b g h t)
      = Finset.univ.fold max (z (Shape.Idx.first h_S_)) fun s : Fin 8192 => v (ix5 b g h t s) := by
  simp only [pointwise]

/-- A row maximum along the last axis, from `⊥`. -/
theorem row_max_bot (v : FVec Ideal S2x2x4x8192x8192 .f32) (z : FVec Ideal S_ .f32)
    (hz : z (Shape.Idx.first h_S_) = (⊥ : EReal)) (b g : Fin 2) (h : Fin 4) (t : Fin 8192) :
    Host.reduce FloatOps.maximumf v z reducesTo_S2x2x4x8192x8192_S2x2x4x8192_d4 h_S_ (ix4 b g h t)
      = Finset.univ.fold max (⊥ : EReal) fun s : Fin 8192 => v (ix5 b g h t s) := by
  rw [row_max, hz]

/-- The row's largest score before the sink. -/
theorem max_at (b g : Fin 2) (h : Fin 4) (t : Fin 8192) :
    val_main_v38 (F := Ideal) x0 (ix4 b g h t)
      = Finset.univ.fold max (⊥ : EReal) fun s : Fin 8192 => val_main_v37 (F := Ideal) x0 (ix5 b g h t s) :=
  row_max_bot (val_main_v37 (F := Ideal) x0) (val_main_cst_6 (F := Ideal)) Words.lit_bot b g h t

/-- The row's largest score, its sink included. -/
theorem top_at (b g : Fin 2) (h : Fin 4) (t : Fin 8192) (s : Fin 1) :
    val_main_v42 (F := Ideal) x0 x1 (ix5 b g h t s)
      = max (α := EReal) (val_main_v38 (F := Ideal) x0 (ix4 b g h t)) (x1 (ix1 ⟨g.val * 4 + h.val, by omega⟩)) := by
  rw [val_main_v42_apply, val_main_v39_apply, val_main_v41_apply, val_main_v40_apply]
  refine congrArg₂ (max (α := EReal)) (congrArg (val_main_v38 (F := Ideal) x0) ?_) (congrArg x1 ?_)
  · funext a
    match a with
    | ⟨0, _⟩ => rfl
    | ⟨1, _⟩ => rfl
    | ⟨2, _⟩ => rfl
    | ⟨3, _⟩ => rfl
  · funext a
    match a with
    | ⟨0, _⟩ =>
      refine Fin.ext ?_
      show (((0 * 2 + g.val) * 4 + h.val) * 1 + 0) * 1 + 0 = g.val * 4 + h.val
      omega

theorem weight_at (b g : Fin 2) (h : Fin 4) (t s : Fin 8192) :
    val_main_v45 (F := Ideal) x0 x1 (ix5 b g h t s)
      = Ideal.exp (val_main_v37 (F := Ideal) x0 (ix5 b g h t s) - val_main_v42 (F := Ideal) x0 x1 (ix5 b g h t 0)) := by
  pointwise [val_main_v45, val_main_v44, val_main_v43]

theorem total_at (b g : Fin 2) (h : Fin 4) (t : Fin 8192) (s : Fin 1) :
    val_main_v51 (F := Ideal) x0 x1 (ix5 b g h t s)
      = ∑ s : Fin 8192, val_main_v45 (F := Ideal) x0 x1 (ix5 b g h t s)
        + Ideal.exp (x1 (ix1 ⟨g.val * 4 + h.val, by omega⟩) - val_main_v42 (F := Ideal) x0 x1 (ix5 b g h t 0)) := by
  pointwise [val_main_v51, val_main_v50, val_main_v49, val_main_v48, val_main_v47, val_main_v46, val_main_v40, val_main_cst_7]
  rw [show s = 0 from Subsingleton.elim _ _]

theorem out_at (b g : Fin 2) (h : Fin 4) (t : Fin 8192) (d : Fin 64) :
    val_main_v54 (F := Ideal) x0 x1 (ix5 b g d h t)
      = ∑ s : Fin 8192, x0 (ix3 b s ⟨8064 + (g.val * 64 + d.val), by omega⟩)
          * Ideal.div (val_main_v45 (F := Ideal) x0 x1 (ix5 b g h t s)) (val_main_v51 (F := Ideal) x0 x1 (ix5 b g h t 0)) := by
  pointwise [val_main_v54, val_main_v53, val_main_v52, val_main_v6, val_main_v5]

/-- The gated result. -/
theorem gated_at (b g : Fin 2) (h : Fin 4) (t : Fin 8192) (d : Fin 64) (n : Fin 512)
    (hn : n.val = g.val * 256 + h.val * 64 + d.val) :
    val_main_v59 (F := Ideal) x0 x1 (ix3 b t n) = val_main_v54 (F := Ideal) x0 x1 (ix5 b g d h t) *
      (x0 (ix3 b t ⟨6656 + n.val, by omega⟩)
        * Ideal.div 1 (1 + Ideal.exp (-(x0 (ix3 b t ⟨6656 + n.val, by omega⟩))))) := by
  have e1 : n.val / 256 = g.val := by omega
  have e2 : n.val / 64 % 4 = h.val := by omega
  have e3 : n.val % 64 = d.val := by omega
  pointwise [val_main_v59, val_main_v58, val_main_v57, val_main_v56, val_main_v55, val_main_v2, val_main_call1_v5,
    val_main_call1_v4, val_main_call1_v3, val_main_call1_v2, val_main_call1_v1, val_main_call1_v0, val_main_call1_cst,
    val_main_call1_cst_0]
  simp only [e1, e2, e3]

/-- The result at one point, over the row's scores and their maximum. -/
theorem result_at (b g : Fin 2) (h : Fin 4) (t : Fin 8192) (d : Fin 64) (n : Fin 512)
    (hn : n.val = g.val * 256 + h.val * 64 + d.val) :
    val_main_v59 (F := Ideal) x0 x1 (ix3 b t n)
      = (∑ s : Fin 8192, x0 (ix3 b s ⟨8064 + (g.val * 64 + d.val), by omega⟩)
          * Ideal.div
              (Ideal.exp (val_main_v37 (F := Ideal) x0 (ix5 b g h t s) - val_main_v42 (F := Ideal) x0 x1 (ix5 b g h t 0)))
              (∑ i : Fin 8192, Ideal.exp (val_main_v37 (F := Ideal) x0 (ix5 b g h t i)
                  - val_main_v42 (F := Ideal) x0 x1 (ix5 b g h t 0))
                + Ideal.exp (x1 (ix1 ⟨g.val * 4 + h.val, by omega⟩) - val_main_v42 (F := Ideal) x0 x1 (ix5 b g h t 0))))
        * (x0 (ix3 b t ⟨6656 + n.val, by omega⟩)
          * Ideal.div 1 (1 + Ideal.exp (-(x0 (ix3 b t ⟨6656 + n.val, by omega⟩))))) := by
  rw [gated_at x0 x1 b g h t d n hn, out_at, total_at]
  simp only [weight_at]

/-- A score: the scaled product less the slope times the distance, `⊥` outside the band. -/
theorem score_at (b g : Fin 2) (h : Fin 4) (t s : Fin 8192) :
    val_main_v37 (F := Ideal) x0 (ix5 b g h t s)
      = if s.val ≤ t.val ∧ t.val < s.val + 128 then
          (∑ x : Fin 64, x0 (ix3 b s ⟨7936 + (g.val * 64 + x.val), by omega⟩)
              * x0 (ix3 b t ⟨6144 + (g.val * 256 + h.val * 64 + x.val), by omega⟩)) * ((1 / 8 : ℝ) : EReal)
            - Words.slope (g.val * 4 + h.val) * ((((t.val : ℤ) - (s.val : ℤ) : ℤ) : ℝ) : EReal)
        else ⊥ := by
  pointwise [val_main_v37, val_main_v36, val_main_v35, val_main_v34, val_main_v33, val_main_v32, val_main_v31,
    val_main_v30, val_main_v29, val_main_v28, val_main_v27, val_main_v26, val_main_v25, val_main_v24, val_main_v23,
    val_main_v22, val_main_v21, val_main_v20, val_main_v19, val_main_v18, val_main_v17, val_main_v16, val_main_v15,
    val_main_v14, val_main_v13, val_main_v12, val_main_v11, val_main_v10, val_main_v9, val_main_v8, val_main_v7,
    val_main_v4, val_main_v3, val_main_v1, val_main_v0, val_main_call0_v1, val_main_call0_v2,
    val_main_cst, val_main_cst_0, val_main_cst_1, val_main_cst_2, val_main_cst_4, val_main_cst_5, val_main_c, val_main_c_3]
  rw [Words.sge_ite, Words.slt_ite, Words.and_ite, Words.select_ite, Words.dist_toInt _ _ (by omega) (by omega), Words.lit_eighth,
    show val_main_call0_v0 (F := Ideal) ix0 = ⊥ from Words.lit_bot]
  unfold Words.slope
  have e : ((0#32).toInt ≤ (t.val : ℤ) - s.val ∧ (t.val : ℤ) - s.val < (128#32).toInt) ↔ (s.val ≤ t.val ∧ t.val < s.val + 128) := by
    have h1 : (0#32).toInt = 0 := by decide
    have h2 : (128#32).toInt = 128 := by decide
    omega
  simp only [e]
  rw [← Words.dist_toInt t.val s.val (by omega) (by omega)]
  rfl

end Cert.SwaRefIdeal.Rows

end
-- ==== Proof.Attend.lean ====
module

public import Idealize.ShloMosaic.Lib.Pipeline.ValueKit
public import Idealize.ShloMosaic.PureOps.Ideal

@[expose] public section

noncomputable section

/-! # Attention over a window against attention over the whole sequence

A row of banded attention taken twice over the extended reals.  Once over a window of the
sequence, with the weighted sum divided by the weights' total at the end; once over the whole
sequence, where everything outside the band scores `⊥` and each weight is divided by the total
first.  The window's scores may all be shifted by one real number. -/

namespace Cert.Attend

open Idealize.ShloMosaic

/-- A sum over a window equals the sum over the whole sequence when the two agree where the
    positions meet and vanish everywhere else. -/
theorem window_sum {T W : ℕ} (t0 w : ℕ) (f : Fin T → EReal) (g : Fin W → EReal)
    (hm : ∀ (j : Fin T) (c : Fin W), j.val + w = t0 + c.val → g c = f j)
    (ho : ∀ j : Fin T, (∀ c : Fin W, j.val + w ≠ t0 + c.val) → f j = 0)
    (ho' : ∀ c : Fin W, (∀ j : Fin T, j.val + w ≠ t0 + c.val) → g c = 0) :
    ∑ c, g c = ∑ j, f j := by
  have pick : ∀ c : Fin W, g c ≠ 0 → ∃ j : Fin T, j.val + w = t0 + c.val := by
    intro c hc
    by_contra hn
    exact hc (ho' c fun j hj => hn ⟨j, hj⟩)
  refine Finset.sum_bij_ne_zero (fun c _ hc => (pick c hc).choose) (fun _ _ _ => Finset.mem_univ _) ?_ ?_ ?_
  · intro a _ ha b _ hb hab
    have h1 := (pick a ha).choose_spec
    have h2 := (pick b hb).choose_spec
    have h3 : ((pick a ha).choose : Fin T).val = ((pick b hb).choose : Fin T).val := congrArg Fin.val hab
    exact Fin.ext (by omega)
  · intro j _ hj
    by_cases hc : ∃ c : Fin W, j.val + w = t0 + c.val
    · obtain ⟨c, hc⟩ := hc
      have hne : g c ≠ 0 := by rw [hm j c hc]; exact hj
      refine ⟨c, Finset.mem_univ _, hne, Fin.ext ?_⟩
      have h1 := (pick c hne).choose_spec
      omega
    · exact absurd (ho j fun c h => hc ⟨c, h⟩) hj
  · intro c _ hc
    exact hm _ _ (pick c hc).choose_spec

/-- Shifting score and maximum by one real number leaves their difference. -/
theorem shift_sub (s : EReal) (a r : ℝ) : (s + (r : EReal)) - ((a : EReal) + (r : EReal)) = s - (a : EReal) := by
  induction s with
  | bot => simp
  | coe s =>
    rw [← EReal.coe_add, ← EReal.coe_add, ← EReal.coe_sub, ← EReal.coe_sub]
    congr 1
    ring
  | top =>
    rw [← EReal.coe_add, EReal.top_add_coe, EReal.top_sub_coe, EReal.top_sub_coe]

/-- A nonnegative real factor leaves a finite sum. -/
theorem sum_mul_coe {ι : Type} (s : Finset ι) (f : ι → EReal) (r : ℝ) (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha,
      EReal.right_distrib_of_nonneg_of_ne_top (by exact_mod_cast hr) (EReal.coe_ne_top r), ih]

/-- A finite sum of reals, read as an extended real. -/
theorem sum_coe {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The weight of a score below a real bound is a nonnegative real. -/
theorem weight_real (s : EReal) (a : ℝ) (h : s ≤ (a : EReal)) :
    ∃ e : ℝ, 0 ≤ e ∧ Ideal.exp (s - (a : EReal)) = (e : EReal) ∧ (s ≠ ⊥ → 0 < e) := by
  induction s with
  | bot => exact ⟨0, le_refl _, by simp, fun h => absurd rfl h⟩
  | coe s =>
    refine ⟨Real.exp (s - a), (Real.exp_pos _).le, ?_, fun _ => Real.exp_pos _⟩
    rw [← EReal.coe_sub, Ideal.exp_coe]
  | top => exact absurd (top_le_iff.mp h) (EReal.coe_ne_top a)

/-- The largest score of a row and its sink, shifted. -/
theorem max_shift {T W : ℕ} (t0 w : ℕ) (S : Fin T → EReal) (S' : Fin W → EReal) (sk sk' : EReal) (r : ℝ)
    (hm : ∀ (j : Fin T) (c : Fin W), j.val + w = t0 + c.val → S' c = S j + (r : EReal))
    (ho : ∀ j : Fin T, (∀ c : Fin W, j.val + w ≠ t0 + c.val) → S j = ⊥)
    (ho' : ∀ c : Fin W, (∀ j : Fin T, j.val + w ≠ t0 + c.val) → S' c = ⊥)
    (hs : sk' = sk + (r : EReal)) (j0 : Fin T) :
    max (Finset.univ.fold max ⊥ S') sk' = max (Finset.univ.fold max ⊥ S) sk + (r : EReal) := by
  change max (Finset.univ.sup S') sk' = max (Finset.univ.sup S) sk + (r : EReal)
  rw [hs, ← max_add_add_right]
  congr 1
  apply le_antisymm
  · refine Finset.sup_le fun c _ => ?_
    by_cases hc : ∃ j : Fin T, j.val + w = t0 + c.val
    · obtain ⟨j, hj⟩ := hc
      rw [hm j c hj]
      exact add_le_add_left (Finset.le_sup (f := S) (Finset.mem_univ j)) _
    · rw [ho' c fun j hj => hc ⟨j, hj⟩]
      exact bot_le
  · obtain ⟨j1, _, h1⟩ := Finset.exists_mem_eq_sup Finset.univ ⟨j0, Finset.mem_univ j0⟩ S
    rw [h1]
    by_cases hc : ∃ c : Fin W, j1.val + w = t0 + c.val
    · obtain ⟨c, hc⟩ := hc
      rw [← hm j1 c hc]
      exact Finset.le_sup (f := S') (Finset.mem_univ c)
    · rw [ho j1 fun c h => hc ⟨c, h⟩, EReal.bot_add]
      exact bot_le

/-- One row, one lane: the window's weighted sum over its total is the whole sequence's sum of
    normalized weights. -/
theorem attend {T W : ℕ} (t0 w : ℕ) (S v : Fin T → EReal) (S' v' : Fin W → EReal) (sk sk' M M' : EReal) (r : ℝ)
    (hm : ∀ (j : Fin T) (c : Fin W), j.val + w = t0 + c.val → S' c = S j + (r : EReal))
    (hv : ∀ (j : Fin T) (c : Fin W), j.val + w = t0 + c.val → v' c = v j)
    (ho : ∀ j : Fin T, (∀ c : Fin W, j.val + w ≠ t0 + c.val) → S j = ⊥)
    (ho' : ∀ c : Fin W, (∀ j : Fin T, j.val + w ≠ t0 + c.val) → S' c = ⊥)
    (hM : M = max (Finset.univ.fold max ⊥ S) sk) (hM' : M' = max (Finset.univ.fold max ⊥ S') sk')
    (hs : sk' = sk + (r : EReal)) (hS : ∀ j, S j ≠ ⊤) (hk : sk ≠ ⊤) (j0 : Fin T) (hj0 : S j0 ≠ ⊥) :
    Ideal.div (∑ c, Ideal.exp (S' c - M') * v' c) (∑ c, Ideal.exp (S' c - M') + Ideal.exp (sk' - M'))
    = ∑ j, v j * Ideal.div (Ideal.exp (S j - M)) (∑ i, Ideal.exp (S i - M) + Ideal.exp (sk - M)) := by
  have hMM : M' = M + (r : EReal) := by rw [hM, hM', max_shift t0 w S S' sk sk' r hm ho ho' hs j0]
  subst hMM
  clear hM'
  have hle : ∀ j, S j ≤ M := fun j => hM ▸
    le_max_of_le_left (Finset.le_sup (f := S) (Finset.mem_univ j))
  have hlk : sk ≤ M := hM ▸ le_max_right _ _
  have hbot : M ≠ ⊥ := fun h => hj0 (le_bot_iff.mp (h ▸ hle j0))
  have htop : M ≠ ⊤ := by
    have h1 : Finset.univ.sup S < ⊤ :=
      (Finset.sup_lt_iff bot_lt_top).mpr fun j _ => lt_top_iff_ne_top.mpr (hS j)
    rw [hM]
    exact (max_lt h1 (lt_top_iff_ne_top.mpr hk)).ne
  clear hM
  lift M to ℝ using ⟨htop, hbot⟩
  rename ℝ => a
  have hsh : ∀ (j : Fin T) (c : Fin W), j.val + w = t0 + c.val →
      S' c - ((a : EReal) + (r : EReal)) = S j - (a : EReal) := fun j c h => by
    rw [hm j c h, shift_sub]
  have h1 : ∑ c, Ideal.exp (S' c - ((a : EReal) + (r : EReal))) * v' c
      = ∑ j, Ideal.exp (S j - (a : EReal)) * v j := by
    refine window_sum t0 w _ _ (fun j c h => ?_) (fun j h => ?_) (fun c h => ?_)
    · rw [hsh j c h, hv j c h]
    · rw [ho j h]; simp
    · rw [ho' c h]; simp
  have h2 : ∑ c, Ideal.exp (S' c - ((a : EReal) + (r : EReal))) = ∑ j, Ideal.exp (S j - (a : EReal)) := by
    refine window_sum t0 w _ _ (fun j c h => ?_) (fun j h => ?_) (fun c h => ?_)
    · rw [hsh j c h]
    · rw [ho j h]; simp
    · rw [ho' c h]; simp
  rw [h1, h2, hs, shift_sub]
  choose e he0 he hep using fun j => weight_real (S j) a (hle j)
  obtain ⟨es, hes0, hes, _⟩ := weight_real sk a hlk
  have hd : ∑ i, Ideal.exp (S i - (a : EReal)) + Ideal.exp (sk - (a : EReal)) = ((∑ i, e i + es : ℝ) : EReal) := by
    rw [EReal.coe_add, ← hes]
    congr 1
    rw [Finset.sum_congr rfl fun i _ => he i, sum_coe]
  have hpos : 0 < ∑ i, e i + es :=
    add_pos_of_pos_of_nonneg (Finset.sum_pos' (fun i _ => he0 i) ⟨j0, Finset.mem_univ _, hep j0 hj0⟩) hes0
  rw [hd, Ideal.div_coe hpos.ne', sum_mul_coe _ _ _ (by positivity)]
  refine Finset.sum_congr rfl fun j _ => ?_
  rw [Ideal.div_coe hpos.ne', mul_comm (Ideal.exp _) (v j), mul_assoc]

/-- The same with no sink beside the scores. -/
theorem attend_plain {T W : ℕ} (t0 w : ℕ) (S v : Fin T → EReal) (S' v' : Fin W → EReal) (M M' : EReal) (r : ℝ)
    (hm : ∀ (j : Fin T) (c : Fin W), j.val + w = t0 + c.val → S' c = S j + (r : EReal))
    (hv : ∀ (j : Fin T) (c : Fin W), j.val + w = t0 + c.val → v' c = v j)
    (ho : ∀ j : Fin T, (∀ c : Fin W, j.val + w ≠ t0 + c.val) → S j = ⊥)
    (ho' : ∀ c : Fin W, (∀ j : Fin T, j.val + w ≠ t0 + c.val) → S' c = ⊥)
    (hM : M = Finset.univ.fold max ⊥ S) (hM' : M' = Finset.univ.fold max ⊥ S')
    (hS : ∀ j, S j ≠ ⊤) (j0 : Fin T) (hj0 : S j0 ≠ ⊥) :
    Ideal.div (∑ c, Ideal.exp (S' c - M') * v' c) (∑ c, Ideal.exp (S' c - M'))
    = ∑ j, v j * Ideal.div (Ideal.exp (S j - M)) (∑ i, Ideal.exp (S i - M)) := by
  have h := attend t0 w S v S' v' ⊥ ⊥ M M' r hm hv ho ho' (by rw [max_bot_right]; exact hM)
    (by rw [max_bot_right]; exact hM') (by simp) hS bot_ne_top j0 hj0
  simpa using h

end Cert.Attend

end
-- ==== Proof.SwaReads.lean ====
module

public import proofs.«01_k».proof.Proof.Gen.SwaIdeal.Frame
public import proofs.«01_k».proof.Proof.SwaRef
public import proofs.«01_k».proof.Proof.Attend
public import Idealize.ShloMosaic.Lib.Pipeline.ValueKit
public import Idealize.ShloMosaic.Lib.StableHlo.ReadAt

@[expose] public section

set_option maxRecDepth 16384

noncomputable section

/-! # What the sliding-window kernel's blocks hold, in the launch's arguments -/

namespace Cert.SwaIdeal.SwaValue

open Cert.SwaIdeal Cert.SwaIdeal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val / 128, t.val % 64, 24 + t.val / 64 % 2]
    ∧ win0_1.index t = ![t.val / 128, t.val / 64 % 2, 0, 0] ∧ win0_2.index t = ![t.val / 128, t.val / 64 % 2, 0, 0]
    ∧ win0_3.index t = ![t.val / 64 % 2, 0, 0, 0] ∧ win0_4.index t = ![t.val / 64 % 2, 0, 0, 0]
    ∧ win0_5.index t = ![t.val / 128, t.val % 64, 26 + t.val / 64 % 2]
    ∧ win0_6.index t = ![t.val / 128, t.val % 64, t.val / 64 % 2] ∧ (grid0.coords t 2).val = t.val % 64 ∧ t.val < 256 :=
  (by decide +kernel : ∀ t : Fin grid0.N, _)

/-- Where a point's keys begin. -/
theorem off : ∀ t : Fin cfg0.N, k0_off1 (grid0.coords t) = ![0, 0, t.val % 64 * 128, 0] :=
  (by decide +kernel : ∀ t : Fin grid0.N, _)

/-- The padded keys, in the projection. -/
theorem V5 (c : Dev nD) (b g : Fin 2) (p : Fin 8320) (s : Fin 8192) (d : Fin 64) (h : p.val = s.val + 128) :
    V m c main_v5 (ix4 b g p d)
      = m ((c : Thread nD τ).loc main_arg0) (ix3 b s ⟨7936 + (g.val * 64 + d.val), by omega⟩) := by
  have e : (⟨p.val - 128, by omega⟩ : Fin 8192) = s := Fin.ext (by show p.val - 128 = s.val; omega)
  unfold V
  simp only [List.flatten_cons, List.flatten_nil, List.append_nil]
  after_reads_at
  rw [dif_pos (by omega), e]

/-- The padded values, in the projection. -/
theorem V9 (c : Dev nD) (b g : Fin 2) (p : Fin 8320) (s : Fin 8192) (d : Fin 64) (h : p.val = s.val + 128) :
    V m c main_v9 (ix4 b g p d)
      = m ((c : Thread nD τ).loc main_arg0) (ix3 b s ⟨8064 + (g.val * 64 + d.val), by omega⟩) := by
  have e : (⟨p.val - 128, by omega⟩ : Fin 8192) = s := Fin.ext (by show p.val - 128 = s.val; omega)
  unfold V
  simp only [List.flatten_cons, List.flatten_nil, List.append_nil]
  after_reads_at
  rw [dif_pos (by omega), e]

/-- The slopes, one for each head. -/
theorem V20 (c : Dev nD) (g : Fin 2) (hh : Fin 4) (l : Fin 128) :
    V m c main_v20 (ix4 g hh 0 l) = Words.slope (g.val * 4 + hh.val) := by
  unfold V
  simp only [List.flatten_cons, List.flatten_nil, List.append_nil]
  after_reads_at
  rfl

/-- The sinks, one for each head. -/
theorem V22 (c : Dev nD) (g : Fin 2) (hh : Fin 4) (l : Fin 128) :
    V m c main_v22 (ix4 g hh 0 l) = m ((c : Thread nD τ).loc main_arg1) (ix1 ⟨g.val * 4 + hh.val, by omega⟩) := by
  unfold V
  simp only [List.flatten_cons, List.flatten_nil, List.append_nil]
  after_reads_at

/-- The keys a point reads. -/
theorem keys (c : Dev nD) (t : Fin cfg0.N) (b g : Fin 2) (s : Fin 8192) (w : Fin 256) (d : Fin 64)
    (hb : b.val = t.val / 128) (hg : g.val = t.val / 64 % 2) (hs : s.val + 128 = t.val % 64 * 128 + w.val)
    (inb : ∀ a, (k0_off1 (grid0.coords t)) a + S1x1x256x64.size a ≤ S1x1x8320x64.size a) :
    View.ld (iblk m c 1 t) (Rect.unit (k0_off1 (grid0.coords t)) S1x1x256x64.size inb) (ix4 0 0 w d)
      = m ((c : Thread nD τ).loc main_arg0) (ix3 b s ⟨7936 + (g.val * 64 + d.val), by omega⟩) := by
  refine Eq.trans (b := V m c main_v5 (ix4 b g ⟨s.val + 128, by omega⟩ d)) ?_ (V5 m c b g _ s d rfl)
  have o0 : k0_off1 (grid0.coords t) 0 = 0 := by rw [off t]; rfl
  have o1 : k0_off1 (grid0.coords t) 1 = 0 := by rw [off t]; rfl
  have o2 : k0_off1 (grid0.coords t) 2 = t.val % 64 * 128 := by rw [off t]; rfl
  have o3 : k0_off1 (grid0.coords t) 3 = 0 := by rw [off t]; rfl
  pointwise []
  blk_ext [iblk, idx t]

/-- The values a point reads. -/
theorem vals (c : Dev nD) (t : Fin cfg0.N) (b g : Fin 2) (s : Fin 8192) (w : Fin 256) (d : Fin 64)
    (hb : b.val = t.val / 128) (hg : g.val = t.val / 64 % 2) (hs : s.val + 128 = t.val % 64 * 128 + w.val)
    (inb : ∀ a, (k0_off1 (grid0.coords t)) a + S1x1x256x64.size a ≤ S1x1x8320x64.size a) :
    View.ld (iblk m c 2 t) (Rect.unit (k0_off1 (grid0.coords t)) S1x1x256x64.size inb) (ix4 0 0 w d)
      = m ((c : Thread nD τ).loc main_arg0) (ix3 b s ⟨8064 + (g.val * 64 + d.val), by omega⟩) := by
  refine Eq.trans (b := V m c main_v9 (ix4 b g ⟨s.val + 128, by omega⟩ d)) ?_ (V9 m c b g _ s d rfl)
  have o0 : k0_off1 (grid0.coords t) 0 = 0 := by rw [off t]; rfl
  have o1 : k0_off1 (grid0.coords t) 1 = 0 := by rw [off t]; rfl
  have o2 : k0_off1 (grid0.coords t) 2 = t.val % 64 * 128 := by rw [off t]; rfl
  have o3 : k0_off1 (grid0.coords t) 3 = 0 := by rw [off t]; rfl
  pointwise []
  blk_ext [iblk, idx t]

/-- The slope of one head at a point. -/
theorem slopes (c : Dev nD) (t : Fin cfg0.N) (g : Fin 2) (hh : Fin 4) (hg : g.val = t.val / 64 % 2) (o : Fin 4 → ℕ)
    (ho : o = ![0, hh.val, 0, 0]) (inb : ∀ a, o a + S1x1x1x128.size a ≤ S1x4x1x128.size a) :
    View.ld (iblk m c 3 t) (Rect.unit o S1x1x1x128.size inb) (ix4 0 0 0 0) = Words.slope (g.val * 4 + hh.val) := by
  subst ho
  refine Eq.trans (b := V m c main_v20 (ix4 g hh 0 0)) ?_ (V20 m c g hh 0)
  pointwise []
  blk_ext [iblk, idx t]

/-- The sink of one head at a point. -/
theorem sinks (c : Dev nD) (t : Fin cfg0.N) (g : Fin 2) (hh : Fin 4) (hg : g.val = t.val / 64 % 2) (o : Fin 4 → ℕ)
    (ho : o = ![0, hh.val, 0, 0]) (inb : ∀ a, o a + S1x1x1x128.size a ≤ S1x4x1x128.size a) :
    View.ld (iblk m c 4 t) (Rect.unit o S1x1x1x128.size inb) (ix4 0 0 0 0)
      = m ((c : Thread nD τ).loc main_arg1) (ix1 ⟨g.val * 4 + hh.val, by omega⟩) := by
  subst ho
  refine Eq.trans (b := V m c main_v22 (ix4 g hh 0 0)) ?_ (V22 m c g hh 0)
  pointwise []
  blk_ext [iblk, idx t]

/-- One head's queries at a point. -/
theorem queries (c : Dev nD) (t : Fin cfg0.N) (b g : Fin 2) (hh : Fin 4) (r : Fin 128) (d : Fin 64)
    (hb : b.val = t.val / 128) (hg : g.val = t.val / 64 % 2) (o : Fin 3 → ℕ)
    (ho : o = ![0, 0, hh.val * 64]) (inb : ∀ a, o a + S1x128x64.size a ≤ S1x128x256.size a) :
    View.ld (iblk m c 0 t) (Rect.unit o S1x128x64.size inb) (ix3 0 r d)
      = m ((c : Thread nD τ).loc main_arg0) (ix3 b ⟨t.val % 64 * 128 + r.val, by omega⟩
          ⟨6144 + (g.val * 256 + hh.val * 64 + d.val), by omega⟩) := by
  subst ho
  pointwise []
  blk_ext [iblk, V, idx t]

/-- One head's gate at a point. -/
theorem gates (c : Dev nD) (t : Fin cfg0.N) (b g : Fin 2) (hh : Fin 4) (r : Fin 128) (d : Fin 64)
    (hb : b.val = t.val / 128) (hg : g.val = t.val / 64 % 2) (o : Fin 3 → ℕ)
    (ho : o = ![0, 0, hh.val * 64]) (inb : ∀ a, o a + S1x128x64.size a ≤ S1x128x256.size a) :
    View.ld (iblk m c 5 t) (Rect.unit o S1x128x64.size inb) (ix3 0 r d)
      = m ((c : Thread nD τ).loc main_arg0) (ix3 b ⟨t.val % 64 * 128 + r.val, by omega⟩
          ⟨6656 + (g.val * 256 + hh.val * 64 + d.val), by omega⟩) := by
  subst ho
  pointwise []
  blk_ext [iblk, V, idx t]

end Cert.SwaIdeal.SwaValue

end
-- ==== Proof.SwaHead.lean ====
module

public import proofs.«01_k».proof.Proof.Gen.SwaIdeal.Frame
public import proofs.«01_k».proof.Proof.SwaRef
public import proofs.«01_k».proof.Proof.Attend
public import Idealize.ShloMosaic.Lib.Pipeline.ValueKit
public import Idealize.ShloMosaic.Lib.StableHlo.ReadAt

@[expose] public section

set_option maxRecDepth 16384

noncomputable section

/-! # One head of one block of the sliding-window kernel against the reference -/

namespace Cert.SwaIdeal.SwaHead

open Cert.SwaIdeal Cert.SwaIdeal.Gen Idealize.ShloMosaic Idealize.ShloMosaic.TcCoe Idealize.SL.Sem
open Cert.SwaRefIdeal.Read Cert.SwaRefIdeal.Rows

/-- The band and the start of the sequence, as one bit. -/
theorem band_at (i : grid0.Coords) (r : Fin 128) (w : Fin 256) :
    k0_pay6 i (ix2 r w)
      = if ((0 : ℤ) ≤ (r.val : ℤ) - ((w.val : ℤ) - (128 : ℕ)) ∧ (r.val : ℤ) - ((w.val : ℤ) - (128 : ℕ)) < 128)
          ∧ (0 : ℤ) ≤ (w.val : ℤ) - (128 : ℕ) + (i 2).val * 128 then 1#1 else 0#1 := by
  have h2 : (i 2).val < 64 := (i 2).isLt
  pointwise [k0_pay6, k0_pay5, k0_pay4]
  rw [Words.sge_ite, Words.slt_ite, Words.sge_ite, Words.and_ite, Words.and_ite,
    Words.back_toInt _ _ 128 (by omega) (by omega) (by omega), Words.pos_toInt _ 128 _ (by omega) (by omega) (by omega)]
  rfl

/-- The signed distance as a number. -/
theorem rel_at (r : Fin 128) (w : Fin 256) :
    k0_pay7 (F := Ideal) (ix2 r w) = (((0 - ((r.val : ℤ) - ((w.val : ℤ) - (128 : ℕ))) : ℤ) : ℝ) : EReal) := by
  pointwise [k0_pay7, k0_pay5, k0_pay4]
  exact congrArg (fun z : ℤ => ((z : ℝ) : EReal)) (Words.fore_toInt r.val w.val 128 (by omega) (by omega) (by omega))

/-- The named fill at `Ideal`. -/
theorem mask_bot : (Named.named κ "mask" 0xF149F2CA#32 : Ideal .f32) = (⊥ : EReal) :=
  IdealRules.named_const.ideal_named_scalar _ _ _ _ rfl

variable (x0 : (⟨S2x8192x8448, .f32⟩ : BufTy).Contents (Elt Ideal)) (x1 : (⟨S8, .f32⟩ : BufTy).Contents (Elt Ideal))

/-- What a point's head computes is the reference's result there. -/
theorem head (i : grid0.Coords) (b g : Fin 2) (hh : Fin 4) (r : Fin 128) (d : Fin 64) (T : Fin 8192) (n : Fin 512)
    (q z : Vec Ideal S1x128x64 .f32) (k v : Vec Ideal S1x1x256x64 .bf16) (sl sk : Vec Ideal S1x1x1x128 .f32)
    (hT : T.val = (i 2).val * 128 + r.val) (hn : n.val = g.val * 256 + hh.val * 64 + d.val)
    (hq : ∀ e : Fin 64, q (ix3 0 r e) = x0 (ix3 b T ⟨6144 + (g.val * 256 + hh.val * 64 + e.val), by omega⟩))
    (hz : z (ix3 0 r d) = x0 (ix3 b T ⟨6656 + n.val, by omega⟩))
    (hk : ∀ (s : Fin 8192) (w : Fin 256) (e : Fin 64), s.val + 128 = (i 2).val * 128 + w.val →
      k (ix4 0 0 w e) = x0 (ix3 b s ⟨7936 + (g.val * 64 + e.val), by omega⟩))
    (hv : ∀ (s : Fin 8192) (w : Fin 256) (e : Fin 64), s.val + 128 = (i 2).val * 128 + w.val →
      v (ix4 0 0 w e) = x0 (ix3 b s ⟨8064 + (g.val * 64 + e.val), by omega⟩))
    (hsl : sl (ix4 0 0 0 0) = Words.slope (g.val * 4 + hh.val))
    (hsk : sk (ix4 0 0 0 0) = x1 (ix1 ⟨g.val * 4 + hh.val, by omega⟩))
    (rq : ∀ (b : Fin 2) (t : Fin 8192) (e : Fin 512), ∃ y : ℝ, x0 (ix3 b t ⟨6144 + e.val, by omega⟩) = (y : EReal))
    (rk : ∀ (b : Fin 2) (t : Fin 8192) (e : Fin 128), ∃ y : ℝ, x0 (ix3 b t ⟨7936 + e.val, by omega⟩) = (y : EReal))
    (rs : ∀ e : Fin 8, x1 (ix1 e) ≠ ⊤) :
    k0_pay9 (F := Ideal) (k0_pay3 v) (k0_pay6 i) k0_pay7 (k0_pay8 k q) sl sk z (ix3 0 r d)
      = val_main_v59 (F := Ideal) x0 x1 (ix3 b T n) := by
  have h2 : (i 2).val < 64 := (i 2).isLt
  rw [result_at x0 x1 b g hh T d n hn]
  pointwise [k0_pay9, k0_pay3, k0_pay8, k0_pay2]
  rw [hz, hsl, hsk, zero_sub]
  refine congrArg (· * _) ?_
  have real : ∀ s : Fin 8192, ∃ y : ℝ,
      (∑ x : Fin 64, x0 (ix3 b s ⟨7936 + (g.val * 64 + x.val), by omega⟩)
              * x0 (ix3 b T ⟨6144 + (g.val * 256 + hh.val * 64 + x.val), by omega⟩)) * ((1 / 8 : ℝ) : EReal)
            - Words.slope (g.val * 4 + hh.val) * ((((T.val : ℤ) - (s.val : ℤ) : ℤ) : ℝ) : EReal) = (y : EReal) := by
    intro s
    obtain ⟨y, hy⟩ := Words.dot_real Finset.univ
      (fun x : Fin 64 => x0 (ix3 b s ⟨7936 + (g.val * 64 + x.val), by omega⟩))
      (fun x : Fin 64 => x0 (ix3 b T ⟨6144 + (g.val * 256 + hh.val * 64 + x.val), by omega⟩))
      (fun x => rk b s ⟨g.val * 64 + x.val, by omega⟩) (fun x => rq b T ⟨g.val * 256 + hh.val * 64 + x.val, by omega⟩)
    obtain ⟨u, hu⟩ := Words.slope_real (g.val * 4 + hh.val)
    rw [hy, hu, ← EReal.coe_mul, ← EReal.coe_mul, ← EReal.coe_sub]
    exact ⟨_, rfl⟩
  have sum_eq : ∀ (j : Fin 8192) (w : Fin 256), j.val + 128 = (i 2).val * 128 + w.val →
      ∑ x : Fin 64, q (ix3 0 r x) * k (ix4 0 0 w x)
        = ∑ x : Fin 64, x0 (ix3 b j ⟨7936 + (g.val * 64 + x.val), by omega⟩)
              * x0 (ix3 b T ⟨6144 + (g.val * 256 + hh.val * 64 + x.val), by omega⟩) := by
    intro j w hw
    refine Finset.sum_congr rfl fun x _ => ?_
    rw [hq, hk j w x hw, mul_comm]
  refine Attend.attend ((i 2).val * 128) 128 (fun s => val_main_v37 (F := Ideal) x0 (ix5 b g hh T s)) _ _ _ _ _ _ _ 0
    ?_ ?_ ?_ ?_ ?_ ?_ ?_ ?_ ?_ T ?_
  · intro j w hw
    beta_reduce
    rw [EReal.coe_zero, add_zero, score_at, band_at, rel_at, Words.select_ite, Words.lit_eighth, mask_bot, sum_eq j w hw]
    by_cases hb : j.val ≤ T.val ∧ T.val < j.val + 128
    · have e : (0 - ((r.val : ℤ) - ((w.val : ℤ) - (128 : ℕ))) : ℤ) = -((T.val : ℤ) - (j.val : ℤ)) := by omega
      rw [if_pos hb, if_pos (by omega), e, Int.cast_neg, EReal.coe_neg, mul_neg, ← sub_eq_add_neg]
    · rw [if_neg hb, if_neg (by omega)]
  · intro j w hw
    exact hv j w d hw
  · intro j hj
    beta_reduce
    rw [score_at, if_neg]
    intro hb
    exact hj ⟨j.val + 128 - (i 2).val * 128, by omega⟩ (by show j.val + 128 = (i 2).val * 128 + (j.val + 128 - (i 2).val * 128); omega)
  · intro w hw
    beta_reduce
    rw [band_at, rel_at, Words.select_ite, mask_bot, if_neg]
    intro hb
    exact hw ⟨(i 2).val * 128 + w.val - 128, by omega⟩ (by show (i 2).val * 128 + w.val - 128 + 128 = (i 2).val * 128 + w.val; omega)
  · rw [top_at, max_at]
  · rw [Words.lit_bot]
  · rw [EReal.coe_zero, add_zero]
  · intro j
    rw [score_at]
    obtain ⟨y, hy⟩ := real j
    split
    · rw [hy]; exact EReal.coe_ne_top y
    · exact bot_ne_top
  · exact rs _
  · rw [score_at, if_pos (by omega)]
    obtain ⟨y, hy⟩ := real T
    rw [hy]
    exact EReal.coe_ne_bot y

end Cert.SwaIdeal.SwaHead

end
-- ==== Proof.SwaValue.lean ====
module

public import proofs.«01_k».proof.Proof.SwaReads
public import proofs.«01_k».proof.Proof.SwaHead

@[expose] public section

set_option maxRecDepth 16384

noncomputable section

/-! # The sliding-window kernel's result array is the reference's -/

namespace Cert.SwaIdeal.SwaValue

open Cert.SwaIdeal Cert.SwaIdeal.Gen Idealize.ShloMosaic Idealize.ShloMosaic.TcCoe Idealize.SL.Sem
open Idealize.ShloMosaic.Pipeline (Dat)
open Cert.SwaRefIdeal.Read

variable (m : (ℓ : Loc nD τ sig) → Buf (Elt Ideal) ℓ)

/-- What a point's head stores, by the reference. -/
theorem point (c : Dev nD) (t : Fin cfg0.N) (hh : Fin 4) (x : S1x128x64.Idx) (y : S1x128x256.Idx)
    (h0 : (y 0).val = (x 0).val) (h1 : (y 1).val = (x 1).val) (h2 : (y 2).val = hh.val * 64 + (x 2).val)
    (rq : ∀ (b : Fin 2) (t : Fin 8192) (e : Fin 512), ∃ y : ℝ,
      m ((c : Thread nD τ).loc main_arg0) (ix3 b t ⟨6144 + e.val, by omega⟩) = (y : EReal))
    (rk : ∀ (b : Fin 2) (t : Fin 8192) (e : Fin 128), ∃ y : ℝ,
      m ((c : Thread nD τ).loc main_arg0) (ix3 b t ⟨7936 + e.val, by omega⟩) = (y : EReal))
    (rs : ∀ e : Fin 8, m ((c : Thread nD τ).loc main_arg1) (ix1 e) ≠ (⊤ : EReal))
    (o : Fin 3 → ℕ) (ho : o = ![0, 0, hh.val * 64]) (i0 : ∀ a, o a + S1x128x64.size a ≤ S1x128x256.size a)
    (o' : Fin 4 → ℕ) (ho' : o' = ![0, hh.val, 0, 0]) (i1 : ∀ a, o' a + S1x1x1x128.size a ≤ S1x4x1x128.size a)
    (i2 : ∀ a, (k0_off1 (grid0.coords t)) a + S1x1x256x64.size a ≤ S1x1x8320x64.size a) :
    k0_pay9 (F := Ideal) (k0_pay3 (View.ld (iblk m c 2 t) (Rect.unit (k0_off1 (grid0.coords t)) S1x1x256x64.size i2)))
      (k0_pay6 (grid0.coords t)) k0_pay7
      (k0_pay8 (View.ld (iblk m c 1 t) (Rect.unit (k0_off1 (grid0.coords t)) S1x1x256x64.size i2))
        (View.ld (iblk m c 0 t) (Rect.unit o S1x128x64.size i0)))
      (View.ld (iblk m c 3 t) (Rect.unit o' S1x1x1x128.size i1)) (View.ld (iblk m c 4 t) (Rect.unit o' S1x1x1x128.size i1))
      (View.ld (iblk m c 5 t) (Rect.unit o S1x128x64.size i0)) x
    = val_main_v59 (F := Ideal) (m ((c : Thread nD τ).loc main_arg0)) (m ((c : Thread nD τ).loc main_arg1))
        (((View.whole main_v23).slice (win0_6.rect t)).emb y) := by
  have ht := idx t
  have hi : (grid0.coords t 2).val = t.val % 64 := ht.2.2.2.2.2.2.2.1
  have hN : t.val < 256 := ht.2.2.2.2.2.2.2.2
  have x1 : (x 1).val < 128 := (x 1).isLt
  have x2 : (x 2).val < 64 := (x 2).isLt
  have x0 : (x 0).val < 1 := (x 0).isLt
  have ex : x = ix3 0 ⟨(x 1).val, x1⟩ ⟨(x 2).val, x2⟩ := by
    funext a
    match a with
    | ⟨0, _⟩ => exact Fin.ext (by show (x 0).val = 0; omega)
    | ⟨1, _⟩ => rfl
    | ⟨2, _⟩ => rfl
  have ey : ((View.whole main_v23).slice (win0_6.rect t)).emb y = ix3 (⟨t.val / 128, by omega⟩ : Fin 2)
      (⟨t.val % 64 * 128 + (x 1).val, by omega⟩ : Fin 8192) (⟨t.val / 64 % 2 * 256 + hh.val * 64 + (x 2).val, by omega⟩ : Fin 512) := by
    blk_ext [idx t]
  rw [ey]
  refine (congrArg (k0_pay9 _ _ _ _ _ _ _) ex).trans ?_
  refine SwaHead.head _ _ (grid0.coords t) ⟨t.val / 128, by omega⟩ ⟨t.val / 64 % 2, by omega⟩ hh
    ⟨(x 1).val, x1⟩ ⟨(x 2).val, x2⟩ ⟨t.val % 64 * 128 + (x 1).val, by omega⟩
    ⟨t.val / 64 % 2 * 256 + hh.val * 64 + (x 2).val, by omega⟩ _ _ _ _ _ _ ?_ ?_ ?_ ?_ ?_ ?_ ?_ ?_ rq rk rs
  · show t.val % 64 * 128 + (x 1).val = (grid0.coords t 2).val * 128 + (x 1).val
    rw [hi]
  · rfl
  · intro e
    exact queries m c t _ _ hh _ e rfl rfl o ho i0
  · have e := gates m c t ⟨t.val / 128, by omega⟩ ⟨t.val / 64 % 2, by omega⟩ hh ⟨(x 1).val, x1⟩ ⟨(x 2).val, x2⟩ rfl rfl o ho i0
    exact e
  · intro s w e h
    rw [hi] at h
    exact keys m c t _ _ s w e rfl rfl h i2
  · intro s w e h
    rw [hi] at h
    exact vals m c t _ _ s w e rfl rfl h i2
  · exact slopes m c t _ hh rfl o' ho' i1
  · exact sinks m c t _ hh rfl o' ho' i1

/-- The array the launch leaves. -/
theorem final (c : Dev nD)
    (rq : ∀ (b : Fin 2) (t : Fin 8192) (e : Fin 512), ∃ y : ℝ,
      m ((c : Thread nD τ).loc main_arg0) (ix3 b t ⟨6144 + e.val, by omega⟩) = (y : EReal))
    (rk : ∀ (b : Fin 2) (t : Fin 8192) (e : Fin 128), ∃ y : ℝ,
      m ((c : Thread nD τ).loc main_arg0) (ix3 b t ⟨7936 + e.val, by omega⟩) = (y : EReal))
    (rs : ∀ e : Fin 8, m ((c : Thread nD τ).loc main_arg1) (ix1 e) ≠ (⊤ : EReal)) : (dats m 0 c).arrAt 6 (cfgs 0).N
    = val_main_v59 (F := Ideal) (m ((c : Thread nD τ).loc main_arg0)) (m ((c : Thread nD τ).loc main_arg1)) := by
  refine (dats m 0 c).arrAt_eq_of_covers 6 _ (by decide +kernel) fun t _ y => ?_
  blk_simp
  rw [after0_6]
  unfold outsAt0
  frame_out
  canon_tiles x h
  · exact point m c t 3 x y (by omega) (by omega) (by omega) rq rk rs _ rfl _ _ rfl _ _
  · exact point m c t 2 x y (by omega) (by omega) (by omega) rq rk rs _ rfl _ _ rfl _ _
  · exact point m c t 1 x y (by omega) (by omega) (by omega) rq rk rs _ rfl _ _ rfl _ _
  · exact point m c t 0 x y (by omega) (by omega) (by omega) rq rk rs _ rfl _ _ rfl _ _

end Cert.SwaIdeal.SwaValue

end
-- ==== Proof.SwaClaims.lean ====
module

public import proofs.«01_k».proof.Defs
public import proofs.«01_k».proof.Proof.Gen.Swa
public import proofs.«01_k».proof.Proof.Gen.Pre_swa_scores_finite
public import proofs.«01_k».proof.Proof.Gen.Swa.Frame
public import proofs.«01_k».proof.Proof.Gen.SwaRefIdeal.Run
public import proofs.«01_k».proof.Proof.Gen.SwaIdeal.Value
public import proofs.«01_k».proof.Proof.SwaValue
public import Idealize.ShloMosaic.Lib.Claim

@[expose] public section

set_option maxRecDepth 16384

noncomputable section

/-! # The claims about the sliding-window attention -/

namespace Cert.Proof.Swa

open Idealize.ShloMosaic Idealize.SL.Sem

open Cert.SwaIdeal Idealize.ShloMosaic.TcCoe

/-- Less, as a bit that is set. -/
theorem lt_of_bit (x y : EReal) (h : Ideal.cmp .olt x y = 1#1) : x < y := by
  by_contra hn
  simp [Ideal.cmp, hn] at h

/-- An absolute value below infinity is a real number's. -/
theorem real_of_bit (x : EReal) (h : Ideal.cmp .olt (max x (-x)) (Ideal.ofBits .f32 0x7F800000#32) = 1#1) :
    ∃ r : ℝ, x = (r : EReal) := by
  rw [Words.lit_top] at h
  have h := max_lt_iff.mp (lt_of_bit _ _ h)
  refine Words.real_of_abs ⟨h.1.ne, fun hb => ?_⟩
  rw [hb, EReal.neg_bot] at h
  exact lt_irrefl _ h.2

/-- The precondition at one query. -/
theorem pre_q (x0 : FVec Ideal S2x8192x8448 .f32) (x1 : FVec Ideal S8 .f32) (b : Fin 2) (t : Fin 8192) (e : Fin 512) :
    (Cert.Pre_swa_scores_finite.fn (F := Ideal) x0 x1).1 (ix3 b t e)
      = Ideal.cmp .olt (max (x0 (ix3 b t ⟨6144 + e.val, by omega⟩)) (-x0 (ix3 b t ⟨6144 + e.val, by omega⟩)))
          (Ideal.ofBits .f32 0x7F800000#32) := by
  pointwise [Cert.Pre_swa_scores_finite.fn]
  rfl

/-- The precondition at one key. -/
theorem pre_k (x0 : FVec Ideal S2x8192x8448 .f32) (x1 : FVec Ideal S8 .f32) (b : Fin 2) (t : Fin 8192) (e : Fin 128) :
    (Cert.Pre_swa_scores_finite.fn (F := Ideal) x0 x1).2.1 (ix3 b t e)
      = Ideal.cmp .olt (max (x0 (ix3 b t ⟨7936 + e.val, by omega⟩)) (-x0 (ix3 b t ⟨7936 + e.val, by omega⟩)))
          (Ideal.ofBits .f32 0x7F800000#32) := by
  pointwise [Cert.Pre_swa_scores_finite.fn]
  rfl

/-- The precondition at one sink. -/
theorem pre_s (x0 : FVec Ideal S2x8192x8448 .f32) (x1 : FVec Ideal S8 .f32) (e : Fin 8) :
    (Cert.Pre_swa_scores_finite.fn (F := Ideal) x0 x1).2.2 (ix1 e)
      = Ideal.cmp .olt (x1 (ix1 e)) (Ideal.ofBits .f32 0x7F800000#32) := by
  pointwise [Cert.Pre_swa_scores_finite.fn]

variable {m : (ℓ : Loc nD τ sig) → Buf (Elt Ideal) ℓ}

theorem real_q (hpre : Cert.Pre_SwaIdeal_swa_scores_finite m) (c : Dev nD) (b : Fin 2) (t : Fin 8192) (e : Fin 512) :
    ∃ y : ℝ, m ((c : Thread nD τ).loc main_arg0) (ix3 b t ⟨6144 + e.val, by omega⟩) = (y : EReal) :=
  real_of_bit _ ((pre_q _ _ b t e).symm.trans (congrFun (hpre c).1 (ix3 b t e)))

theorem real_k (hpre : Cert.Pre_SwaIdeal_swa_scores_finite m) (c : Dev nD) (b : Fin 2) (t : Fin 8192) (e : Fin 128) :
    ∃ y : ℝ, m ((c : Thread nD τ).loc main_arg0) (ix3 b t ⟨7936 + e.val, by omega⟩) = (y : EReal) :=
  real_of_bit _ ((pre_k _ _ b t e).symm.trans (congrFun (hpre c).2.1 (ix3 b t e)))

theorem real_s (hpre : Cert.Pre_SwaIdeal_swa_scores_finite m) (c : Dev nD) (e : Fin 8) :
    m ((c : Thread nD τ).loc main_arg1) (ix1 e) ≠ (⊤ : EReal) := by
  have h := lt_of_bit _ _ ((pre_s (m ((c : Thread nD τ).loc main_arg0)) _ e).symm.trans (congrFun (hpre c).2.2 (ix1 e)))
  rw [Words.lit_top] at h
  exact h.ne

theorem kernel_frame : Cert.quiescent_Swa :=
  fun m g _ => Cert.Swa.Gen.frame m g

theorem ideal_frame : Cert.quiescent_SwaIdeal :=
  fun m g _ => Cert.SwaIdeal.Gen.frame m g

theorem reference_frame : Cert.quiescent_SwaRefIdeal := by
  intro m g _
  run_from Cert.SwaRefIdeal.Value.run m g
  · simp
  · exact sem_eq_zero_of_no_sems rfl _

theorem ideal_frame_pre : Cert.quiescent_SwaIdeal_pre_swa_scores_finite :=
  fun m g _ => Cert.SwaIdeal.Gen.frame m g

theorem reference_frame_pre : Cert.quiescent_SwaRefIdeal_pre_swa_scores_finite :=
  fun m g _ => reference_frame m g trivial

theorem preserves : Cert.preserves_Swa_SwaIdeal :=
  IdealRules.named_const.statement Cert.SwaIdeal.κ "mask" .f32 0xF149F2CA#32 ⊥ rfl

theorem algebraic : Cert.algebraic_SwaIdeal_SwaRefIdeal_pre_swa_scores_finite := by
  pair_intro
  · run_from Cert.SwaIdeal.Value.run_blocks m g
  · run_from Cert.SwaRefIdeal.Value.run m' g'
    unfold Cert.SwaRefIdeal.Value.res_main_v59
    rw [(hagree c).1, (hagree c).2]
    exact (Cert.SwaIdeal.SwaValue.final m c (real_q hpre c) (real_k hpre c) (real_s hpre c)).symm

end Cert.Proof.Swa

end
-- ==== Proof.WinRef.lean ====
module

public import proofs.«01_k».proof.Proof.Gen.WinRefIdeal.Read
public import Idealize.ShloMosaic.Lib.Pipeline.ValueKit
public import proofs.«01_k».proof.Proof.Words

@[expose] public section

set_option maxRecDepth 16384

noncomputable section

/-! # The window branch's reference, read at one point -/

namespace Cert.WinRefIdeal.Rows

open Cert.WinRefIdeal Cert.WinRefIdeal.Gen Idealize.ShloMosaic Idealize.ShloMosaic.TcCoe Idealize.SL.Sem
open Cert.WinRefIdeal.Read

variable (x0 : (⟨S2x8192x8448, .f32⟩ : BufTy).Contents (Elt Ideal))

/-- A row maximum along the last axis. -/
theorem row_max (v : FVec Ideal S2x2x4x8192x8192 .f32) (z : FVec Ideal S_ .f32) (b g : Fin 2) (h : Fin 4) (t : Fin 8192) :
    Host.reduce FloatOps.maximumf v z reducesTo_S2x2x4x8192x8192_S2x2x4x8192_d4 h_S_ (ix4 b g h t)
      = Finset.univ.fold max (z (Shape.Idx.first h_S_)) fun s : Fin 8192 => v (ix5 b g h t s) := by
  simp only [pointwise]

/-- A row maximum along the last axis, from `⊥`. -/
theorem row_max_bot (v : FVec Ideal S2x2x4x8192x8192 .f32) (z : FVec Ideal S_ .f32)
    (hz : z (Shape.Idx.first h_S_) = (⊥ : EReal)) (b g : Fin 2) (h : Fin 4) (t : Fin 8192) :
    Host.reduce FloatOps.maximumf v z reducesTo_S2x2x4x8192x8192_S2x2x4x8192_d4 h_S_ (ix4 b g h t)
      = Finset.univ.fold max (⊥ : EReal) fun s : Fin 8192 => v (ix5 b g h t s) := by
  rw [row_max, hz]

/-- The row's largest score. -/
theorem top_at (b g : Fin 2) (h : Fin 4) (t : Fin 8192) (s : Fin 1) :
    val_main_v38 (F := Ideal) x0 (ix5 b g h t s)
      = Finset.univ.fold max (⊥ : EReal) fun s : Fin 8192 => val_main_v36 (F := Ideal) x0 (ix5 b g h t s) := by
  rw [val_main_v38_apply]
  refine Eq.trans (congrArg (val_main_v37 (F := Ideal) x0) ?_)
    (row_max_bot (val_main_v36 (F := Ideal) x0) (val_main_cst_6 (F := Ideal)) Words.lit_bot b g h t)
  funext a
  match a with
  | ⟨0, _⟩ => rfl
  | ⟨1, _⟩ => rfl
  | ⟨2, _⟩ => rfl
  | ⟨3, _⟩ => rfl

theorem weight_at (b g : Fin 2) (h : Fin 4) (t s : Fin 8192) :
    val_main_v41 (F := Ideal) x0 (ix5 b g h t s)
      = Ideal.exp (val_main_v36 (F := Ideal) x0 (ix5 b g h t s) - val_main_v38 (F := Ideal) x0 (ix5 b g h t 0)) := by
  pointwise [val_main_v41, val_main_v40, val_main_v39]

theorem total_at (b g : Fin 2) (h : Fin 4) (t : Fin 8192) (s : Fin 1) :
    val_main_v43 (F := Ideal) x0 (ix5 b g h t s) = ∑ s : Fin 8192, val_main_v41 (F := Ideal) x0 (ix5 b g h t s) := by
  pointwise [val_main_v43, val_main_v42, val_main_cst_7]

theorem out_at (b g : Fin 2) (h : Fin 4) (t : Fin 8192) (d : Fin 64) :
    val_main_v46 (F := Ideal) x0 (ix5 b g d h t)
      = ∑ s : Fin 8192, x0 (ix3 b s ⟨7808 + (g.val * 64 + d.val), by omega⟩)
          * Ideal.div (val_main_v41 (F := Ideal) x0 (ix5 b g h t s)) (val_main_v43 (F := Ideal) x0 (ix5 b g h t 0)) := by
  pointwise [val_main_v46, val_main_v45, val_main_v44, val_main_v5, val_main_v4]

/-- Heads side by side. -/
theorem heads_at (b g : Fin 2) (h : Fin 4) (t : Fin 8192) (d : Fin 64) (n : Fin 512)
    (hn : n.val = g.val * 256 + h.val * 64 + d.val) :
    val_main_v48 (F := Ideal) x0 (ix3 b t n) = val_main_v46 (F := Ideal) x0 (ix5 b g d h t) := by
  have e1 : n.val / 256 = g.val := by omega
  have e2 : n.val / 64 % 4 = h.val := by omega
  have e3 : n.val % 64 = d.val := by omega
  pointwise [val_main_v48, val_main_v47]
  simp only [e1, e2, e3]

/-- The result at one point, over the row's scores and their maximum. -/
theorem result_at (b g : Fin 2) (h : Fin 4) (t : Fin 8192) (d : Fin 64) (n : Fin 512)
    (hn : n.val = g.val * 256 + h.val * 64 + d.val) :
    val_main_v48 (F := Ideal) x0 (ix3 b t n)
      = ∑ s : Fin 8192, x0 (ix3 b s ⟨7808 + (g.val * 64 + d.val), by omega⟩)
          * Ideal.div
              (Ideal.exp (val_main_v36 (F := Ideal) x0 (ix5 b g h t s) - val_main_v38 (F := Ideal) x0 (ix5 b g h t 0)))
              (∑ i : Fin 8192, Ideal.exp (val_main_v36 (F := Ideal) x0 (ix5 b g h t i)
                  - val_main_v38 (F := Ideal) x0 (ix5 b g h t 0))) := by
  rw [heads_at x0 b g h t d n hn, out_at, total_at]
  simp only [weight_at]

/-- A score: the scaled product less the slope times the distance, `⊥` outside the band. -/
theorem score_at (b g : Fin 2) (h : Fin 4) (t s : Fin 8192) :
    val_main_v36 (F := Ideal) x0 (ix5 b g h t s)
      = if s.val ≤ t.val ∧ t.val < s.val + 512 then
          (∑ x : Fin 64, x0 (ix3 b s ⟨7680 + (g.val * 64 + x.val), by omega⟩)
              * x0 (ix3 b t ⟨5120 + (g.val * 256 + h.val * 64 + x.val), by omega⟩)) * ((1 / 8 : ℝ) : EReal)
            - Words.slope (g.val * 4 + h.val) * ((((t.val : ℤ) - (s.val : ℤ) : ℤ) : ℝ) : EReal)
        else ⊥ := by
  pointwise [val_main_v36, val_main_v35, val_main_v34, val_main_v33, val_main_v32, val_main_v31, val_main_v30,
    val_main_v29, val_main_v28, val_main_v27, val_main_v26, val_main_v25, val_main_v24, val_main_v23, val_main_v22,
    val_main_v21, val_main_v20, val_main_v19, val_main_v18, val_main_v17, val_main_v16, val_main_v15, val_main_v14,
    val_main_v13, val_main_v12, val_main_v11, val_main_v10, val_main_v9, val_main_v8, val_main_v7, val_main_v6,
    val_main_v3, val_main_v2, val_main_v1, val_main_v0, val_main_call0_v1, val_main_call0_v2,
    val_main_cst, val_main_cst_0, val_main_cst_1, val_main_cst_2, val_main_cst_4, val_main_cst_5, val_main_c, val_main_c_3]
  rw [Words.sge_ite, Words.slt_ite, Words.and_ite, Words.select_ite, Words.dist_toInt _ _ (by omega) (by omega), Words.lit_eighth,
    show val_main_call0_v0 (F := Ideal) ix0 = ⊥ from Words.lit_bot]
  unfold Words.slope
  have e : ((0#32).toInt ≤ (t.val : ℤ) - s.val ∧ (t.val : ℤ) - s.val < (512#32).toInt) ↔ (s.val ≤ t.val ∧ t.val < s.val + 512) := by
    have h1 : (0#32).toInt = 0 := by decide
    have h2 : (512#32).toInt = 512 := by decide
    omega
  simp only [e]
  rw [← Words.dist_toInt t.val s.val (by omega) (by omega)]
  rfl

end Cert.WinRefIdeal.Rows

end
-- ==== Proof.WinReads.lean ====
module

public import proofs.«01_k».proof.Proof.Gen.WinIdeal.Frame
public import proofs.«01_k».proof.Proof.WinRef
public import proofs.«01_k».proof.Proof.Attend
public import Idealize.ShloMosaic.Lib.Pipeline.ValueKit
public import Idealize.ShloMosaic.Lib.StableHlo.ReadAt

@[expose] public section

set_option maxRecDepth 16384

noncomputable section

/-! # What the window branch's blocks hold, in the launch's arguments -/

namespace Cert.WinIdeal.WinValue

open Cert.WinIdeal Cert.WinIdeal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val / 128, t.val % 64, 20 + t.val / 64 % 2]
    ∧ win0_1.index t = ![t.val / 128, t.val / 64 % 2, 0, 0] ∧ win0_2.index t = ![t.val / 128, t.val / 64 % 2, 0, 0]
    ∧ win0_3.index t = ![t.val / 64 % 2, 0, 0, 0]
    ∧ win0_4.index t = ![t.val / 128, t.val % 64, t.val / 64 % 2] ∧ (grid0.coords t 2).val = t.val % 64 ∧ t.val < 256 :=
  (by decide +kernel : ∀ t : Fin grid0.N, _)

/-- Where a point's keys begin. -/
theorem off : ∀ t : Fin cfg0.N, k0_off1 (grid0.coords t) = ![0, 0, t.val % 64 * 128, 0] :=
  (by decide +kernel : ∀ t : Fin grid0.N, _)

/-- The padded keys, in the projection. -/
theorem V5 (c : Dev nD) (b g : Fin 2) (p : Fin 8704) (s : Fin 8192) (d : Fin 64) (h : p.val = s.val + 512) :
    V m c main_v5 (ix4 b g p d)
      = m ((c : Thread nD τ).loc main_arg0) (ix3 b s ⟨7680 + (g.val * 64 + d.val), by omega⟩) := by
  have e : (⟨p.val - 512, by omega⟩ : Fin 8192) = s := Fin.ext (by show p.val - 512 = s.val; omega)
  unfold V
  simp only [List.flatten_cons, List.flatten_nil, List.append_nil]
  after_reads_at
  rw [dif_pos (by omega), e]

/-- The padded values, in the projection. -/
theorem V9 (c : Dev nD) (b g : Fin 2) (p : Fin 8704) (s : Fin 8192) (d : Fin 64) (h : p.val = s.val + 512) :
    V m c main_v9 (ix4 b g p d)
      = m ((c : Thread nD τ).loc main_arg0) (ix3 b s ⟨7808 + (g.val * 64 + d.val), by omega⟩) := by
  have e : (⟨p.val - 512, by omega⟩ : Fin 8192) = s := Fin.ext (by show p.val - 512 = s.val; omega)
  unfold V
  simp only [List.flatten_cons, List.flatten_nil, List.append_nil]
  after_reads_at
  rw [dif_pos (by omega), e]

/-- The slopes, one for each head. -/
theorem V20 (c : Dev nD) (g : Fin 2) (hh : Fin 4) (l : Fin 128) :
    V m c main_v20 (ix4 g hh 0 l) = Words.slope (g.val * 4 + hh.val) := by
  unfold V
  simp only [List.flatten_cons, List.flatten_nil, List.append_nil]
  after_reads_at
  rfl

/-- The keys a point reads. -/
theorem keys (c : Dev nD) (t : Fin cfg0.N) (b g : Fin 2) (s : Fin 8192) (w : Fin 640) (d : Fin 64)
    (hb : b.val = t.val / 128) (hg : g.val = t.val / 64 % 2) (hs : s.val + 512 = t.val % 64 * 128 + w.val)
    (inb : ∀ a, (k0_off1 (grid0.coords t)) a + S1x1x640x64.size a ≤ S1x1x8704x64.size a) :
    View.ld (iblk m c 1 t) (Rect.unit (k0_off1 (grid0.coords t)) S1x1x640x64.size inb) (ix4 0 0 w d)
      = m ((c : Thread nD τ).loc main_arg0) (ix3 b s ⟨7680 + (g.val * 64 + d.val), by omega⟩) := by
  refine Eq.trans (b := V m c main_v5 (ix4 b g ⟨s.val + 512, by omega⟩ d)) ?_ (V5 m c b g _ s d rfl)
  have o0 : k0_off1 (grid0.coords t) 0 = 0 := by rw [off t]; rfl
  have o1 : k0_off1 (grid0.coords t) 1 = 0 := by rw [off t]; rfl
  have o2 : k0_off1 (grid0.coords t) 2 = t.val % 64 * 128 := by rw [off t]; rfl
  have o3 : k0_off1 (grid0.coords t) 3 = 0 := by rw [off t]; rfl
  pointwise []
  blk_ext [iblk, idx t]

/-- The values a point reads. -/
theorem vals (c : Dev nD) (t : Fin cfg0.N) (b g : Fin 2) (s : Fin 8192) (w : Fin 640) (d : Fin 64)
    (hb : b.val = t.val / 128) (hg : g.val = t.val / 64 % 2) (hs : s.val + 512 = t.val % 64 * 128 + w.val)
    (inb : ∀ a, (k0_off1 (grid0.coords t)) a + S1x1x640x64.size a ≤ S1x1x8704x64.size a) :
    View.ld (iblk m c 2 t) (Rect.unit (k0_off1 (grid0.coords t)) S1x1x640x64.size inb) (ix4 0 0 w d)
      = m ((c : Thread nD τ).loc main_arg0) (ix3 b s ⟨7808 + (g.val * 64 + d.val), by omega⟩) := by
  refine Eq.trans (b := V m c main_v9 (ix4 b g ⟨s.val + 512, by omega⟩ d)) ?_ (V9 m c b g _ s d rfl)
  have o0 : k0_off1 (grid0.coords t) 0 = 0 := by rw [off t]; rfl
  have o1 : k0_off1 (grid0.coords t) 1 = 0 := by rw [off t]; rfl
  have o2 : k0_off1 (grid0.coords t) 2 = t.val % 64 * 128 := by rw [off t]; rfl
  have o3 : k0_off1 (grid0.coords t) 3 = 0 := by rw [off t]; rfl
  pointwise []
  blk_ext [iblk, idx t]

/-- The slope of one head at a point. -/
theorem slopes (c : Dev nD) (t : Fin cfg0.N) (g : Fin 2) (hh : Fin 4) (hg : g.val = t.val / 64 % 2) (o : Fin 4 → ℕ)
    (ho : o = ![0, hh.val, 0, 0]) (inb : ∀ a, o a + S1x1x1x128.size a ≤ S1x4x1x128.size a) :
    View.ld (iblk m c 3 t) (Rect.unit o S1x1x1x128.size inb) (ix4 0 0 0 0) = Words.slope (g.val * 4 + hh.val) := by
  subst ho
  refine Eq.trans (b := V m c main_v20 (ix4 g hh 0 0)) ?_ (V20 m c g hh 0)
  pointwise []
  blk_ext [iblk, idx t]

/-- One head's queries at a point. -/
theorem queries (c : Dev nD) (t : Fin cfg0.N) (b g : Fin 2) (hh : Fin 4) (r : Fin 128) (d : Fin 64)
    (hb : b.val = t.val / 128) (hg : g.val = t.val / 64 % 2) (o : Fin 3 → ℕ)
    (ho : o = ![0, 0, hh.val * 64]) (inb : ∀ a, o a + S1x128x64.size a ≤ S1x128x256.size a) :
    View.ld (iblk m c 0 t) (Rect.unit o S1x128x64.size inb) (ix3 0 r d)
      = m ((c : Thread nD τ).loc main_arg0) (ix3 b ⟨t.val % 64 * 128 + r.val, by omega⟩
          ⟨5120 + (g.val * 256 + hh.val * 64 + d.val), by omega⟩) := by
  subst ho
  pointwise []
  blk_ext [iblk, V, idx t]

end Cert.WinIdeal.WinValue

end
-- ==== Proof.WinHead.lean ====
module

public import proofs.«01_k».proof.Proof.Gen.WinIdeal.Frame
public import proofs.«01_k».proof.Proof.WinRef
public import proofs.«01_k».proof.Proof.Attend
public import Idealize.ShloMosaic.Lib.Pipeline.ValueKit
public import Idealize.ShloMosaic.Lib.StableHlo.ReadAt

@[expose] public section

set_option maxRecDepth 16384

noncomputable section

/-! # One head of one block of the window branch against the reference -/

namespace Cert.WinIdeal.WinHead

open Cert.WinIdeal Cert.WinIdeal.Gen Idealize.ShloMosaic Idealize.ShloMosaic.TcCoe Idealize.SL.Sem
open Cert.WinRefIdeal.Read Cert.WinRefIdeal.Rows

/-- The band and the start of the sequence, as one bit. -/
theorem band_at (i : grid0.Coords) (r : Fin 128) (w : Fin 640) :
    k0_pay5 i (ix2 r w)
      = if ((0 : ℤ) ≤ (r.val : ℤ) - ((w.val : ℤ) - (512 : ℕ)) ∧ (r.val : ℤ) - ((w.val : ℤ) - (512 : ℕ)) < 512)
          ∧ (0 : ℤ) ≤ (w.val : ℤ) - (512 : ℕ) + (i 2).val * 128 then 1#1 else 0#1 := by
  have h2 : (i 2).val < 64 := (i 2).isLt
  pointwise [k0_pay5, k0_pay4]
  rw [Words.sge_ite, Words.slt_ite, Words.sge_ite, Words.and_ite, Words.and_ite,
    Words.back_toInt _ _ 512 (by omega) (by omega) (by omega), Words.pos_toInt _ 512 _ (by omega) (by omega) (by omega)]
  rfl

/-- The key's position in the window as a number. -/
theorem rel_at (w : Fin 640) (z : Fin 1) :
    k0_pay6 (F := Ideal) (ix2 z w) = ((((w.val : ℤ) - (512 : ℕ) : ℤ) : ℝ) : EReal) := by
  pointwise [k0_pay6, k0_pay4]
  exact congrArg (fun z : ℤ => ((z : ℝ) : EReal)) (Words.key_toInt w.val 512 (by omega) (by omega))

/-- The named fill at `Ideal`. -/
theorem mask_bot : (Named.named κ "mask" 0xF149F2CA#32 : Ideal .f32) = (⊥ : EReal) :=
  IdealRules.named_const.ideal_named_scalar _ _ _ _ rfl

variable (x0 : (⟨S2x8192x8448, .f32⟩ : BufTy).Contents (Elt Ideal))

/-- What a point's head computes is the reference's result there. -/
theorem head (i : grid0.Coords) (b g : Fin 2) (hh : Fin 4) (r : Fin 128) (d : Fin 64) (T : Fin 8192) (n : Fin 512)
    (q : Vec Ideal S1x128x64 .f32) (k v : Vec Ideal S1x1x640x64 .bf16) (sl : Vec Ideal S1x1x1x128 .f32)
    (hT : T.val = (i 2).val * 128 + r.val) (hn : n.val = g.val * 256 + hh.val * 64 + d.val)
    (hq : ∀ e : Fin 64, q (ix3 0 r e) = x0 (ix3 b T ⟨5120 + (g.val * 256 + hh.val * 64 + e.val), by omega⟩))
    (hk : ∀ (s : Fin 8192) (w : Fin 640) (e : Fin 64), s.val + 512 = (i 2).val * 128 + w.val →
      k (ix4 0 0 w e) = x0 (ix3 b s ⟨7680 + (g.val * 64 + e.val), by omega⟩))
    (hv : ∀ (s : Fin 8192) (w : Fin 640) (e : Fin 64), s.val + 512 = (i 2).val * 128 + w.val →
      v (ix4 0 0 w e) = x0 (ix3 b s ⟨7808 + (g.val * 64 + e.val), by omega⟩))
    (hsl : sl (ix4 0 0 0 0) = Words.slope (g.val * 4 + hh.val))
    (rq : ∀ (b : Fin 2) (t : Fin 8192) (e : Fin 512), ∃ y : ℝ, x0 (ix3 b t ⟨5120 + e.val, by omega⟩) = (y : EReal))
    (rk : ∀ (b : Fin 2) (t : Fin 8192) (e : Fin 128), ∃ y : ℝ, x0 (ix3 b t ⟨7680 + e.val, by omega⟩) = (y : EReal)) :
    k0_pay9 (F := Ideal) (k0_pay3 v) (k0_pay5 i) k0_pay6 (k0_pay7 k q) (k0_pay8 sl) (ix3 0 r d)
      = val_main_v48 (F := Ideal) x0 (ix3 b T n) := by
  have h2 : (i 2).val < 64 := (i 2).isLt
  rw [result_at x0 b g hh T d n hn]
  pointwise [k0_pay9, k0_pay3, k0_pay7, k0_pay2, k0_pay8]
  rw [hsl]
  obtain ⟨u, hu⟩ := Words.slope_real (g.val * 4 + hh.val)
  have real : ∀ s : Fin 8192, ∃ y : ℝ,
      (∑ x : Fin 64, x0 (ix3 b s ⟨7680 + (g.val * 64 + x.val), by omega⟩)
              * x0 (ix3 b T ⟨5120 + (g.val * 256 + hh.val * 64 + x.val), by omega⟩)) = (y : EReal) := fun s =>
    Words.dot_real Finset.univ
      (fun x : Fin 64 => x0 (ix3 b s ⟨7680 + (g.val * 64 + x.val), by omega⟩))
      (fun x : Fin 64 => x0 (ix3 b T ⟨5120 + (g.val * 256 + hh.val * 64 + x.val), by omega⟩))
      (fun x => rk b s ⟨g.val * 64 + x.val, by omega⟩) (fun x => rq b T ⟨g.val * 256 + hh.val * 64 + x.val, by omega⟩)
  have sum_eq : ∀ (j : Fin 8192) (w : Fin 640), j.val + 512 = (i 2).val * 128 + w.val →
      ∑ x : Fin 64, q (ix3 0 r x) * k (ix4 0 0 w x)
        = ∑ x : Fin 64, x0 (ix3 b j ⟨7680 + (g.val * 64 + x.val), by omega⟩)
              * x0 (ix3 b T ⟨5120 + (g.val * 256 + hh.val * 64 + x.val), by omega⟩) := by
    intro j w hw
    refine Finset.sum_congr rfl fun x _ => ?_
    rw [hq, hk j w x hw, mul_comm]
  refine Attend.attend_plain ((i 2).val * 128) 512 (fun s => val_main_v36 (F := Ideal) x0 (ix5 b g hh T s)) _ _ _ _ _
    (u * (r.val : ℝ)) ?_ ?_ ?_ ?_ ?_ ?_ ?_ T ?_
  · intro j w hw
    beta_reduce
    rw [score_at, band_at, rel_at, Words.select_ite, Words.lit_eighth, mask_bot, sum_eq j w hw, hu]
    by_cases hb : j.val ≤ T.val ∧ T.val < j.val + 512
    · obtain ⟨y, hy⟩ := real j
      have e : (w.val : ℤ) - (512 : ℕ) = (r.val : ℤ) - ((T.val : ℤ) - (j.val : ℤ)) := by omega
      rw [if_pos hb, if_pos (by omega), e, hy, ← EReal.coe_mul, ← EReal.coe_mul, ← EReal.coe_mul, ← EReal.coe_sub,
        ← EReal.coe_add, ← EReal.coe_add, Int.cast_sub (r.val : ℤ)]
      refine congrArg _ ?_
      rw [Int.cast_natCast]
      ring
    · rw [if_neg hb, if_neg (by omega), EReal.bot_add]
  · intro j w hw
    exact hv j w d hw
  · intro j hj
    beta_reduce
    rw [score_at, if_neg]
    intro hb
    exact hj ⟨j.val + 512 - (i 2).val * 128, by omega⟩ (by show j.val + 512 = (i 2).val * 128 + (j.val + 512 - (i 2).val * 128); omega)
  · intro w hw
    beta_reduce
    rw [band_at, rel_at, Words.select_ite, mask_bot, if_neg]
    intro hb
    exact hw ⟨(i 2).val * 128 + w.val - 512, by omega⟩ (by show (i 2).val * 128 + w.val - 512 + 512 = (i 2).val * 128 + w.val; omega)
  · rw [top_at]
  · rw [Words.lit_bot]
  · intro j
    rw [score_at]
    obtain ⟨y, hy⟩ := real j
    split
    · rw [hy, hu, ← EReal.coe_mul, ← EReal.coe_mul, ← EReal.coe_sub]; exact EReal.coe_ne_top _
    · exact bot_ne_top
  · rw [score_at, if_pos (by omega)]
    obtain ⟨y, hy⟩ := real T
    rw [hy, hu, ← EReal.coe_mul, ← EReal.coe_mul, ← EReal.coe_sub]
    exact EReal.coe_ne_bot _

end Cert.WinIdeal.WinHead

end
-- ==== Proof.WinValue.lean ====
module

public import proofs.«01_k».proof.Proof.WinReads
public import proofs.«01_k».proof.Proof.WinHead

@[expose] public section

set_option maxRecDepth 16384

noncomputable section

/-! # The window branch's result array is the reference's -/

namespace Cert.WinIdeal.WinValue

open Cert.WinIdeal Cert.WinIdeal.Gen Idealize.ShloMosaic Idealize.ShloMosaic.TcCoe Idealize.SL.Sem
open Idealize.ShloMosaic.Pipeline (Dat)
open Cert.WinRefIdeal.Read

variable (m : (ℓ : Loc nD τ sig) → Buf (Elt Ideal) ℓ)

/-- What a point's head stores, by the reference. -/
theorem point (c : Dev nD) (t : Fin cfg0.N) (hh : Fin 4) (x : S1x128x64.Idx) (y : S1x128x256.Idx)
    (h0 : (y 0).val = (x 0).val) (h1 : (y 1).val = (x 1).val) (h2 : (y 2).val = hh.val * 64 + (x 2).val)
    (rq : ∀ (b : Fin 2) (t : Fin 8192) (e : Fin 512), ∃ y : ℝ,
      m ((c : Thread nD τ).loc main_arg0) (ix3 b t ⟨5120 + e.val, by omega⟩) = (y : EReal))
    (rk : ∀ (b : Fin 2) (t : Fin 8192) (e : Fin 128), ∃ y : ℝ,
      m ((c : Thread nD τ).loc main_arg0) (ix3 b t ⟨7680 + e.val, by omega⟩) = (y : EReal))
    (o : Fin 3 → ℕ) (ho : o = ![0, 0, hh.val * 64]) (i0 : ∀ a, o a + S1x128x64.size a ≤ S1x128x256.size a)
    (o' : Fin 4 → ℕ) (ho' : o' = ![0, hh.val, 0, 0]) (i1 : ∀ a, o' a + S1x1x1x128.size a ≤ S1x4x1x128.size a)
    (i2 : ∀ a, (k0_off1 (grid0.coords t)) a + S1x1x640x64.size a ≤ S1x1x8704x64.size a) :
    k0_pay9 (F := Ideal) (k0_pay3 (View.ld (iblk m c 2 t) (Rect.unit (k0_off1 (grid0.coords t)) S1x1x640x64.size i2)))
      (k0_pay5 (grid0.coords t)) k0_pay6
      (k0_pay7 (View.ld (iblk m c 1 t) (Rect.unit (k0_off1 (grid0.coords t)) S1x1x640x64.size i2))
        (View.ld (iblk m c 0 t) (Rect.unit o S1x128x64.size i0)))
      (k0_pay8 (View.ld (iblk m c 3 t) (Rect.unit o' S1x1x1x128.size i1))) x
    = val_main_v48 (F := Ideal) (m ((c : Thread nD τ).loc main_arg0))
        (((View.whole main_v21).slice (win0_4.rect t)).emb y) := by
  have ht := idx t
  have hi : (grid0.coords t 2).val = t.val % 64 := ht.2.2.2.2.2.1
  have hN : t.val < 256 := ht.2.2.2.2.2.2
  have x1 : (x 1).val < 128 := (x 1).isLt
  have x2 : (x 2).val < 64 := (x 2).isLt
  have x0 : (x 0).val < 1 := (x 0).isLt
  have ex : x = ix3 0 ⟨(x 1).val, x1⟩ ⟨(x 2).val, x2⟩ := by
    funext a
    match a with
    | ⟨0, _⟩ => exact Fin.ext (by show (x 0).val = 0; omega)
    | ⟨1, _⟩ => rfl
    | ⟨2, _⟩ => rfl
  have ey : ((View.whole main_v21).slice (win0_4.rect t)).emb y = ix3 (⟨t.val / 128, by omega⟩ : Fin 2)
      (⟨t.val % 64 * 128 + (x 1).val, by omega⟩ : Fin 8192) (⟨t.val / 64 % 2 * 256 + hh.val * 64 + (x 2).val, by omega⟩ : Fin 512) := by
    blk_ext [idx t]
  rw [ey]
  refine (congrArg (k0_pay9 _ _ _ _ _) ex).trans ?_
  refine WinHead.head _ (grid0.coords t) ⟨t.val / 128, by omega⟩ ⟨t.val / 64 % 2, by omega⟩ hh
    ⟨(x 1).val, x1⟩ ⟨(x 2).val, x2⟩ ⟨t.val % 64 * 128 + (x 1).val, by omega⟩
    ⟨t.val / 64 % 2 * 256 + hh.val * 64 + (x 2).val, by omega⟩ _ _ _ _ ?_ ?_ ?_ ?_ ?_ ?_ rq rk
  · show t.val % 64 * 128 + (x 1).val = (grid0.coords t 2).val * 128 + (x 1).val
    rw [hi]
  · rfl
  · intro e
    exact queries m c t _ _ hh _ e rfl rfl o ho i0
  · intro s w e h
    rw [hi] at h
    exact keys m c t _ _ s w e rfl rfl h i2
  · intro s w e h
    rw [hi] at h
    exact vals m c t _ _ s w e rfl rfl h i2
  · exact slopes m c t _ hh rfl o' ho' i1

/-- The array the launch leaves. -/
theorem final (c : Dev nD)
    (rq : ∀ (b : Fin 2) (t : Fin 8192) (e : Fin 512), ∃ y : ℝ,
      m ((c : Thread nD τ).loc main_arg0) (ix3 b t ⟨5120 + e.val, by omega⟩) = (y : EReal))
    (rk : ∀ (b : Fin 2) (t : Fin 8192) (e : Fin 128), ∃ y : ℝ,
      m ((c : Thread nD τ).loc main_arg0) (ix3 b t ⟨7680 + e.val, by omega⟩) = (y : EReal)) : (dats m 0 c).arrAt 4 (cfgs 0).N
    = val_main_v48 (F := Ideal) (m ((c : Thread nD τ).loc main_arg0)) := by
  refine (dats m 0 c).arrAt_eq_of_covers 4 _ (by decide +kernel) fun t _ y => ?_
  blk_simp
  rw [after0_4]
  unfold outsAt0
  frame_out
  canon_tiles x h
  · exact point m c t 3 x y (by omega) (by omega) (by omega) rq rk _ rfl _ _ rfl _ _
  · exact point m c t 2 x y (by omega) (by omega) (by omega) rq rk _ rfl _ _ rfl _ _
  · exact point m c t 1 x y (by omega) (by omega) (by omega) rq rk _ rfl _ _ rfl _ _
  · exact point m c t 0 x y (by omega) (by omega) (by omega) rq rk _ rfl _ _ rfl _ _

end Cert.WinIdeal.WinValue

end
-- ==== Proof.WinClaims.lean ====
module

public import proofs.«01_k».proof.Defs
public import proofs.«01_k».proof.Proof.Gen.Win
public import proofs.«01_k».proof.Proof.Gen.Pre_win_scores_finite
public import proofs.«01_k».proof.Proof.Gen.Win.Frame
public import proofs.«01_k».proof.Proof.Gen.WinRefIdeal.Run
public import proofs.«01_k».proof.Proof.Gen.WinIdeal.Value
public import proofs.«01_k».proof.Proof.WinValue
public import Idealize.ShloMosaic.Lib.Claim

@[expose] public section

set_option maxRecDepth 16384

noncomputable section

/-! # The claims about the window branch of the sparse attention -/

namespace Cert.Proof.Win

open Idealize.ShloMosaic Idealize.SL.Sem

open Cert.WinIdeal Idealize.ShloMosaic.TcCoe

/-- Less, as a bit that is set. -/
theorem lt_of_bit (x y : EReal) (h : Ideal.cmp .olt x y = 1#1) : x < y := by
  by_contra hn
  simp [Ideal.cmp, hn] at h

/-- An absolute value below infinity is a real number's. -/
theorem real_of_bit (x : EReal) (h : Ideal.cmp .olt (max x (-x)) (Ideal.ofBits .f32 0x7F800000#32) = 1#1) :
    ∃ r : ℝ, x = (r : EReal) := by
  rw [Words.lit_top] at h
  have h := max_lt_iff.mp (lt_of_bit _ _ h)
  refine Words.real_of_abs ⟨h.1.ne, fun hb => ?_⟩
  rw [hb, EReal.neg_bot] at h
  exact lt_irrefl _ h.2

/-- The precondition at one query. -/
theorem pre_q (x0 : FVec Ideal S2x8192x8448 .f32) (b : Fin 2) (t : Fin 8192) (e : Fin 512) :
    (Cert.Pre_win_scores_finite.fn (F := Ideal) x0).1 (ix3 b t e)
      = Ideal.cmp .olt (max (x0 (ix3 b t ⟨5120 + e.val, by omega⟩)) (-x0 (ix3 b t ⟨5120 + e.val, by omega⟩)))
          (Ideal.ofBits .f32 0x7F800000#32) := by
  pointwise [Cert.Pre_win_scores_finite.fn]
  rfl

/-- The precondition at one key. -/
theorem pre_k (x0 : FVec Ideal S2x8192x8448 .f32) (b : Fin 2) (t : Fin 8192) (e : Fin 128) :
    (Cert.Pre_win_scores_finite.fn (F := Ideal) x0).2 (ix3 b t e)
      = Ideal.cmp .olt (max (x0 (ix3 b t ⟨7680 + e.val, by omega⟩)) (-x0 (ix3 b t ⟨7680 + e.val, by omega⟩)))
          (Ideal.ofBits .f32 0x7F800000#32) := by
  pointwise [Cert.Pre_win_scores_finite.fn]
  rfl

variable {m : (ℓ : Loc nD τ sig) → Buf (Elt Ideal) ℓ}

theorem real_q (hpre : Cert.Pre_WinIdeal_win_scores_finite m) (c : Dev nD) (b : Fin 2) (t : Fin 8192) (e : Fin 512) :
    ∃ y : ℝ, m ((c : Thread nD τ).loc main_arg0) (ix3 b t ⟨5120 + e.val, by omega⟩) = (y : EReal) :=
  real_of_bit _ ((pre_q _ b t e).symm.trans (congrFun (hpre c).1 (ix3 b t e)))

theorem real_k (hpre : Cert.Pre_WinIdeal_win_scores_finite m) (c : Dev nD) (b : Fin 2) (t : Fin 8192) (e : Fin 128) :
    ∃ y : ℝ, m ((c : Thread nD τ).loc main_arg0) (ix3 b t ⟨7680 + e.val, by omega⟩) = (y : EReal) :=
  real_of_bit _ ((pre_k _ b t e).symm.trans (congrFun (hpre c).2 (ix3 b t e)))

theorem kernel_frame : Cert.quiescent_Win :=
  fun m g _ => Cert.Win.Gen.frame m g

theorem ideal_frame : Cert.quiescent_WinIdeal :=
  fun m g _ => Cert.WinIdeal.Gen.frame m g

theorem reference_frame : Cert.quiescent_WinRefIdeal := by
  intro m g _
  run_from Cert.WinRefIdeal.Value.run m g
  · simp
  · exact sem_eq_zero_of_no_sems rfl _

theorem ideal_frame_pre : Cert.quiescent_WinIdeal_pre_win_scores_finite :=
  fun m g _ => Cert.WinIdeal.Gen.frame m g

theorem reference_frame_pre : Cert.quiescent_WinRefIdeal_pre_win_scores_finite :=
  fun m g _ => reference_frame m g trivial

theorem preserves : Cert.preserves_Win_WinIdeal :=
  IdealRules.named_const.statement Cert.WinIdeal.κ "mask" .f32 0xF149F2CA#32 ⊥ rfl

theorem algebraic : Cert.algebraic_WinIdeal_WinRefIdeal_pre_win_scores_finite := by
  pair_intro
  · run_from Cert.WinIdeal.Value.run_blocks m g
  · run_from Cert.WinRefIdeal.Value.run m' g'
    unfold Cert.WinRefIdeal.Value.res_main_v48
    rw [hagree c]
    exact (Cert.WinIdeal.WinValue.final m c (real_q hpre c) (real_k hpre c)).symm

end Cert.Proof.Win

end
-- ==== Proof.InProjValue.lean ====
module

public import proofs.«01_k».proof.Proof.Gen.InProjIdeal.Frame
public import proofs.«01_k».proof.Proof.Gen.InProjRefIdeal.Read
public import Idealize.ShloMosaic.Lib.Pipeline.ValueKit
public import Idealize.ShloMosaic.Lib.Pipeline.ReadBack
public import Idealize.ShloMosaic.Lib.Claim

@[expose] public section

set_option maxRecDepth 16384

noncomputable section

namespace Cert.InProjIdeal.InValue

open Cert.InProjIdeal Cert.InProjIdeal.Gen Idealize.ShloMosaic Idealize.ShloMosaic.TcCoe Idealize.SL.Sem
open Idealize.ShloMosaic.Pipeline (Dat)
open Cert.InProjRefIdeal.Read

variable (m : (ℓ : Loc nD τ sig) → Buf (Elt Ideal) ℓ)

/-- The block that each window reads or writes at grid point `t`: eleven column blocks for each block of rows. -/
theorem idx : ∀ t : Fin cfg0.N, win0_0.index t = ![t.val / 11, 0] ∧ win0_1.index t = ![0, 0] ∧ win0_2.index t = ![0, t.val % 11]
    ∧ win0_3.index t = ![t.val / 11, t.val % 11] ∧ t.val < 176 :=
  (by decide +kernel : ∀ t : Fin grid0.N, _)

/-- The rows that the scratch holds after point `n`: the normalised rows of the block of rows `n / 11`. -/
theorem rows (c : Dev nD) : ∀ (n : ℕ) (h : n < cfg0.N) (hn : n < 176) (r : Fin 1024) (k : Fin 2048), (outsAt0 m c n h).2 (ix2 r k)
    = val_main_v12 (F := Ideal) (m ((c : Thread nD τ).loc main_arg0)) (m ((c : Thread nD τ).loc main_arg1)) (ix2 ⟨n / 11 * 1024 + r, by omega⟩ k) := by
  intro n
  induction n using Nat.strong_induction_on with
  | _ n ih =>
    intro h hn r k
    by_cases h0 : n % 11 = 0
    · rw [outsAt0_A m c ⟨n, h⟩ h0]
      frame_out
      pointwise [k0_pay1, val_main_v0, val_main_v1, val_main_v2, val_main_v3, val_main_v4, val_main_v5, val_main_v6, val_main_v7,
        val_main_v8, val_main_v9, val_main_v10, val_main_v11, val_main_v12, val_main_cst, val_main_cst_0, val_main_cst_1]
      blk_point [iblk, V, idx ⟨n, h⟩]
    · rw [outsAt0_B m c ⟨n, h⟩ h0]
      have e := ih (n - 1) (by omega) (by omega) (by omega) r k
      refine Eq.trans ?_ (e.trans ?_)
      · rfl
      · blk_ext

theorem final (c : Dev nD) : (dats m 0 c).arrAt 3 (cfgs 0).N
    = val_main_v13 (F := Ideal) (m ((c : Thread nD τ).loc main_arg0)) (m ((c : Thread nD τ).loc main_arg1))
        (m ((c : Thread nD τ).loc main_arg2)) := by
  refine (dats m 0 c).arrAt_eq_of_covers 3 _ (by decide +kernel) fun t _ y => ?_
  have hN := (idx t).2.2.2.2
  have hr := rows m c t.val t.isLt hN
  blk_simp
  rw [after0_3]
  by_cases h0 : t.val % 11 = 0
  · rw [outsAt0_A m c t h0] at hr ⊢
    have hp : ∀ (r : Fin 1024) (k : Fin 2048), k0_pay1 (F := Ideal) (iblk m c 0 t) (iblk m c 1 t) (ix2 r k) = _ := fun r k => by
      refine Eq.trans ?_ (hr r k)
      symm
      frame_out
    frame_out
    generalize k0_pay1 (F := Ideal) (iblk m c 0 t) (iblk m c 1 t) = H at hp
    pointwise [k0_pay2, hp, val_main_v13]
    blk_point [iblk, V, idx t]
  · have hq := rows m c (t.val - 1) (by omega) (by omega)
    rw [outsAt0_B m c t h0]
    frame_out
    simp only [read_unread_whole]
    generalize (outsAt0 m c (t.val - 1) _).2 = H at hq ⊢
    pointwise [k0_pay2, hq, val_main_v13]
    blk_point [iblk, V, idx t]

end Cert.InProjIdeal.InValue

end
-- ==== Proof.InProjClaims.lean ====
module

public import proofs.«01_k».proof.Defs
public import proofs.«01_k».proof.Proof.Gen.InProj
public import proofs.«01_k».proof.Proof.Gen.InProj.Frame
public import proofs.«01_k».proof.Proof.Gen.InProjRefIdeal.Run
public import proofs.«01_k».proof.Proof.InProjValue
public import Idealize.ShloMosaic.Lib.Claim

@[expose] public section

set_option maxRecDepth 16384

noncomputable section

/-! # The claims about the input projection -/

namespace Cert.Proof.InProj

open Idealize.ShloMosaic Idealize.SL.Sem

theorem kernel_frame : Cert.quiescent_InProj :=
  fun m g _ => Cert.InProj.Gen.frame m g

theorem ideal_frame : Cert.quiescent_InProjIdeal :=
  fun m g _ => Cert.InProjIdeal.Gen.frame m g

theorem reference_frame : Cert.quiescent_InProjRefIdeal := by
  intro m g _
  run_from Cert.InProjRefIdeal.Value.run m g
  · simp
  · exact sem_eq_zero_of_no_sems rfl _

theorem preserves : Cert.preserves_InProj_InProjIdeal := by
  trivial

theorem algebraic : Cert.algebraic_InProjIdeal_InProjRefIdeal := by
  pair_intro
  · run_from Cert.InProjIdeal.Gen.run_main m g
  · run_from Cert.InProjRefIdeal.Value.run m' g'
    exact (Cert.InProjIdeal.InValue.final m c).symm

end Cert.Proof.InProj

end
-- ==== Proof.OutProjValue.lean ====
module

public import proofs.«01_k».proof.Proof.Gen.OutProjIdeal.Frame
public import proofs.«01_k».proof.Proof.Gen.OutProjRefIdeal.Read
public import Idealize.ShloMosaic.Lib.Pipeline.ValueKit
public import Idealize.ShloMosaic.Lib.Claim

@[expose] public section

set_option maxRecDepth 16384

noncomputable section

namespace Cert.OutProjIdeal.OutValue

open Cert.OutProjIdeal Cert.OutProjIdeal.Gen Idealize.ShloMosaic Idealize.ShloMosaic.TcCoe Idealize.SL.Sem
open Idealize.ShloMosaic.Pipeline (Dat)
open Cert.OutProjRefIdeal.Read

variable (m : (ℓ : Loc nD τ sig) → Buf (Elt Ideal) ℓ)

/-- The block that each window reads or writes at grid point `t`: the rows move with `t`, the weights stay. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0]
    ∧ win0_7.index t = ![0, 0] ∧ win0_8.index t = ![t.val, 0] ∧ t.val < 32 :=
  (by decide +kernel : ∀ t : Fin grid0.N, _)

theorem mix_dot (ya : FVec Ideal S16384x512 .bf16) (yb : FVec Ideal S16384x1024 .bf16) (yc : FVec Ideal S16384x512 .bf16)
    (w : FVec Ideal S2048x2048 .f32) (j : S16384x2048.Idx) :
    val_main_v2 (F := Ideal) ya yb yc w j
      = ∑ k : Fin 512, ya (ix2 (j 0) k) * w (ix2 ⟨k, by omega⟩ (j 1)) + ∑ k : Fin 1024, yb (ix2 (j 0) k) * w (ix2 ⟨512 + k, by omega⟩ (j 1))
        + ∑ k : Fin 512, yc (ix2 (j 0) k) * w (ix2 ⟨1536 + k, by omega⟩ (j 1)) := by
  pointwise [val_main_v0, val_main_v1, val_main_v2, sumSplitAll]
  rw [← add_assoc]
  blk_point []

theorem final (c : Dev nD) : (dats m 0 c).arrAt 8 (cfgs 0).N
    = val_main_v16 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) := by
  refine (dats m 0 c).arrAt_eq_of_covers 8 _ (by decide +kernel) fun t _ y => ?_
  blk_simp
  rw [after0_8]; frame_out
  pointwise [k0_pay1, mix_dot, val_main_v3, val_main_v4, val_main_v5, val_main_v6, val_main_v7,
    val_main_v8, val_main_v9, val_main_v10, val_main_v11, val_main_v12, val_main_v13, val_main_v14, val_main_v15, val_main_v16,
    val_main_cst, val_main_cst_0, val_main_cst_1]
  blk_point [iblk, V, idx t]

end Cert.OutProjIdeal.OutValue

end
-- ==== Proof.OutProjClaims.lean ====
module

public import proofs.«01_k».proof.Defs
public import proofs.«01_k».proof.Proof.Gen.OutProj
public import proofs.«01_k».proof.Proof.Gen.OutProj.Frame
public import proofs.«01_k».proof.Proof.Gen.OutProjRefIdeal.Run
public import proofs.«01_k».proof.Proof.OutProjValue
public import Idealize.ShloMosaic.Lib.Claim

@[expose] public section

set_option maxRecDepth 16384

noncomputable section

/-! # The claims about the output projection -/

namespace Cert.Proof.OutProj

open Idealize.ShloMosaic Idealize.SL.Sem

theorem kernel_frame : Cert.quiescent_OutProj :=
  fun m g _ => Cert.OutProj.Gen.frame m g

theorem ideal_frame : Cert.quiescent_OutProjIdeal :=
  fun m g _ => Cert.OutProjIdeal.Gen.frame m g

theorem reference_frame : Cert.quiescent_OutProjRefIdeal := by
  intro m g _
  run_from Cert.OutProjRefIdeal.Value.run m g
  · simp
  · exact sem_eq_zero_of_no_sems rfl _

theorem preserves : Cert.preserves_OutProj_OutProjIdeal := by
  trivial

theorem algebraic : Cert.algebraic_OutProjIdeal_OutProjRefIdeal := by
  pair_intro
  · run_from Cert.OutProjIdeal.Gen.run_main m g
  · run_from Cert.OutProjRefIdeal.Value.run m' g'
    exact (Cert.OutProjIdeal.OutValue.final m c).symm

end Cert.Proof.OutProj

end
-- ==== Proof.OutMidValue.lean ====
module

public import proofs.«01_k».proof.Proof.Gen.OutMidIdeal.Frame
public import proofs.«01_k».proof.Proof.Gen.OutMidRefIdeal.Read
public import Idealize.ShloMosaic.Lib.Pipeline.ValueKit
public import Idealize.ShloMosaic.Lib.Claim

@[expose] public section

set_option maxRecDepth 16384

noncomputable section

namespace Cert.OutMidIdeal.MidValue

open Cert.OutMidIdeal Cert.OutMidIdeal.Gen Idealize.ShloMosaic Idealize.ShloMosaic.TcCoe Idealize.SL.Sem
open Idealize.ShloMosaic.Pipeline (Dat)
open Cert.OutMidRefIdeal.Read

variable (m : (ℓ : Loc nD τ sig) → Buf (Elt Ideal) ℓ)

/-- The block that each window reads or writes at grid point `t`: the rows move with `t`, the weights stay. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0]
    ∧ win0_7.index t = ![0, 0] ∧ win0_8.index t = ![t.val, 0] ∧ t.val < 32 :=
  (by decide +kernel : ∀ t : Fin grid0.N, _)

theorem mix_dot (ya : FVec Ideal S16384x512 .bf16) (yb : FVec Ideal S16384x1024 .bf16) (yc : FVec Ideal S16384x512 .bf16)
    (w : FVec Ideal S2048x2048 .f32) (j : S16384x2048.Idx) :
    val_main_v2 (F := Ideal) ya yb yc w j
      = ∑ k : Fin 512, ya (ix2 (j 0) k) * w (ix2 ⟨k, by omega⟩ (j 1)) + ∑ k : Fin 1024, yb (ix2 (j 0) k) * w (ix2 ⟨512 + k, by omega⟩ (j 1))
        + ∑ k : Fin 512, yc (ix2 (j 0) k) * w (ix2 ⟨1536 + k, by omega⟩ (j 1)) := by
  pointwise [val_main_v0, val_main_v1, val_main_v2, sumSplitAll]
  rw [← add_assoc]
  blk_point []

theorem final (c : Dev nD) : (dats m 0 c).arrAt 8 (cfgs 0).N
    = val_main_v3 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 8 _ (by decide +kernel) fun t _ y => ?_
  blk_simp
  rw [after0_8]; frame_out
  pointwise [k0_pay1, mix_dot, val_main_v3]
  blk_point [iblk, V, idx t]

end Cert.OutMidIdeal.MidValue

end
-- ==== Proof.OutMidClaims.lean ====
module

public import proofs.«01_k».proof.Defs
public import proofs.«01_k».proof.Proof.Gen.OutMid
public import proofs.«01_k».proof.Proof.Gen.OutMid.Frame
public import proofs.«01_k».proof.Proof.Gen.OutMidRefIdeal.Run
public import proofs.«01_k».proof.Proof.OutMidValue
public import Idealize.ShloMosaic.Lib.Claim

@[expose] public section

set_option maxRecDepth 16384

noncomputable section

/-! # The claims about the output projection without a final norm -/

namespace Cert.Proof.OutMid

open Idealize.ShloMosaic Idealize.SL.Sem

theorem kernel_frame : Cert.quiescent_OutMid :=
  fun m g _ => Cert.OutMid.Gen.frame m g

theorem ideal_frame : Cert.quiescent_OutMidIdeal :=
  fun m g _ => Cert.OutMidIdeal.Gen.frame m g

theorem reference_frame : Cert.quiescent_OutMidRefIdeal := by
  intro m g _
  run_from Cert.OutMidRefIdeal.Value.run m g
  · simp
  · exact sem_eq_zero_of_no_sems rfl _

theorem preserves : Cert.preserves_OutMid_OutMidIdeal := by
  trivial

theorem algebraic : Cert.algebraic_OutMidIdeal_OutMidRefIdeal := by
  pair_intro
  · run_from Cert.OutMidIdeal.Gen.run_main m g
  · run_from Cert.OutMidRefIdeal.Value.run m' g'
    exact (Cert.OutMidIdeal.MidValue.final m c).symm

end Cert.Proof.OutMid

end
-- ==== Proof.MixAValue.lean ====
module

public import proofs.«01_k».proof.Proof.Gen.MixAIdeal.Frame
public import proofs.«01_k».proof.Proof.Gen.MixARefIdeal.Read
public import Idealize.ShloMosaic.Lib.Pipeline.ValueKit
public import Idealize.ShloMosaic.Lib.Claim

@[expose] public section

set_option maxRecDepth 16384

noncomputable section

/-! # Mixer A's gated sum is the reference's -/

namespace Cert.MixAIdeal.MixValue

open Cert.MixAIdeal Cert.MixAIdeal.Gen Idealize.ShloMosaic Idealize.ShloMosaic.TcCoe Idealize.SL.Sem
open Idealize.ShloMosaic.Pipeline (Dat)
open Cert.MixARefIdeal.Read

variable (m : (ℓ : Loc nD τ sig) → Buf (Elt Ideal) ℓ)

/-- The block that each window reads or writes at grid point `t`. -/
theorem idx : ∀ t : Fin cfg0.N, win0_0.index t = ![t.val, 0] ∧ win0_1.index t = ![t.val, 0] ∧ win0_2.index t = ![t.val, 0]
    ∧ win0_3.index t = ![t.val, 64] ∧ win0_4.index t = ![t.val, 11] ∧ win0_5.index t = ![t.val, 0] ∧ t.val < 32 :=
  (by decide +kernel : ∀ t : Fin grid0.N, _)

/-- The gate path's block, in the projection. -/
theorem gate (c : Dev nD) (t : Fin cfg0.N) (r : Fin 512) (k : Fin 512) :
    X0_4 m c t (ix2 r k) = m ((c : Thread nD τ).loc main_arg3) (ix2 ⟨t.val * 512 + r.val, by have := (idx t).2.2.2.2.2.2; omega⟩ ⟨5632 + k.val, by omega⟩) := by
  unfold X0_4 Pipeline.Window.fill
  rw [dif_pos (moved0_4 t _)]
  have e := (idx t).2.2.2.2.1
  refine congrArg (m ((c : Thread nD τ).loc main_arg3)) (funext fun a => ?_)
  match a with
  | ⟨0, _⟩ => exact Fin.ext (by show win0_4.index t 0 * 512 + 1 * r.val = _; rw [e]; show t.val * 512 + 1 * r.val = t.val * 512 + r.val; omega)
  | ⟨1, _⟩ => exact Fin.ext (by show win0_4.index t 1 * 512 + 1 * k.val = _; rw [e]; show 11 * 512 + 1 * k.val = 5632 + k.val; omega)

/-- The gate path's block. -/
theorem gates (c : Dev nD) (t : Fin cfg0.N) :
    X0_4 m c t = fun i : S512x512.Idx => m ((c : Thread nD τ).loc main_arg3) (ix2
      ⟨t.val * 512 + (i 0).val, by have := (idx t).2.2.2.2.2.2; have h : (i 0).val < 512 := (i 0).isLt; omega⟩
      ⟨5632 + (i 1).val, by have h : (i 1).val < 512 := (i 1).isLt; omega⟩) := by
  funext i
  have e : i = ix2 (⟨(i 0).val, (i 0).isLt⟩ : Fin 512) (⟨(i 1).val, (i 1).isLt⟩ : Fin 512) :=
    funext fun a => by match a with | ⟨0, _⟩ => rfl | ⟨1, _⟩ => rfl
  exact (congrArg (X0_4 m c t) e).trans (gate m c t _ _)

theorem split (x : S512x64.Idx) : x = ix2 (x 0 : Fin 512) (x 1 : Fin 64) :=
  funext fun i => by match i with | ⟨0, _⟩ => rfl | ⟨1, _⟩ => rfl

set_option maxHeartbeats 4000000 in
/-- The array the launch leaves. -/
theorem final (c : Dev nD) : (dats m 0 c).arrAt 5 (cfgs 0).N
    = val_main_v26 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 5 _ (by decide +kernel) fun t _ y => ?_
  blk_simp
  rw [after0_5]
  unfold outsAt0
  frame_out
  rw [gates]
  canon_tiles x h
  · obtain ⟨a, b, rfl⟩ : ∃ (a : Fin 512) (b : Fin 64), x = ix2 a b := ⟨x 0, x 1, split x⟩
    have k0 : (y 0).val = a.val := h0
    have k1 : (y 1).val = 448 + b.val := h1
    pointwise [k0_pay1, k0_pay2, k0_pay3, k0_pay4, k0_pay5, k0_pay6, k0_pay7, k0_pay8, k0_pay9, k0_pay10, k0_pay11, k0_pay12, k0_pay13, k0_pay14, k0_pay15, k0_pay16, val_main_v0, val_main_v1, val_main_v2, val_main_v3, val_main_v4, val_main_v5, val_main_v6,
      val_main_v7, val_main_v8, val_main_v9, val_main_v10, val_main_v11, val_main_v12, val_main_v13, val_main_v14, val_main_v15,
      val_main_v16, val_main_v17, val_main_v18, val_main_v19, val_main_v20, val_main_v21, val_main_v22, val_main_v23, val_main_v24,
      val_main_v25, val_main_v26, val_main_cst, val_main_cst_0, val_main_call0_v0, val_main_call0_v1, val_main_call0_v2, val_main_call0_v3, val_main_call0_v4, val_main_call0_v5, val_main_call0_cst, val_main_call0_cst_0]
    simp only [zero_sub]
    blk_point [iblk, V, idx t]
  · obtain ⟨a, b, rfl⟩ : ∃ (a : Fin 512) (b : Fin 64), x = ix2 a b := ⟨x 0, x 1, split x⟩
    have k0 : (y 0).val = a.val := h0
    have k1 : (y 1).val = 384 + b.val := h1
    pointwise [k0_pay1, k0_pay2, k0_pay3, k0_pay4, k0_pay5, k0_pay6, k0_pay7, k0_pay8, k0_pay9, k0_pay10, k0_pay11, k0_pay12, k0_pay13, k0_pay14, k0_pay15, k0_pay16, val_main_v0, val_main_v1, val_main_v2, val_main_v3, val_main_v4, val_main_v5, val_main_v6,
      val_main_v7, val_main_v8, val_main_v9, val_main_v10, val_main_v11, val_main_v12, val_main_v13, val_main_v14, val_main_v15,
      val_main_v16, val_main_v17, val_main_v18, val_main_v19, val_main_v20, val_main_v21, val_main_v22, val_main_v23, val_main_v24,
      val_main_v25, val_main_v26, val_main_cst, val_main_cst_0, val_main_call0_v0, val_main_call0_v1, val_main_call0_v2, val_main_call0_v3, val_main_call0_v4, val_main_call0_v5, val_main_call0_cst, val_main_call0_cst_0]
    simp only [zero_sub]
    blk_point [iblk, V, idx t]
  · obtain ⟨a, b, rfl⟩ : ∃ (a : Fin 512) (b : Fin 64), x = ix2 a b := ⟨x 0, x 1, split x⟩
    have k0 : (y 0).val = a.val := h0
    have k1 : (y 1).val = 320 + b.val := h1
    pointwise [k0_pay1, k0_pay2, k0_pay3, k0_pay4, k0_pay5, k0_pay6, k0_pay7, k0_pay8, k0_pay9, k0_pay10, k0_pay11, k0_pay12, k0_pay13, k0_pay14, k0_pay15, k0_pay16, val_main_v0, val_main_v1, val_main_v2, val_main_v3, val_main_v4, val_main_v5, val_main_v6,
      val_main_v7, val_main_v8, val_main_v9, val_main_v10, val_main_v11, val_main_v12, val_main_v13, val_main_v14, val_main_v15,
      val_main_v16, val_main_v17, val_main_v18, val_main_v19, val_main_v20, val_main_v21, val_main_v22, val_main_v23, val_main_v24,
      val_main_v25, val_main_v26, val_main_cst, val_main_cst_0, val_main_call0_v0, val_main_call0_v1, val_main_call0_v2, val_main_call0_v3, val_main_call0_v4, val_main_call0_v5, val_main_call0_cst, val_main_call0_cst_0]
    simp only [zero_sub]
    blk_point [iblk, V, idx t]
  · obtain ⟨a, b, rfl⟩ : ∃ (a : Fin 512) (b : Fin 64), x = ix2 a b := ⟨x 0, x 1, split x⟩
    have k0 : (y 0).val = a.val := h0
    have k1 : (y 1).val = 256 + b.val := h1
    pointwise [k0_pay1, k0_pay2, k0_pay3, k0_pay4, k0_pay5, k0_pay6, k0_pay7, k0_pay8, k0_pay9, k0_pay10, k0_pay11, k0_pay12, k0_pay13, k0_pay14, k0_pay15, k0_pay16, val_main_v0, val_main_v1, val_main_v2, val_main_v3, val_main_v4, val_main_v5, val_main_v6,
      val_main_v7, val_main_v8, val_main_v9, val_main_v10, val_main_v11, val_main_v12, val_main_v13, val_main_v14, val_main_v15,
      val_main_v16, val_main_v17, val_main_v18, val_main_v19, val_main_v20, val_main_v21, val_main_v22, val_main_v23, val_main_v24,
      val_main_v25, val_main_v26, val_main_cst, val_main_cst_0, val_main_call0_v0, val_main_call0_v1, val_main_call0_v2, val_main_call0_v3, val_main_call0_v4, val_main_call0_v5, val_main_call0_cst, val_main_call0_cst_0]
    simp only [zero_sub]
    blk_point [iblk, V, idx t]
  · obtain ⟨a, b, rfl⟩ : ∃ (a : Fin 512) (b : Fin 64), x = ix2 a b := ⟨x 0, x 1, split x⟩
    have k0 : (y 0).val = a.val := h0
    have k1 : (y 1).val = 192 + b.val := h1
    pointwise [k0_pay1, k0_pay2, k0_pay3, k0_pay4, k0_pay5, k0_pay6, k0_pay7, k0_pay8, k0_pay9, k0_pay10, k0_pay11, k0_pay12, k0_pay13, k0_pay14, k0_pay15, k0_pay16, val_main_v0, val_main_v1, val_main_v2, val_main_v3, val_main_v4, val_main_v5, val_main_v6,
      val_main_v7, val_main_v8, val_main_v9, val_main_v10, val_main_v11, val_main_v12, val_main_v13, val_main_v14, val_main_v15,
      val_main_v16, val_main_v17, val_main_v18, val_main_v19, val_main_v20, val_main_v21, val_main_v22, val_main_v23, val_main_v24,
      val_main_v25, val_main_v26, val_main_cst, val_main_cst_0, val_main_call0_v0, val_main_call0_v1, val_main_call0_v2, val_main_call0_v3, val_main_call0_v4, val_main_call0_v5, val_main_call0_cst, val_main_call0_cst_0]
    simp only [zero_sub]
    blk_point [iblk, V, idx t]
  · obtain ⟨a, b, rfl⟩ : ∃ (a : Fin 512) (b : Fin 64), x = ix2 a b := ⟨x 0, x 1, split x⟩
    have k0 : (y 0).val = a.val := h0
    have k1 : (y 1).val = 128 + b.val := h1
    pointwise [k0_pay1, k0_pay2, k0_pay3, k0_pay4, k0_pay5, k0_pay6, k0_pay7, k0_pay8, k0_pay9, k0_pay10, k0_pay11, k0_pay12, k0_pay13, k0_pay14, k0_pay15, k0_pay16, val_main_v0, val_main_v1, val_main_v2, val_main_v3, val_main_v4, val_main_v5, val_main_v6,
      val_main_v7, val_main_v8, val_main_v9, val_main_v10, val_main_v11, val_main_v12, val_main_v13, val_main_v14, val_main_v15,
      val_main_v16, val_main_v17, val_main_v18, val_main_v19, val_main_v20, val_main_v21, val_main_v22, val_main_v23, val_main_v24,
      val_main_v25, val_main_v26, val_main_cst, val_main_cst_0, val_main_call0_v0, val_main_call0_v1, val_main_call0_v2, val_main_call0_v3, val_main_call0_v4, val_main_call0_v5, val_main_call0_cst, val_main_call0_cst_0]
    simp only [zero_sub]
    blk_point [iblk, V, idx t]
  · obtain ⟨a, b, rfl⟩ : ∃ (a : Fin 512) (b : Fin 64), x = ix2 a b := ⟨x 0, x 1, split x⟩
    have k0 : (y 0).val = a.val := h0
    have k1 : (y 1).val = 64 + b.val := h1
    pointwise [k0_pay1, k0_pay2, k0_pay3, k0_pay4, k0_pay5, k0_pay6, k0_pay7, k0_pay8, k0_pay9, k0_pay10, k0_pay11, k0_pay12, k0_pay13, k0_pay14, k0_pay15, k0_pay16, val_main_v0, val_main_v1, val_main_v2, val_main_v3, val_main_v4, val_main_v5, val_main_v6,
      val_main_v7, val_main_v8, val_main_v9, val_main_v10, val_main_v11, val_main_v12, val_main_v13, val_main_v14, val_main_v15,
      val_main_v16, val_main_v17, val_main_v18, val_main_v19, val_main_v20, val_main_v21, val_main_v22, val_main_v23, val_main_v24,
      val_main_v25, val_main_v26, val_main_cst, val_main_cst_0, val_main_call0_v0, val_main_call0_v1, val_main_call0_v2, val_main_call0_v3, val_main_call0_v4, val_main_call0_v5, val_main_call0_cst, val_main_call0_cst_0]
    simp only [zero_sub]
    blk_point [iblk, V, idx t]
  · obtain ⟨a, b, rfl⟩ : ∃ (a : Fin 512) (b : Fin 64), x = ix2 a b := ⟨x 0, x 1, split x⟩
    have k0 : (y 0).val = a.val := h0
    have k1 : (y 1).val = 0 + b.val := by first | exact h1 | (rw [Nat.zero_add]; exact h1)
    pointwise [k0_pay1, k0_pay2, k0_pay3, k0_pay4, k0_pay5, k0_pay6, k0_pay7, k0_pay8, k0_pay9, k0_pay10, k0_pay11, k0_pay12, k0_pay13, k0_pay14, k0_pay15, k0_pay16, val_main_v0, val_main_v1, val_main_v2, val_main_v3, val_main_v4, val_main_v5, val_main_v6,
      val_main_v7, val_main_v8, val_main_v9, val_main_v10, val_main_v11, val_main_v12, val_main_v13, val_main_v14, val_main_v15,
      val_main_v16, val_main_v17, val_main_v18, val_main_v19, val_main_v20, val_main_v21, val_main_v22, val_main_v23, val_main_v24,
      val_main_v25, val_main_v26, val_main_cst, val_main_cst_0, val_main_call0_v0, val_main_call0_v1, val_main_call0_v2, val_main_call0_v3, val_main_call0_v4, val_main_call0_v5, val_main_call0_cst, val_main_call0_cst_0]
    simp only [zero_sub]
    blk_point [iblk, V, idx t]

end Cert.MixAIdeal.MixValue

end
-- ==== Proof.MixAClaims.lean ====
module

public import proofs.«01_k».proof.Defs
public import proofs.«01_k».proof.Proof.Gen.MixA
public import proofs.«01_k».proof.Proof.Gen.MixA.Frame
public import proofs.«01_k».proof.Proof.Gen.MixARefIdeal.Run
public import proofs.«01_k».proof.Proof.MixAValue
public import Idealize.ShloMosaic.Lib.Claim

@[expose] public section

set_option maxRecDepth 16384

noncomputable section

/-! # The claims about mixer A's gated sum -/

namespace Cert.Proof.MixA

open Idealize.ShloMosaic Idealize.SL.Sem

theorem kernel_frame : Cert.quiescent_MixA :=
  fun m g _ => Cert.MixA.Gen.frame m g

theorem ideal_frame : Cert.quiescent_MixAIdeal :=
  fun m g _ => Cert.MixAIdeal.Gen.frame m g

theorem reference_frame : Cert.quiescent_MixARefIdeal := by
  intro m g _
  run_from Cert.MixARefIdeal.Value.run m g
  · simp
  · exact sem_eq_zero_of_no_sems rfl _

theorem preserves : Cert.preserves_MixA_MixAIdeal := by
  trivial

theorem algebraic : Cert.algebraic_MixAIdeal_MixARefIdeal := by
  pair_intro
  · run_from Cert.MixAIdeal.Gen.run_main m g
  · run_from Cert.MixARefIdeal.Value.run m' g'
    exact (Cert.MixAIdeal.MixValue.final m c).symm

end Cert.Proof.MixA

end
-- ==== Proof.CmpRef.lean ====
module

public import proofs.«01_k».proof.Proof.Gen.CmpRefIdeal.Read
public import Idealize.ShloMosaic.Lib.Pipeline.ValueKit
public import proofs.«01_k».proof.Proof.Words

@[expose] public section

set_option maxRecDepth 16384

noncomputable section

/-! # The compressed branch's reference, read at one point -/

namespace Cert.CmpRefIdeal.Rows

open Cert.CmpRefIdeal Cert.CmpRefIdeal.Gen Idealize.ShloMosaic Idealize.ShloMosaic.TcCoe Idealize.SL.Sem
open Cert.CmpRefIdeal.Read

/-- At most, as a bit. -/
theorem sle_ite (x y : BitVec 32) : IntOp.cmpi .sle x y = if x.toInt ≤ y.toInt then 1#1 else 0#1 := by
  simp only [IntOp.cmpi, BitVec.sle]
  by_cases h : x.toInt ≤ y.toInt <;> simp [h]

/-- The last position of a compressed block, read signed. -/
theorem last_toInt (n : ℕ) (hn : n < 4096) :
    (IntOp.addi (IntOp.muli (BitVec.ofNat 32 n) 16#32) 31#32).toInt = (n : ℤ) * 16 + 31 := by
  refine Words.add_toInt _ _ ((n : ℤ) * 16) 31 ?_ (by decide) (by omega) (by omega)
  rw [IntOp.muli, BitVec.toInt_mul, Words.lit_toInt n (by omega), show (16#32).toInt = 16 by decide, Int.bmod_def]
  omega

/-- Whether a block is wholly in the past of a query. -/
theorem vis_at (t : Fin 8192) (i : Fin 511) :
    val_main_v12 (F := Ideal) (ix2 t i) = if i.val * 16 + 31 ≤ t.val then 1#1 else 0#1 := by
  pointwise [val_main_v12, val_main_v11, val_main_v10, val_main_v9, val_main_v8, val_main_v7, val_main_v6, val_main_c, val_main_c_0]
  rw [sle_ite, last_toInt _ (by omega), Words.lit_toInt _ (by omega)]
  have e : ((i.val : ℤ) * 16 + 31 ≤ (t.val : ℤ)) ↔ (i.val * 16 + 31 ≤ t.val) := by omega
  simp only [e]

/-- Bits one of which is set, together. -/
theorem fold_one {n : ℕ} (f : Fin n → BitVec 1) (i : Fin n) (h : f i = 1#1) :
    Finset.fold IntOp.ori (0#1) f Finset.univ = 1#1 := by
  classical
  rw [← Finset.insert_erase (Finset.mem_univ i), Finset.fold_insert (Finset.notMem_erase _ _), h]
  generalize Finset.fold IntOp.ori (0#1) f _ = z
  revert z
  decide

/-- Bits none of which is set, together. -/
theorem fold_zero {n : ℕ} (f : Fin n → BitVec 1) (h : ∀ i, f i = 0#1) :
    Finset.fold IntOp.ori (0#1) f Finset.univ = 0#1 := by
  classical
  have e : ∀ s : Finset (Fin n), Finset.fold IntOp.ori (0#1) f s = 0#1 := by
    intro s
    induction s using Finset.induction_on with
    | empty => rfl
    | insert a s ha ih => rw [Finset.fold_insert ha, ih, h]; decide
  exact e _

theorem seen_at (t : Fin 8192) (i : Fin 1) :
    val_main_v28 (F := Ideal) (ix2 t i) = if 31 ≤ t.val then 1#1 else 0#1 := by
  pointwise [val_main_v28, val_main_v27, val_main_c_4]
  by_cases ht : 31 ≤ t.val
  · rw [if_pos ht]
    exact fold_one _ ⟨0, by omega⟩ (by rw [vis_at, if_pos (by show 0 * 16 + 31 ≤ t.val; omega)])
  · rw [if_neg ht]
    exact fold_zero _ fun k => by rw [vis_at, if_neg (by omega)]

variable (x0 : (⟨S2x8192x8448, .f32⟩ : BufTy).Contents (Elt Ideal))
variable (x1 x2 : (⟨S2x2x512x64, .bf16⟩ : BufTy).Contents (Elt Ideal))

/-- A row maximum along the last axis. -/
theorem row_max (v : FVec Ideal S2x2x4x8192x511 .f32) (z : FVec Ideal S_ .f32) (b g : Fin 2) (h : Fin 4) (t : Fin 8192) :
    Host.reduce FloatOps.maximumf v z reducesTo_S2x2x4x8192x511_S2x2x4x8192_d4 h_S_ (ix4 b g h t)
      = Finset.univ.fold max (z (Shape.Idx.first h_S_)) fun s : Fin 511 => v (ix5 b g h t s) := by
  simp only [pointwise]

/-- A row maximum along the last axis, from `⊥`. -/
theorem row_max_bot (v : FVec Ideal S2x2x4x8192x511 .f32) (z : FVec Ideal S_ .f32)
    (hz : z (Shape.Idx.first h_S_) = (⊥ : EReal)) (b g : Fin 2) (h : Fin 4) (t : Fin 8192) :
    Host.reduce FloatOps.maximumf v z reducesTo_S2x2x4x8192x511_S2x2x4x8192_d4 h_S_ (ix4 b g h t)
      = Finset.univ.fold max (⊥ : EReal) fun s : Fin 511 => v (ix5 b g h t s) := by
  rw [row_max, hz]

/-- The row's largest score. -/
theorem top_at (b g : Fin 2) (h : Fin 4) (t : Fin 8192) (s : Fin 1) :
    val_main_v19 (F := Ideal) x0 x1 (ix5 b g h t s)
      = Finset.univ.fold max (⊥ : EReal) fun s : Fin 511 => val_main_v17 (F := Ideal) x0 x1 (ix5 b g h t s) := by
  rw [val_main_v19_apply]
  refine Eq.trans (congrArg (val_main_v18 (F := Ideal) x0 x1) ?_)
    (row_max_bot (val_main_v17 (F := Ideal) x0 x1) (val_main_cst_2 (F := Ideal)) Words.lit_bot b g h t)
  funext a
  match a with
  | ⟨0, _⟩ => rfl
  | ⟨1, _⟩ => rfl
  | ⟨2, _⟩ => rfl
  | ⟨3, _⟩ => rfl

theorem weight_at (b g : Fin 2) (h : Fin 4) (t : Fin 8192) (s : Fin 511) :
    val_main_v22 (F := Ideal) x0 x1 (ix5 b g h t s)
      = Ideal.exp (val_main_v17 (F := Ideal) x0 x1 (ix5 b g h t s) - val_main_v19 (F := Ideal) x0 x1 (ix5 b g h t 0)) := by
  pointwise [val_main_v22, val_main_v21, val_main_v20]

theorem total_at (b g : Fin 2) (h : Fin 4) (t : Fin 8192) (s : Fin 1) :
    val_main_v24 (F := Ideal) x0 x1 (ix5 b g h t s) = ∑ s : Fin 511, val_main_v22 (F := Ideal) x0 x1 (ix5 b g h t s) := by
  pointwise [val_main_v24, val_main_v23, val_main_cst_3]

theorem share_at (b g : Fin 2) (h : Fin 4) (t : Fin 8192) (s : Fin 511) :
    val_main_v32 (F := Ideal) x0 x1 (ix5 b g h t s)
      = Ideal.div (val_main_v22 (F := Ideal) x0 x1 (ix5 b g h t s)) (val_main_v24 (F := Ideal) x0 x1 (ix5 b g h t 0))
          * (if 31 ≤ t.val then 1 else 0) := by
  pointwise [val_main_v32, val_main_v31, val_main_v30, val_main_v29, val_main_v26, val_main_v25]
  rw [seen_at]
  by_cases ht : 31 ≤ t.val
  · rw [if_pos ht, if_pos ht, show (FloatOps.uitofp FTy.f32 1#1 : Ideal .f32) = (1 : EReal) by simp [FloatOps.uitofp]]
  · rw [if_neg ht, if_neg ht, show (FloatOps.uitofp FTy.f32 0#1 : Ideal .f32) = (0 : EReal) by simp [FloatOps.uitofp]]

theorem out_at (b g : Fin 2) (h : Fin 4) (t : Fin 8192) (d : Fin 64) :
    val_main_v33 (F := Ideal) x0 x1 x2 (ix5 b g d h t)
      = ∑ s : Fin 511, x2 (ix4 b g ⟨s.val, by omega⟩ d) * val_main_v32 (F := Ideal) x0 x1 (ix5 b g h t s) := by
  pointwise [val_main_v33, val_main_v5, val_main_v4]

/-- Heads side by side. -/
theorem heads_at (b g : Fin 2) (h : Fin 4) (t : Fin 8192) (d : Fin 64) (n : Fin 512)
    (hn : n.val = g.val * 256 + h.val * 64 + d.val) :
    val_main_v35 (F := Ideal) x0 x1 x2 (ix3 b t n) = val_main_v33 (F := Ideal) x0 x1 x2 (ix5 b g d h t) := by
  have e1 : n.val / 256 = g.val := by omega
  have e2 : n.val / 64 % 4 = h.val := by omega
  have e3 : n.val % 64 = d.val := by omega
  pointwise [val_main_v35, val_main_v34]
  simp only [e1, e2, e3]

/-- The result at one point, over the row's scores and their maximum. -/
theorem result_at (b g : Fin 2) (h : Fin 4) (t : Fin 8192) (d : Fin 64) (n : Fin 512)
    (hn : n.val = g.val * 256 + h.val * 64 + d.val) :
    val_main_v35 (F := Ideal) x0 x1 x2 (ix3 b t n)
      = ∑ s : Fin 511, x2 (ix4 b g ⟨s.val, by omega⟩ d)
          * (Ideal.div
              (Ideal.exp (val_main_v17 (F := Ideal) x0 x1 (ix5 b g h t s) - val_main_v19 (F := Ideal) x0 x1 (ix5 b g h t 0)))
              (∑ i : Fin 511, Ideal.exp (val_main_v17 (F := Ideal) x0 x1 (ix5 b g h t i)
                  - val_main_v19 (F := Ideal) x0 x1 (ix5 b g h t 0))) * (if 31 ≤ t.val then 1 else 0)) := by
  rw [heads_at x0 x1 x2 b g h t d n hn, out_at]
  simp only [share_at, total_at, weight_at]

/-- A score: the scaled product, `⊥` at a block not yet past. -/
theorem score_at (b g : Fin 2) (h : Fin 4) (t : Fin 8192) (s : Fin 511) :
    val_main_v17 (F := Ideal) x0 x1 (ix5 b g h t s)
      = if s.val * 16 + 31 ≤ t.val then
          (∑ x : Fin 64, x1 (ix4 b g ⟨s.val, by omega⟩ x)
              * x0 (ix3 b t ⟨5120 + (g.val * 256 + h.val * 64 + x.val), by omega⟩)) * ((1 / 8 : ℝ) : EReal)
        else ⊥ := by
  pointwise [val_main_v17, val_main_v16, val_main_v15, val_main_v14, val_main_v13, val_main_v3, val_main_v2, val_main_v1, val_main_v0,
    val_main_call0_v1, val_main_call0_v2, val_main_cst]
  rw [vis_at, Words.select_ite, Words.lit_eighth, show val_main_call0_v0 (F := Ideal) ix0 = ⊥ from Words.lit_bot]

end Cert.CmpRefIdeal.Rows

end
-- ==== Proof.CmpHead.lean ====
module

public import proofs.«01_k».proof.Proof.Gen.CmpIdeal.Frame
public import proofs.«01_k».proof.Proof.CmpRef
public import proofs.«01_k».proof.Proof.Attend
public import Idealize.ShloMosaic.Lib.Pipeline.ValueKit
public import Idealize.ShloMosaic.Lib.IdealHost
public import Idealize.ShloMosaic.Lib.StableHlo.ReadAt

@[expose] public section

set_option maxRecDepth 16384

noncomputable section

/-! # One head of one block of the compressed branch against the reference -/

namespace Cert.CmpIdeal.CmpHead

open Cert.CmpIdeal Cert.CmpIdeal.Gen Idealize.ShloMosaic Idealize.ShloMosaic.TcCoe Idealize.SL.Sem
open Cert.CmpRefIdeal.Read Cert.CmpRefIdeal.Rows

/-- A row with a score: each weight over the total first or last, and one masked score more or less. -/
theorem attend_seen {T W : ℕ} (S v : Fin T → EReal) (S' v' : Fin W → EReal) (M M' : EReal)
    (hm : ∀ (j : Fin T) (c : Fin W), j.val = c.val → S' c = S j)
    (hv : ∀ (j : Fin T) (c : Fin W), j.val = c.val → v' c = v j)
    (ho : ∀ j : Fin T, (∀ c : Fin W, j.val ≠ c.val) → S j = ⊥)
    (ho' : ∀ c : Fin W, (∀ j : Fin T, j.val ≠ c.val) → S' c = ⊥)
    (hM : M = Finset.univ.fold max ⊥ S) (hM' : M' = Finset.univ.fold max ⊥ S')
    (hS : ∀ j, S j ≠ ⊤) (j0 : Fin T) (hj0 : S j0 ≠ ⊥) :
    ∑ c, Ideal.exp (S' c - M') * Ideal.div 1 (∑ c, Ideal.exp (S' c - M')) * v' c
    = ∑ j, v j * (Ideal.div (Ideal.exp (S j - M)) (∑ i, Ideal.exp (S i - M)) * 1) := by
  have z : ∀ (j : Fin T) (c : Fin W), j.val + 0 = 0 + c.val → j.val = c.val := fun j c h => by omega
  have z' : ∀ (j : Fin T) (c : Fin W), j.val + 0 ≠ 0 + c.val → j.val ≠ c.val := fun j c h => by omega
  have hMM : M' = M := by
    have h := Attend.max_shift 0 0 S S' ⊥ ⊥ 0 (fun j c h => by rw [hm j c (z j c h)]; simp)
      (fun j h => ho j fun c => z' j c (h c)) (fun c h => ho' c fun j => z' j c (h j)) (by simp) j0
    rw [max_bot_right, max_bot_right, EReal.coe_zero, add_zero] at h
    rw [hM, hM', h]
  subst hMM
  have h2 : ∑ c, Ideal.exp (S' c - M') = ∑ j, Ideal.exp (S j - M') := by
    refine Attend.window_sum 0 0 _ _ (fun j c h => by rw [hm j c (z j c h)]) (fun j h => ?_) (fun c h => ?_)
    · rw [ho j fun c => z' j c (h c)]; simp
    · rw [ho' c fun j => z' j c (h j)]; simp
  have hle : ∀ j, S j ≤ M' := fun j => hM ▸ Finset.le_sup (f := S) (Finset.mem_univ j)
  have hbot : M' ≠ ⊥ := fun h => hj0 (le_bot_iff.mp (h ▸ hle j0))
  have htop : M' ≠ ⊤ := by
    have h1 : Finset.univ.sup S < ⊤ :=
      (Finset.sup_lt_iff bot_lt_top).mpr fun j _ => lt_top_iff_ne_top.mpr (hS j)
    rw [hM]
    exact h1.ne
  rw [h2]
  clear hM hM' h2
  lift M' to ℝ using ⟨htop, hbot⟩
  rename ℝ => a
  choose e he0 he hep using fun j => Attend.weight_real (S j) a (hle j)
  have hd : ∑ i, Ideal.exp (S i - (a : EReal)) = ((∑ i, e i : ℝ) : EReal) := by
    rw [Finset.sum_congr rfl fun i _ => he i, Attend.sum_coe]
  have hpos : 0 < ∑ i, e i := Finset.sum_pos' (fun i _ => he0 i) ⟨j0, Finset.mem_univ _, hep j0 hj0⟩
  have hne : ∑ i, Ideal.exp (S i - (a : EReal)) ≠ 0 := by
    rw [hd]
    exact_mod_cast hpos.ne'
  refine Attend.window_sum 0 0 _ _ (fun j c h => ?_) (fun j h => ?_) (fun c h => ?_)
  · rw [hm j c (z j c h), hv j c (z j c h), Ideal.mul_one_div hne, mul_one, mul_comm]
  · rw [ho j fun c => z' j c (h c), EReal.bot_sub, Ideal.exp_bot, Ideal.zero_div hne]; simp
  · rw [ho' c fun j => z' j c (h j), EReal.bot_sub, Ideal.exp_bot]; simp

/-- The position of a query, read signed. -/
theorem query_toInt (n r : ℕ) (hn : n < 4096) (hr : r < 65536) :
    (IntOp.addi (Scalar.muli (BitVec.ofNat 32 n) 128#32) (BitVec.ofNat 32 r)).toInt = (n : ℤ) * 128 + r :=
  Words.add_toInt _ _ _ _ (Words.block_toInt n hn) (Words.lit_toInt r (by omega)) (by omega) (by omega)

/-- Which blocks a query sees, as one bit. -/
theorem vis_at (i : grid0.Coords) (r : Fin 128) (w : Fin 512) :
    k0_pay3 i (ix2 r w) = if w.val * 16 + 31 ≤ (i 1).val * 128 + r.val then 1#1 else 0#1 := by
  have h1 : (i 1).val < 64 := (i 1).isLt
  pointwise [k0_pay3, k0_pay2]
  rw [sle_ite, last_toInt _ (by omega), query_toInt _ _ (by omega) (by omega)]
  have e : ((w.val : ℤ) * 16 + 31 ≤ ((i 1).val : ℤ) * 128 + (r.val : ℤ)) ↔ (w.val * 16 + 31 ≤ (i 1).val * 128 + r.val) := by omega
  simp only [e]

/-- Whether a query sees a block at all. -/
theorem seen_at (i : grid0.Coords) (r : Fin 128) (z : Fin 1) :
    k0_pay4 (F := Ideal) i (ix2 r z) = if 31 ≤ (i 1).val * 128 + r.val then (1 : EReal) else 0 := by
  have h1 : (i 1).val < 64 := (i 1).isLt
  pointwise [k0_pay4, k0_pay2]
  rw [Words.sge_ite, query_toInt _ _ (by omega) (by omega), show (31#32).toInt = 31 by decide]
  by_cases h : 31 ≤ (i 1).val * 128 + r.val
  · rw [if_pos h, if_pos (by omega)]
    simp [FloatOps.sitofp]
  · rw [if_neg h, if_neg (by omega)]
    simp [FloatOps.sitofp]

/-- The named fill at `Ideal`. -/
theorem mask_bot : (Named.named κ "mask" 0xF149F2CA#32 : Ideal .f32) = (⊥ : EReal) :=
  IdealRules.named_const.ideal_named_scalar _ _ _ _ rfl

variable (x0 : (⟨S2x8192x8448, .f32⟩ : BufTy).Contents (Elt Ideal))
variable (x1 x2 : (⟨S2x2x512x64, .bf16⟩ : BufTy).Contents (Elt Ideal))

/-- What a point's head computes is the reference's result there. -/
theorem head (i : grid0.Coords) (b g : Fin 2) (hh : Fin 4) (r : Fin 128) (d : Fin 64) (T : Fin 8192) (n : Fin 512)
    (q : Vec Ideal S1x128x64 .f32) (k v : Vec Ideal S1x1x512x64 .bf16)
    (hT : T.val = (i 1).val * 128 + r.val) (hn : n.val = g.val * 256 + hh.val * 64 + d.val)
    (hq : ∀ e : Fin 64, q (ix3 0 r e) = x0 (ix3 b T ⟨5120 + (g.val * 256 + hh.val * 64 + e.val), by omega⟩))
    (hk : ∀ (w : Fin 512) (e : Fin 64), k (ix4 0 0 w e) = x1 (ix4 b g w e))
    (hv : ∀ (w : Fin 512) (e : Fin 64), v (ix4 0 0 w e) = x2 (ix4 b g w e))
    (rq : ∀ (b : Fin 2) (t : Fin 8192) (e : Fin 512), ∃ y : ℝ, x0 (ix3 b t ⟨5120 + e.val, by omega⟩) = (y : EReal))
    (rk : ∀ (b g : Fin 2) (w : Fin 511) (e : Fin 64), ∃ y : ℝ, x1 (ix4 b g ⟨w.val, by omega⟩ e) = (y : EReal)) :
    k0_pay13 (F := Ideal) (k0_pay3 i) (k0_pay4 i) (k0_pay9 k) (k0_pay10 v) q (ix3 0 r d)
      = val_main_v35 (F := Ideal) x0 x1 x2 (ix3 b T n) := by
  have h1 : (i 1).val < 64 := (i 1).isLt
  rw [result_at x0 x1 x2 b g hh T d n hn]
  pointwise [k0_pay13, k0_pay12, k0_pay9, k0_pay10]
  rw [seen_at]
  simp only [vis_at, hk, hv, hq, Words.select_ite, Words.lit_eighth, mask_bot, Words.lit_bot]
  by_cases hs : 31 ≤ T.val
  · rw [if_pos hs, if_pos (by omega : 31 ≤ (i 1).val * 128 + r.val)]
    have real : ∀ s : Fin 511, ∃ y : ℝ,
        (∑ x : Fin 64, x1 (ix4 b g ⟨s.val, by omega⟩ x)
              * x0 (ix3 b T ⟨5120 + (g.val * 256 + hh.val * 64 + x.val), by omega⟩)) = (y : EReal) := fun s =>
      Words.dot_real Finset.univ
        (fun x : Fin 64 => x1 (ix4 b g ⟨s.val, by omega⟩ x))
        (fun x : Fin 64 => x0 (ix3 b T ⟨5120 + (g.val * 256 + hh.val * 64 + x.val), by omega⟩))
        (fun x => rk b g s x) (fun x => rq b T ⟨g.val * 256 + hh.val * 64 + x.val, by omega⟩)
    refine attend_seen (fun s => val_main_v17 (F := Ideal) x0 x1 (ix5 b g hh T s))
      (fun s : Fin 511 => x2 (ix4 b g ⟨s.val, by omega⟩ d)) _ (fun w : Fin 512 => x2 (ix4 b g w d)) _ _ ?_ ?_ ?_ ?_ ?_ ?_ ?_
      (⟨0, by omega⟩ : Fin 511) ?_
    · intro j w hw
      have e : (⟨j.val, by omega⟩ : Fin 512) = w := Fin.ext hw
      beta_reduce
      rw [score_at, hT, e, hw]
      refine congrArg (fun z : EReal => if w.val * 16 + 31 ≤ (i 1).val * 128 + r.val then z * ((1 / 8 : ℝ) : EReal) else ⊥) ?_
      exact Finset.sum_congr rfl fun x _ => mul_comm _ _
    · intro j w hw
      have e : (⟨j.val, by omega⟩ : Fin 512) = w := Fin.ext hw
      beta_reduce
      rw [e]
    · intro j hj
      exact absurd rfl (hj ⟨j.val, by omega⟩)
    · intro w hw
      beta_reduce
      rw [if_neg]
      intro hb
      exact hw ⟨w.val, by omega⟩ rfl
    · rw [top_at]
    · rfl
    · intro j
      beta_reduce
      rw [score_at]
      obtain ⟨y, hy⟩ := real j
      split
      · rw [hy, ← EReal.coe_mul]; exact EReal.coe_ne_top _
      · exact bot_ne_top
    · beta_reduce
      rw [score_at, if_pos (by show 0 * 16 + 31 ≤ T.val; omega)]
      obtain ⟨y, hy⟩ := real (⟨0, by omega⟩ : Fin 511)
      rw [hy, ← EReal.coe_mul]
      exact EReal.coe_ne_bot _
  · rw [if_neg hs]
    have e : ∀ w : Fin 512, ¬ w.val * 16 + 31 ≤ (i 1).val * 128 + r.val := fun w => by omega
    simp only [e, if_false, EReal.bot_sub, Ideal.exp_bot, zero_mul, mul_zero, Finset.sum_const_zero]

end Cert.CmpIdeal.CmpHead

end
-- ==== Proof.CmpValue.lean ====
module

public import proofs.«01_k».proof.Proof.CmpHead
public import proofs.«01_k».proof.Proof.Gen.CmpIdeal.Frame

@[expose] public section

set_option maxRecDepth 16384

noncomputable section

/-! # The compressed branch's result array is the reference's -/

namespace Cert.CmpIdeal.CmpValue

open Cert.CmpIdeal Cert.CmpIdeal.Gen Idealize.ShloMosaic Idealize.ShloMosaic.TcCoe Idealize.SL.Sem
open Idealize.ShloMosaic.Pipeline (Dat)
open Cert.CmpRefIdeal.Read

variable (m : (ℓ : Loc nD τ sig) → Buf (Elt Ideal) ℓ)

theorem idx : ∀ t : Fin cfg0.N, win0_0.index t = ![t.val / 64, t.val % 64, 10]
    ∧ win0_1.index t = ![t.val / 64, 0, 0, 0] ∧ win0_2.index t = ![t.val / 64, 0, 0, 0]
    ∧ win0_4.index t = ![t.val / 64, t.val % 64, 0] ∧ (grid0.coords t 1).val = t.val % 64 ∧ t.val < 128 :=
  (by decide +kernel : ∀ t : Fin grid0.N, _)

/-- The launch finds each argument as the caller left it. -/
theorem V0 (c : Dev nD) : V m c main_arg0 = m ((c : Thread nD τ).loc main_arg0) := by
  unfold V
  after_reads_at

theorem V1 (c : Dev nD) : V m c main_arg1 = m ((c : Thread nD τ).loc main_arg1) := by
  unfold V
  after_reads_at

theorem V2 (c : Dev nD) : V m c main_arg2 = m ((c : Thread nD τ).loc main_arg2) := by
  unfold V
  after_reads_at

/-- The queries' block, in the projection. -/
theorem block (c : Dev nD) (t : Fin cfg0.N) (r : Fin 128) (k : Fin 512) :
    X0_0 m c t (ix3 0 r k) = m ((c : Thread nD τ).loc main_arg0) (ix3 (⟨t.val / 64, by have := (idx t).2.2.2.2.2; omega⟩ : Fin 2)
      (⟨t.val % 64 * 128 + r.val, by omega⟩ : Fin 8192) ⟨5120 + k.val, by omega⟩) := by
  unfold X0_0 Pipeline.Window.fill
  rw [dif_pos (moved0_0 t _)]
  have e := (idx t).1
  refine Eq.trans ?_ (congrFun (V0 m c) _)
  refine congrArg (V m c main_arg0) (funext fun a => ?_)
  match a with
  | ⟨0, _⟩ => exact Fin.ext (by show win0_0.index t 0 * 1 + 1 * 0 = _; rw [e]; show t.val / 64 * 1 + 1 * 0 = t.val / 64; omega)
  | ⟨1, _⟩ => exact Fin.ext (by show win0_0.index t 1 * 128 + 1 * r.val = _; rw [e]; show t.val % 64 * 128 + 1 * r.val = t.val % 64 * 128 + r.val; omega)
  | ⟨2, _⟩ => exact Fin.ext (by show win0_0.index t 2 * 512 + 1 * k.val = _; rw [e]; show 10 * 512 + 1 * k.val = 5120 + k.val; omega)

/-- One head's queries at a point. -/
theorem queries (c : Dev nD) (t : Fin cfg0.N) (b : Fin 2) (n : Fin 8) (r : Fin 128) (d : Fin 64) (hb : b.val = t.val / 64)
    (o : Fin 3 → ℕ) (ho : o = ![0, 0, n.val * 64]) (inb : ∀ a, o a + S1x128x64.size a ≤ S1x128x512.size a) :
    View.ld (X0_0 m c t) (Rect.unit o S1x128x64.size inb) (ix3 0 r d)
      = m ((c : Thread nD τ).loc main_arg0) (ix3 b (⟨t.val % 64 * 128 + r.val, by omega⟩ : Fin 8192)
          ⟨5120 + (n.val * 64 + d.val), by omega⟩) := by
  subst ho
  have e : (⟨t.val / 64, by have := (idx t).2.2.2.2.2; omega⟩ : Fin 2) = b := Fin.ext hb.symm
  refine Eq.trans ?_ ((block m c t r ⟨n.val * 64 + d.val, by omega⟩).trans (by rw [e]))
  refine congrArg (X0_0 m c t) (funext fun a => ?_)
  match a with
  | ⟨0, _⟩ => rfl
  | ⟨1, _⟩ => exact Fin.ext (by show 0 + 1 * r.val = r.val; omega)
  | ⟨2, _⟩ => exact Fin.ext (by show n.val * 64 + 1 * d.val = n.val * 64 + d.val; omega)

/-- A group's compressed keys at a point. -/
theorem keys (c : Dev nD) (t : Fin cfg0.N) (b g : Fin 2) (w : Fin 512) (d : Fin 64) (hb : b.val = t.val / 64)
    (o : Fin 4 → ℕ) (ho : o = ![0, g.val, 0, 0]) (inb : ∀ a, o a + S1x1x512x64.size a ≤ S1x2x512x64.size a) :
    View.ld (iblk m c 1 t) (Rect.unit o S1x1x512x64.size inb) (ix4 0 0 w d)
      = m ((c : Thread nD τ).loc main_arg1) (ix4 b g w d) := by
  subst ho
  refine Eq.trans ?_ (congrFun (V1 m c) _)
  pointwise []
  blk_ext [iblk, idx t]

/-- A group's compressed values at a point. -/
theorem vals (c : Dev nD) (t : Fin cfg0.N) (b g : Fin 2) (w : Fin 512) (d : Fin 64) (hb : b.val = t.val / 64)
    (o : Fin 4 → ℕ) (ho : o = ![0, g.val, 0, 0]) (inb : ∀ a, o a + S1x1x512x64.size a ≤ S1x2x512x64.size a) :
    View.ld (iblk m c 2 t) (Rect.unit o S1x1x512x64.size inb) (ix4 0 0 w d)
      = m ((c : Thread nD τ).loc main_arg2) (ix4 b g w d) := by
  subst ho
  refine Eq.trans ?_ (congrFun (V2 m c) _)
  pointwise []
  blk_ext [iblk, idx t]

/-- What a point's head stores, by the reference. -/
theorem point (c : Dev nD) (t : Fin cfg0.N) (g : Fin 2) (hh : Fin 4) (x : S1x128x64.Idx) (y : S1x128x512.Idx)
    (h0 : (y 0).val = (x 0).val) (h1 : (y 1).val = (x 1).val) (h2 : (y 2).val = g.val * 256 + hh.val * 64 + (x 2).val)
    (rq : ∀ (b : Fin 2) (t : Fin 8192) (e : Fin 512), ∃ y : ℝ,
      m ((c : Thread nD τ).loc main_arg0) (ix3 b t ⟨5120 + e.val, by omega⟩) = (y : EReal))
    (rk : ∀ (b g : Fin 2) (w : Fin 511) (e : Fin 64), ∃ y : ℝ,
      m ((c : Thread nD τ).loc main_arg1) (ix4 b g ⟨w.val, by omega⟩ e) = (y : EReal))
    (o : Fin 3 → ℕ) (ho : o = ![0, 0, (g.val * 4 + hh.val) * 64]) (i0 : ∀ a, o a + S1x128x64.size a ≤ S1x128x512.size a)
    (o' : Fin 4 → ℕ) (ho' : o' = ![0, g.val, 0, 0]) (i1 : ∀ a, o' a + S1x1x512x64.size a ≤ S1x2x512x64.size a) :
    k0_pay13 (F := Ideal) (k0_pay3 (grid0.coords t)) (k0_pay4 (grid0.coords t))
      (k0_pay9 (View.ld (iblk m c 1 t) (Rect.unit o' S1x1x512x64.size i1)))
      (k0_pay10 (View.ld (iblk m c 2 t) (Rect.unit o' S1x1x512x64.size i1)))
      (View.ld (X0_0 m c t) (Rect.unit o S1x128x64.size i0)) x
    = val_main_v35 (F := Ideal) (m ((c : Thread nD τ).loc main_arg0)) (m ((c : Thread nD τ).loc main_arg1))
        (m ((c : Thread nD τ).loc main_arg2)) (((View.whole main_v15_0).slice (win0_4.rect t)).emb y) := by
  have ht := idx t
  have hi : (grid0.coords t 1).val = t.val % 64 := ht.2.2.2.2.1
  have hN : t.val < 128 := ht.2.2.2.2.2
  have x1 : (x 1).val < 128 := (x 1).isLt
  have x2 : (x 2).val < 64 := (x 2).isLt
  have x0 : (x 0).val < 1 := (x 0).isLt
  have ex : x = ix3 0 ⟨(x 1).val, x1⟩ ⟨(x 2).val, x2⟩ := by
    funext a
    match a with
    | ⟨0, _⟩ => exact Fin.ext (by show (x 0).val = 0; omega)
    | ⟨1, _⟩ => rfl
    | ⟨2, _⟩ => rfl
  have ey : ((View.whole main_v15_0).slice (win0_4.rect t)).emb y = ix3 (⟨t.val / 64, by omega⟩ : Fin 2)
      (⟨t.val % 64 * 128 + (x 1).val, by omega⟩ : Fin 8192) (⟨g.val * 256 + hh.val * 64 + (x 2).val, by omega⟩ : Fin 512) := by
    blk_ext [idx t]
  rw [ey]
  refine (congrArg (k0_pay13 _ _ _ _ _) ex).trans ?_
  refine CmpHead.head _ _ _ (grid0.coords t) ⟨t.val / 64, by omega⟩ g hh
    ⟨(x 1).val, x1⟩ ⟨(x 2).val, x2⟩ ⟨t.val % 64 * 128 + (x 1).val, by omega⟩
    ⟨g.val * 256 + hh.val * 64 + (x 2).val, by omega⟩ _ _ _ ?_ ?_ ?_ ?_ ?_ rq rk
  · show t.val % 64 * 128 + (x 1).val = (grid0.coords t 1).val * 128 + (x 1).val
    rw [hi]
  · rfl
  · intro e
    refine (queries m c t ⟨t.val / 64, by omega⟩ ⟨g.val * 4 + hh.val, by omega⟩ _ e rfl o ho i0).trans ?_
    have e1 : (⟨5120 + ((g.val * 4 + hh.val) * 64 + e.val), by omega⟩ : Fin 8448)
        = ⟨5120 + (g.val * 256 + hh.val * 64 + e.val), by omega⟩ := Fin.ext (by show 5120 + ((g.val * 4 + hh.val) * 64 + e.val) = 5120 + (g.val * 256 + hh.val * 64 + e.val); omega)
    rw [e1]
  · intro w e
    exact keys m c t ⟨t.val / 64, by omega⟩ g w e rfl o' ho' i1
  · intro w e
    exact vals m c t ⟨t.val / 64, by omega⟩ g w e rfl o' ho' i1

set_option maxHeartbeats 4000000 in
/-- The array the launch leaves. -/
theorem final (c : Dev nD)
    (rq : ∀ (b : Fin 2) (t : Fin 8192) (e : Fin 512), ∃ y : ℝ,
      m ((c : Thread nD τ).loc main_arg0) (ix3 b t ⟨5120 + e.val, by omega⟩) = (y : EReal))
    (rk : ∀ (b g : Fin 2) (w : Fin 511) (e : Fin 64), ∃ y : ℝ,
      m ((c : Thread nD τ).loc main_arg1) (ix4 b g ⟨w.val, by omega⟩ e) = (y : EReal)) : (dats m 0 c).arrAt 4 (cfgs 0).N
    = val_main_v35 (F := Ideal) (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  unfold outsAt0
  frame_out
  canon_tiles x h
  · exact point m c t 1 3 x y (by omega) (by omega) (by omega) rq rk _ rfl _ _ rfl _
  · exact point m c t 1 2 x y (by omega) (by omega) (by omega) rq rk _ rfl _ _ rfl _
  · exact point m c t 1 1 x y (by omega) (by omega) (by omega) rq rk _ rfl _ _ rfl _
  · exact point m c t 1 0 x y (by omega) (by omega) (by omega) rq rk _ rfl _ _ rfl _
  · exact point m c t 0 3 x y (by omega) (by omega) (by omega) rq rk _ rfl _ _ rfl _
  · exact point m c t 0 2 x y (by omega) (by omega) (by omega) rq rk _ rfl _ _ rfl _
  · exact point m c t 0 1 x y (by omega) (by omega) (by omega) rq rk _ rfl _ _ rfl _
  · exact point m c t 0 0 x y (by omega) (by omega) (by omega) rq rk _ rfl _ _ rfl _

end Cert.CmpIdeal.CmpValue

end
-- ==== Proof.SelPick.lean ====
module

public import proofs.«01_k».proof.Proof.Words

@[expose] public section

set_option maxRecDepth 16384

noncomputable section

/-! # Taking the first of the largest, again and again, takes by rank -/

namespace Cert.SelPick

open Idealize.ShloMosaic

variable {n : ℕ}

/-- Whether a place comes before another: it holds more, or as much and lies earlier. -/
def Before (f : Fin n → EReal) (i j : Fin n) : Prop := f j < f i ∨ (f i = f j ∧ i < j)

instance (f : Fin n → EReal) (i j : Fin n) : Decidable (Before f i j) := Classical.propDecidable _

/-- How many places come before one. -/
def rank (f : Fin n → EReal) (j : Fin n) : ℕ := (Finset.univ.filter fun i => Before f i j).card

/-- Whether a place is the first that holds the largest. -/
def IsFirst (v : Fin n → EReal) (j : Fin n) : Prop := (∀ i, v i ≤ v j) ∧ ∀ i, v i = v j → j ≤ i

instance (v : Fin n → EReal) (j : Fin n) : Decidable (IsFirst v j) := Classical.propDecidable _

theorem before_irrefl (f : Fin n → EReal) (i : Fin n) : ¬ Before f i i := by
  rintro (h | ⟨_, h⟩)
  · exact lt_irrefl _ h
  · exact lt_irrefl _ h

theorem before_trans (f : Fin n → EReal) {i j k : Fin n} (h : Before f i j) (h' : Before f j k) : Before f i k := by
  rcases h with h | ⟨h, l⟩ <;> rcases h' with h' | ⟨h', l'⟩
  · exact Or.inl (h'.trans h)
  · exact Or.inl (h' ▸ h)
  · exact Or.inl (h ▸ h')
  · exact Or.inr ⟨h.trans h', l.trans l'⟩

theorem before_total (f : Fin n → EReal) {i j : Fin n} (h : i ≠ j) : Before f i j ∨ Before f j i := by
  rcases lt_trichotomy (f i) (f j) with a | a | a
  · exact Or.inr (Or.inl a)
  · rcases lt_or_gt_of_ne h with b | b
    · exact Or.inl (Or.inr ⟨a, b⟩)
    · exact Or.inr (Or.inr ⟨a.symm, b⟩)
  · exact Or.inl (Or.inl a)

theorem rank_lt_of_before (f : Fin n → EReal) {i j : Fin n} (h : Before f i j) : rank f i < rank f j := by
  refine Finset.card_lt_card ⟨fun k hk => ?_, fun hs => ?_⟩
  · rw [Finset.mem_filter] at hk ⊢
    exact ⟨hk.1, before_trans f hk.2 h⟩
  · have := hs (Finset.mem_filter.mpr ⟨Finset.mem_univ i, h⟩)
    exact before_irrefl f i (Finset.mem_filter.mp this).2

theorem rank_lt (f : Fin n → EReal) (j : Fin n) : rank f j < n := by
  have h : rank f j < (Finset.univ : Finset (Fin n)).card := by
    refine Finset.card_lt_card ⟨Finset.filter_subset _ _, fun hs => ?_⟩
    exact before_irrefl f j (Finset.mem_filter.mp (hs (Finset.mem_univ j))).2
  simpa using h

theorem rank_inj (f : Fin n → EReal) {i j : Fin n} (h : rank f i = rank f j) : i = j := by
  by_contra hn
  rcases before_total f hn with a | a
  · exact (rank_lt_of_before f a).ne h
  · exact (rank_lt_of_before f a).ne h.symm

theorem exists_rank (f : Fin n → EReal) {r : ℕ} (hr : r < n) : ∃ j, rank f j = r := by
  have hi : Function.Injective fun j : Fin n => (⟨rank f j, rank_lt f j⟩ : Fin n) :=
    fun i j h => rank_inj f (Fin.mk.inj_iff.mp h)
  obtain ⟨j, hj⟩ := (Finite.injective_iff_surjective.mp hi) ⟨r, hr⟩
  exact ⟨j, congrArg Fin.val hj⟩

theorem first_unique (v : Fin n → EReal) {i j : Fin n} (hi : IsFirst v i) (hj : IsFirst v j) : i = j := by
  have e : v i = v j := le_antisymm (hj.1 i) (hi.1 j)
  exact le_antisymm (hi.2 j e.symm) (hj.2 i e)

/-- Of the places not yet taken, the first largest is the one of the next rank. -/
theorem first_iff (f : Fin n → EReal) (z : EReal) (hz : ∀ i, z < f i) (r : ℕ) (hr : r < n) (j : Fin n) :
    IsFirst (fun i => if rank f i < r then z else f i) j ↔ rank f j = r := by
  have key : ∀ j, rank f j = r → IsFirst (fun i => if rank f i < r then z else f i) j := by
    intro j hj
    have hjr : ¬ rank f j < r := by omega
    refine ⟨fun i => ?_, fun i => ?_⟩ <;> beta_reduce <;> rw [if_neg hjr]
    · split
      · exact (hz j).le
      · rename_i h
        by_contra hn
        have := rank_lt_of_before f (i := i) (j := j) (Or.inl (not_le.mp hn))
        omega
    · split
      · intro h
        exact absurd h (hz j).ne
      · rename_i h
        intro e
        by_contra hn
        have := rank_lt_of_before f (i := i) (j := j) (Or.inr ⟨e, not_le.mp hn⟩)
        omega
  refine ⟨fun h => ?_, key j⟩
  obtain ⟨k, hk⟩ := exists_rank f hr
  rw [first_unique _ h (key k hk), hk]

/-- What the rounds leave and take. -/
theorem rounds (f : Fin n → EReal) (z : EReal) (hz : ∀ i, z < f i) (L T : ℕ → Fin n → EReal) (hL : L 0 = f)
    (hL' : ∀ r j, L (r + 1) j = if IsFirst (L r) j then z else L r j) (hT : ∀ j, T 0 j = 0)
    (hT' : ∀ r j, T (r + 1) j = if IsFirst (L r) j then 1 else T r j) :
    ∀ r, r ≤ n → (∀ j, L r j = if rank f j < r then z else f j) ∧ ∀ j, T r j = if rank f j < r then 1 else 0 := by
  intro r
  induction r with
  | zero => exact fun _ => ⟨fun j => by rw [hL, if_neg (by omega)], fun j => by rw [hT, if_neg (by omega)]⟩
  | succ r ih =>
    intro hr
    obtain ⟨a, b⟩ := ih (by omega)
    have e : L r = fun i => if rank f i < r then z else f i := funext a
    have key : ∀ j, IsFirst (L r) j ↔ rank f j = r := fun j => by rw [e]; exact first_iff f z hz r (by omega) j
    refine ⟨fun j => ?_, fun j => ?_⟩
    · rw [hL', a]
      by_cases h : rank f j = r
      · rw [if_pos ((key j).mpr h), if_pos (by omega)]
      · rw [if_neg fun x => h ((key j).mp x)]
        by_cases h' : rank f j < r
        · rw [if_pos h', if_pos (by omega)]
        · rw [if_neg h', if_neg (by omega)]
    · rw [hT', b]
      by_cases h : rank f j = r
      · rw [if_pos ((key j).mpr h), if_pos (by omega)]
      · rw [if_neg fun x => h ((key j).mp x)]
        by_cases h' : rank f j < r
        · rw [if_pos h', if_pos (by omega)]
        · rw [if_neg h', if_neg (by omega)]

theorem minsi_toInt (a b : BitVec 32) : (IntOp.minsi a b).toInt = min a.toInt b.toInt := by
  show (if a.slt b then a else b).toInt = _
  by_cases h : a.toInt < b.toInt
  · rw [show a.slt b = true from decide_eq_true h, if_pos rfl, min_eq_left (le_of_lt h)]
  · rw [show a.slt b = false from decide_eq_false h, if_neg Bool.false_ne_true, min_eq_right (not_lt.mp h)]

theorem fold_toInt (g : Fin n → BitVec 32) (z : BitVec 32) :
    (Finset.univ.fold IntOp.minsi z g).toInt = Finset.univ.fold min z.toInt fun i => (g i).toInt :=
  (Finset.fold_hom (op := IntOp.minsi) (op' := min) (m := BitVec.toInt) minsi_toInt).symm

/-- The first that holds the largest, as the least of the numbers of those that do. -/
theorem first_word (hn : n ≤ 128) (v : Fin n → EReal) (j : Fin n) :
    BitVec.ofNat 32 j.val = Finset.univ.fold IntOp.minsi 2147483647#32
        (fun i : Fin n => if v i = Finset.univ.fold max ⊥ v then BitVec.ofNat 32 i.val else 128#32)
      ↔ IsFirst v j := by
  have hM : ∀ i, v i ≤ Finset.univ.fold max ⊥ v := fun i => Finset.le_sup (f := v) (Finset.mem_univ i)
  have hw : ∀ i : Fin n, (BitVec.ofNat 32 i.val).toInt = (i.val : ℤ) := fun i => Words.lit_toInt _ (by omega)
  rw [← BitVec.toInt_inj, fold_toInt, hw]
  generalize hm : Finset.univ.fold max ⊥ v = M at hM ⊢
  have hz : (2147483647#32).toInt = 2147483647 := by decide
  have hl : (128#32).toInt = 128 := by decide
  rw [hz]
  have hg : ∀ i : Fin n, (if v i = M then BitVec.ofNat 32 i.val else 128#32).toInt = if v i = M then (i.val : ℤ) else 128 := by
    intro i
    split
    · exact hw i
    · exact hl
  simp only [hg]
  constructor
  · intro h
    have h1 := (Finset.le_fold_min (j.val : ℤ)).mp h.le
    have h2 := (Finset.fold_min_le (j.val : ℤ)).mp h.ge
    have h3 : v j = M := by
      rcases h2 with h2 | ⟨i, _, h2⟩
      · omega
      · have h4 := h1.2 i (Finset.mem_univ i)
        by_cases hi : v i = M
        · rw [if_pos hi] at h2 h4
          have : i = j := Fin.ext (by omega)
          exact this ▸ hi
        · rw [if_neg hi] at h2
          omega
    refine ⟨fun i => h3 ▸ hM i, fun i hi => ?_⟩
    have h4 := h1.2 i (Finset.mem_univ i)
    rw [if_pos (hi.trans h3)] at h4
    exact Fin.le_def.mpr (by omega)
  · intro h
    have h3 : v j = M := by
      refine le_antisymm (hM j) ?_
      rw [← hm]
      exact (Finset.fold_max_le _).mpr ⟨bot_le, fun i _ => h.1 i⟩
    refine le_antisymm ?_ ?_
    · refine (Finset.le_fold_min _).mpr ⟨by omega, fun i _ => ?_⟩
      split
      · rename_i hi
        have := Fin.le_def.mp (h.2 i (hi.trans h3.symm))
        omega
      · omega
    · exact (Finset.fold_min_le _).mpr (Or.inr ⟨j, Finset.mem_univ j, by rw [if_pos h3]⟩)

/-- A rank as the sum of ones. -/
theorem rank_sum (f : Fin n → EReal) (j : Fin n) :
    (∑ i, if Before f i j then (1 : EReal) else 0) = ((rank f j : ℝ) : EReal) := by
  have h : ∀ s : Finset (Fin n), (∑ i ∈ s, if Before f i j then (1 : EReal) else 0)
      = (((s.filter fun i => Before f i j).card : ℝ) : EReal) := by
    intro s
    induction s using Finset.induction_on with
    | empty => simp
    | insert a s ha ih =>
      rw [Finset.sum_insert ha, ih, Finset.filter_insert]
      by_cases hb : Before f a j
      · rw [if_pos hb, if_pos hb, Finset.card_insert_of_notMem (fun h => ha (Finset.mem_filter.mp h).1)]
        push_cast
        rw [add_comm]
      · rw [if_neg hb, if_neg hb, zero_add]
  exact h _

end Cert.SelPick

end
-- ==== Proof.SelRef.lean ====
module

public import proofs.«01_k».proof.Proof.CmpRef
public import proofs.«01_k».proof.Proof.SelPick

@[expose] public section

set_option maxRecDepth 16384

noncomputable section

/-! # The selected blocks' reference, read at one point -/

namespace Cert.CmpRefIdeal.SelRows

open Cert.CmpRefIdeal Cert.CmpRefIdeal.Gen Idealize.ShloMosaic Idealize.ShloMosaic.TcCoe Idealize.SL.Sem
open Cert.CmpRefIdeal.Read Cert.CmpRefIdeal.Rows

/-- More, as a bit. -/
theorem sgt_ite (x y : BitVec 32) : IntOp.cmpi .sgt x y = if y.toInt < x.toInt then 1#1 else 0#1 := by
  simp only [IntOp.cmpi, BitVec.slt]
  by_cases h : y.toInt < x.toInt <;> simp [h]

/-- Equal, as a bit. -/
theorem eq_ite (x y : BitVec 32) : IntOp.cmpi .eq x y = if x = y then 1#1 else 0#1 := by
  by_cases h : x = y
  · rw [if_pos h, h]
    simp [IntOp.cmpi]
  · rw [if_neg h]
    show BitVec.ofBool (x == y) = 0#1
    rw [beq_eq_false_iff_ne.mpr h]
    rfl

/-- Either, as a bit. -/
theorem or_ite (p q : Prop) [Decidable p] [Decidable q] :
    IntOp.ori (if p then 1#1 else 0#1) (if q then 1#1 else 0#1) = if p ∨ q then 1#1 else 0#1 := by
  by_cases h : p <;> by_cases h' : q <;> simp [h, h', IntOp.ori]

/-- A small number's multiple, read signed. -/
theorem mul_toInt (x : BitVec 32) (a k : ℕ) (hx : x.toInt = (a : ℤ)) (ha : a < 65536) (hk : k < 4096) :
    (IntOp.muli x (BitVec.ofNat 32 k)).toInt = (a : ℤ) * k := by
  have h : a * k < 1073741824 := by nlinarith
  rw [IntOp.muli, BitVec.toInt_mul, hx, Words.lit_toInt k (by omega), Int.bmod_def, ← Int.natCast_mul]
  omega

theorem valid_at (t : Fin 8192) (j : Fin 128) :
    val_main_v56 (F := Ideal) (ix2 t j) = if j.val * 64 ≤ t.val then 1#1 else 0#1 := by
  pointwise [val_main_v56, val_main_v55, val_main_v54, val_main_v53, val_main_v52, val_main_c_10]
  rw [sle_ite, mul_toInt _ j.val 64 (Words.lit_toInt _ (by omega)) (by omega) (by omega), Words.lit_toInt _ (by omega)]
  have e : ((j.val : ℤ) * (64 : ℕ) ≤ (t.val : ℤ)) ↔ (j.val * 64 ≤ t.val) := by omega
  simp only [e]

theorem forced_at (t : Fin 8192) (j : Fin 128) :
    val_main_v65 (F := Ideal) (ix2 t j) = if j.val = 0 ∨ (j.val * 64 ≤ t.val ∧ t.val < (j.val + 2) * 64) then 1#1 else 0#1 := by
  rw [val_main_v65_apply, val_main_v64_apply, valid_at]
  pointwise [val_main_v63, val_main_v62, val_main_v61, val_main_v60, val_main_v59, val_main_v58, val_main_v57, val_main_v53,
    val_main_v52, val_main_c_11, val_main_c_12, val_main_c_13]
  have h2 : (IntOp.addi (BitVec.ofNat 32 j.val) 2#32).toInt = ((j.val + 2 : ℕ) : ℤ) := by
    rw [Words.add_toInt _ _ (j.val : ℤ) 2 (Words.lit_toInt _ (by omega)) (by decide) (by omega) (by omega)]
    omega
  rw [sgt_ite, eq_ite, mul_toInt _ (j.val + 2) 64 h2 (by omega) (by omega), Words.lit_toInt _ (by omega), Words.and_ite, or_ite]
  have e : ((t.val : ℤ) < ((j.val + 2 : ℕ) : ℤ) * (64 : ℕ)) ↔ (t.val < (j.val + 2) * 64) := by omega
  have e0 : (BitVec.ofNat 32 j.val = 0#32) ↔ j.val = 0 := by
    rw [← BitVec.toInt_inj, Words.lit_toInt _ (by omega), show (0#32).toInt = 0 by decide]
    omega
  simp only [e, e0]

variable (x0 : (⟨S2x8192x8448, .f32⟩ : BufTy).Contents (Elt Ideal))
variable (x1 : (⟨S2x2x512x64, .bf16⟩ : BufTy).Contents (Elt Ideal))

theorem value_at (b g : Fin 2) (t : Fin 8192) (j : Fin 128) :
    val_main_v67 (F := Ideal) x0 x1 (ix4 b g t j)
      = if j.val = 0 ∨ (j.val * 64 ≤ t.val ∧ t.val < (j.val + 2) * 64) then Ideal.ofBits .f32 0x461C4000#32
        else if j.val * 64 ≤ t.val then
          ∑ s : Fin 511, (∑ h : Fin 4, val_main_v32 (F := Ideal) x0 x1 (ix5 b g h t s)) * val_main_v49 (F := Ideal) (ix2 s j)
        else Ideal.ofBits .f32 0xBF800000#32 := by
  pointwise [val_main_v67, val_main_v66, val_main_v51, val_main_v50, val_main_call1_v1, val_main_call1_v2, val_main_call1_v0,
    val_main_call2_v1, val_main_call2_v2, val_main_call2_v0, val_main_cst_14, val_main_cst_15, val_main_cst_9]
  rw [valid_at, forced_at, Words.select_ite, Words.select_ite]
  rfl

/-- Whether a compressed block and a block of 64 meet, as a number. -/
def meets (s j : ℕ) : EReal :=
  FloatOps.uitofp (F := Ideal) FTy.f32
    (IntOp.andi
      (IntOp.cmpi CmpIPredicate.slt (IntOp.muli (BitVec.ofNat 32 s) 16#32)
        (IntOp.addi (IntOp.muli (BitVec.ofNat 32 j) 64#32) 64#32))
      (IntOp.cmpi CmpIPredicate.sgt (IntOp.addi (IntOp.muli (BitVec.ofNat 32 s) 16#32) 32#32)
        (IntOp.muli (BitVec.ofNat 32 j) 64#32)))

/-- A bit as a number. -/
theorem bit_number (x : BitVec 1) : FloatOps.uitofp (F := Ideal) FTy.f32 x = if x = 1#1 then (1 : EReal) else 0 := by
  rcases (show x = 0#1 ∨ x = 1#1 by revert x; decide) with h | h <;> subst h <;> simp [FloatOps.uitofp]

theorem meets_nonneg (s j : ℕ) : 0 ≤ meets s j := by
  unfold meets
  rw [bit_number]
  split
  · exact zero_le_one
  · exact le_refl _

theorem overlap_at (s : Fin 511) (j : Fin 128) : val_main_v49 (F := Ideal) (ix2 s j) = meets s.val j.val := by
  pointwise [val_main_v49, val_main_v48, val_main_v47, val_main_v46, val_main_v45, val_main_v44, val_main_v43, val_main_v42, val_main_v41,
    val_main_v40, val_main_v39, val_main_v38, val_main_v37, val_main_v36, val_main_c_5, val_main_c_6, val_main_c_7, val_main_c_8]
  rfl

/-- A proposition decided, as a bit. -/
theorem bit_ite (p : Prop) [Decidable p] : BitVec.ofBool (decide p) = if p then 1#1 else 0#1 := by
  by_cases h : p <;> simp [h]

theorem before_at (b g : Fin 2) (t : Fin 8192) (i j : Fin 128) :
    val_main_v82 (F := Ideal) x0 x1 (ix5 b g t i j)
      = if SelPick.Before (fun i => val_main_v67 (F := Ideal) x0 x1 (ix4 b g t i)) i j then 1#1 else 0#1 := by
  pointwise [val_main_v82, val_main_v81, val_main_v80, val_main_v79, val_main_v78, val_main_v77, val_main_v76, val_main_v75, val_main_v74,
    val_main_v73, val_main_v72, val_main_v71, val_main_v70, val_main_v69, val_main_v68]
  rw [bit_ite, bit_ite, Words.slt_ite, Words.lit_toInt _ (by omega), Words.lit_toInt _ (by omega), Words.and_ite, or_ite]
  refine if_congr ?_ rfl rfl
  unfold SelPick.Before
  rw [Fin.lt_def, Int.ofNat_lt]

/-- Sixteen. -/
theorem lit_sixteen : Ideal.ofBits .f32 0x41800000#32 = ((16 : ℝ) : EReal) := by
  simp [Ideal.ofBits, Ideal.ieee, -EReal.coe_mul]; norm_num

theorem result_at (b g : Fin 2) (t : Fin 8192) (j : Fin 128) :
    val_main_v91 (F := Ideal) x0 x1 (ix4 b g t j)
      = if SelPick.rank (fun i => val_main_v67 (F := Ideal) x0 x1 (ix4 b g t i)) j < 16 ∧ j.val * 64 ≤ t.val then (0 : EReal) else ⊥ := by
  pointwise [val_main_v91, val_main_v90, val_main_v89, val_main_v88, val_main_v87, val_main_v86, val_main_v85, val_main_v84, val_main_v83,
    val_main_call3_v0, val_main_call3_v1, val_main_cst_16, val_main_cst_17, val_main_cst_18, val_main_cst_19]
  simp only [before_at, valid_at, bit_number, bit_ite, Words.and_ite, Words.select_ite, Words.lit_bot, lit_sixteen]
  refine if_congr (and_congr_left fun _ => ?_) rfl rfl
  have e : ∀ i, ((if SelPick.Before (fun i => val_main_v67 (F := Ideal) x0 x1 (ix4 b g t i)) i j then 1#1 else 0#1 : BitVec 1) = 1#1)
      ↔ SelPick.Before (fun i => val_main_v67 (F := Ideal) x0 x1 (ix4 b g t i)) i j := fun i => by
    by_cases h : SelPick.Before (fun i => val_main_v67 (F := Ideal) x0 x1 (ix4 b g t i)) i j <;> simp [h]
  simp only [e]
  rw [SelPick.rank_sum, EReal.coe_lt_coe_iff]
  norm_cast

end Cert.CmpRefIdeal.SelRows

end
-- ==== Proof.SelHead.lean ====
module

public import proofs.«01_k».proof.Proof.CmpHead

@[expose] public section

set_option maxRecDepth 16384

noncomputable section

/-! # The weights of one head of the compressed branch against the reference's -/

namespace Cert.CmpIdeal.SelHead

open Cert.CmpIdeal Cert.CmpIdeal.Gen Idealize.ShloMosaic Idealize.ShloMosaic.TcCoe Idealize.SL.Sem
open Cert.CmpRefIdeal.Read Cert.CmpRefIdeal.Rows CmpHead

/-- A row with a score: each weight is the reference's, or nothing; and a real number, at least 0. -/
theorem attend_weight {T W : ℕ} (S : Fin T → EReal) (S' : Fin W → EReal) (M M' : EReal)
    (hm : ∀ (j : Fin T) (c : Fin W), j.val = c.val → S' c = S j)
    (ho : ∀ j : Fin T, (∀ c : Fin W, j.val ≠ c.val) → S j = ⊥)
    (ho' : ∀ c : Fin W, (∀ j : Fin T, j.val ≠ c.val) → S' c = ⊥)
    (hM : M = Finset.univ.fold max ⊥ S) (hM' : M' = Finset.univ.fold max ⊥ S')
    (hS : ∀ j, S j ≠ ⊤) (j0 : Fin T) (hj0 : S j0 ≠ ⊥) (c : Fin W) :
    (∀ j : Fin T, j.val = c.val → Ideal.exp (S' c - M') * Ideal.div 1 (∑ c, Ideal.exp (S' c - M'))
      = Ideal.div (Ideal.exp (S j - M)) (∑ i, Ideal.exp (S i - M)) * 1)
    ∧ ((∀ j : Fin T, j.val ≠ c.val) → Ideal.exp (S' c - M') * Ideal.div 1 (∑ c, Ideal.exp (S' c - M')) = 0)
    ∧ ∃ y : ℝ, 0 ≤ y ∧ Ideal.exp (S' c - M') * Ideal.div 1 (∑ c, Ideal.exp (S' c - M')) = (y : EReal) := by
  have z : ∀ (j : Fin T) (c : Fin W), j.val + 0 = 0 + c.val → j.val = c.val := fun j c h => by omega
  have z' : ∀ (j : Fin T) (c : Fin W), j.val + 0 ≠ 0 + c.val → j.val ≠ c.val := fun j c h => by omega
  have hMM : M' = M := by
    have h := Attend.max_shift 0 0 S S' ⊥ ⊥ 0 (fun j c h => by rw [hm j c (z j c h)]; simp)
      (fun j h => ho j fun c => z' j c (h c)) (fun c h => ho' c fun j => z' j c (h j)) (by simp) j0
    rw [max_bot_right, max_bot_right, EReal.coe_zero, add_zero] at h
    rw [hM, hM', h]
  subst hMM
  have h2 : ∑ c, Ideal.exp (S' c - M') = ∑ j, Ideal.exp (S j - M') := by
    refine Attend.window_sum 0 0 _ _ (fun j c h => by rw [hm j c (z j c h)]) (fun j h => ?_) (fun c h => ?_)
    · rw [ho j fun c => z' j c (h c)]; simp
    · rw [ho' c fun j => z' j c (h j)]; simp
  have hle : ∀ j, S j ≤ M' := fun j => hM ▸ Finset.le_sup (f := S) (Finset.mem_univ j)
  have hle' : ∀ c, S' c ≤ M' := fun c => hM' ▸ Finset.le_sup (f := S') (Finset.mem_univ c)
  have hbot : M' ≠ ⊥ := fun h => hj0 (le_bot_iff.mp (h ▸ hle j0))
  have htop : M' ≠ ⊤ := by
    have h1 : Finset.univ.sup S < ⊤ :=
      (Finset.sup_lt_iff bot_lt_top).mpr fun j _ => lt_top_iff_ne_top.mpr (hS j)
    rw [hM]
    exact h1.ne
  rw [h2]
  clear hM hM' h2
  lift M' to ℝ using ⟨htop, hbot⟩
  rename ℝ => a
  choose e he0 he hep using fun j => Attend.weight_real (S j) a (hle j)
  obtain ⟨x, hx0, hx, _⟩ := Attend.weight_real (S' c) a (hle' c)
  have hd : ∑ i, Ideal.exp (S i - (a : EReal)) = ((∑ i, e i : ℝ) : EReal) := by
    rw [Finset.sum_congr rfl fun i _ => he i, Attend.sum_coe]
  have hpos : 0 < ∑ i, e i := Finset.sum_pos' (fun i _ => he0 i) ⟨j0, Finset.mem_univ _, hep j0 hj0⟩
  have hne : ∑ i, Ideal.exp (S i - (a : EReal)) ≠ 0 := by
    rw [hd]
    exact_mod_cast hpos.ne'
  refine ⟨fun j h => ?_, fun h => ?_, ?_⟩
  · rw [hm j c h, Ideal.mul_one_div hne, mul_one]
  · rw [ho' c h, EReal.bot_sub, Ideal.exp_bot, zero_mul]
  · rw [hx, Ideal.mul_one_div hne, hd, Ideal.div_coe hpos.ne']
    exact ⟨x * (1 / ∑ i, e i), mul_nonneg hx0 (one_div_nonneg.mpr hpos.le), (EReal.coe_mul _ _).symm⟩

variable (x0 : (⟨S2x8192x8448, .f32⟩ : BufTy).Contents (Elt Ideal))
variable (x1 : (⟨S2x2x512x64, .bf16⟩ : BufTy).Contents (Elt Ideal))

/-- A weight a point's head computes is the reference's, or that of the block past the last, which is nothing. -/
theorem weight (i : grid0.Coords) (b g : Fin 2) (hh : Fin 4) (r : Fin 128) (T : Fin 8192) (w : Fin 512)
    (q : Vec Ideal S1x128x64 .f32) (k : Vec Ideal S1x1x512x64 .bf16)
    (hT : T.val = (i 1).val * 128 + r.val)
    (hq : ∀ e : Fin 64, q (ix3 0 r e) = x0 (ix3 b T ⟨5120 + (g.val * 256 + hh.val * 64 + e.val), by omega⟩))
    (hk : ∀ (w : Fin 512) (e : Fin 64), k (ix4 0 0 w e) = x1 (ix4 b g w e))
    (rq : ∀ (b : Fin 2) (t : Fin 8192) (e : Fin 512), ∃ y : ℝ, x0 (ix3 b t ⟨5120 + e.val, by omega⟩) = (y : EReal))
    (rk : ∀ (b g : Fin 2) (w : Fin 511) (e : Fin 64), ∃ y : ℝ, x1 (ix4 b g ⟨w.val, by omega⟩ e) = (y : EReal)) :
    (∀ s : Fin 511, s.val = w.val → k0_pay12 (F := Ideal) (k0_pay3 i) (k0_pay4 i) (k0_pay9 k) q (ix2 r w)
      = val_main_v32 (F := Ideal) x0 x1 (ix5 b g hh T s))
    ∧ ((∀ s : Fin 511, s.val ≠ w.val) → k0_pay12 (F := Ideal) (k0_pay3 i) (k0_pay4 i) (k0_pay9 k) q (ix2 r w) = 0)
    ∧ ∃ y : ℝ, 0 ≤ y ∧ k0_pay12 (F := Ideal) (k0_pay3 i) (k0_pay4 i) (k0_pay9 k) q (ix2 r w) = (y : EReal) := by
  have h1 : (i 1).val < 64 := (i 1).isLt
  simp only [share_at, total_at, weight_at]
  pointwise [k0_pay12, k0_pay9]
  rw [CmpHead.seen_at]
  simp only [CmpHead.vis_at, hk, hq, Words.select_ite, Words.lit_eighth, mask_bot, Words.lit_bot]
  by_cases hs : 31 ≤ T.val
  · rw [if_pos hs, if_pos (by omega : 31 ≤ (i 1).val * 128 + r.val)]
    have real : ∀ s : Fin 511, ∃ y : ℝ,
        (∑ x : Fin 64, x1 (ix4 b g ⟨s.val, by omega⟩ x)
              * x0 (ix3 b T ⟨5120 + (g.val * 256 + hh.val * 64 + x.val), by omega⟩)) = (y : EReal) := fun s =>
      Words.dot_real Finset.univ
        (fun x : Fin 64 => x1 (ix4 b g ⟨s.val, by omega⟩ x))
        (fun x : Fin 64 => x0 (ix3 b T ⟨5120 + (g.val * 256 + hh.val * 64 + x.val), by omega⟩))
        (fun x => rk b g s x) (fun x => rq b T ⟨g.val * 256 + hh.val * 64 + x.val, by omega⟩)
    refine attend_weight (fun s => val_main_v17 (F := Ideal) x0 x1 (ix5 b g hh T s))
      (fun w : Fin 512 => if w.val * 16 + 31 ≤ (i 1).val * 128 + r.val then
        (∑ x : Fin 64, x0 (ix3 b T ⟨5120 + (g.val * 256 + hh.val * 64 + x.val), by omega⟩) * x1 (ix4 b g w x)) * ((1 / 8 : ℝ) : EReal)
        else ⊥) _ _ ?_ ?_ ?_ ?_ ?_ ?_ (⟨0, by omega⟩ : Fin 511) ?_ w
    · intro j w hw
      have e : (⟨j.val, by omega⟩ : Fin 512) = w := Fin.ext hw
      beta_reduce
      rw [score_at, hT, e, hw]
      refine congrArg (fun z : EReal => if w.val * 16 + 31 ≤ (i 1).val * 128 + r.val then z * ((1 / 8 : ℝ) : EReal) else ⊥) ?_
      exact Finset.sum_congr rfl fun x _ => mul_comm _ _
    · intro j hj
      exact absurd rfl (hj ⟨j.val, by omega⟩)
    · intro w hw
      beta_reduce
      rw [if_neg]
      intro hb
      exact hw ⟨w.val, by omega⟩ rfl
    · rw [top_at]
    · rfl
    · intro j
      beta_reduce
      rw [score_at]
      obtain ⟨y, hy⟩ := real j
      split
      · rw [hy, ← EReal.coe_mul]; exact EReal.coe_ne_top _
      · exact bot_ne_top
    · beta_reduce
      rw [score_at, if_pos (by show 0 * 16 + 31 ≤ T.val; omega)]
      obtain ⟨y, hy⟩ := real (⟨0, by omega⟩ : Fin 511)
      rw [hy, ← EReal.coe_mul]
      exact EReal.coe_ne_bot _
  · rw [if_neg hs]
    have e : ∀ w : Fin 512, ¬ w.val * 16 + 31 ≤ (i 1).val * 128 + r.val := fun w => by omega
    simp only [e, if_false, EReal.bot_sub, Ideal.exp_bot, zero_mul, mul_zero]
    exact ⟨fun _ _ => trivial, fun _ => trivial, 0, le_refl _, by simp⟩

end Cert.CmpIdeal.SelHead

end
-- ==== Proof.SelRounds.lean ====
module

public import proofs.«01_k».proof.Proof.CmpHead
public import proofs.«01_k».proof.Proof.SelRef
public import proofs.«01_k».proof.Proof.SelHead

@[expose] public section

set_option maxRecDepth 16384

noncomputable section

/-! # The rounds that choose the blocks, as one step repeated -/

namespace Cert.CmpIdeal.SelRounds

open Cert.CmpIdeal Cert.CmpIdeal.Gen Idealize.ShloMosaic Idealize.ShloMosaic.TcCoe Idealize.SL.Sem

/-- The rows' numbers. -/
def ids : IVec S128x128 32 := iota .tc S128x128 32 [0] iota_S128x128_d0_w32

/-- Each column's largest value, in every row. -/
def top (v : FVec Ideal S128x128 .f32) : FVec Ideal S128x128 .f32 :=
  broadcastTo S128x128 (shapeCast S1x128 (multiReduction .maximumf [0] S128 v 0xFF800000#32 reduces_S128x128_S128 (.inl rfl) rfl)
    shapeCasts_S128_S1x128) broadcasts_S1x128_S128x128

/-- Each column's first row that holds its largest value, in every row. -/
def first (v : FVec Ideal S128x128 .f32) : IVec S128x128 32 :=
  broadcastTo S128x128 (shapeCast S1x128 (multiReductionI .minsi [0] S128
    (select (cmpf .oeq v (top v)) ids (broadcast S128x128 128#32)) 2147483647#32 reduces_S128x128_S128 rfl)
    shapeCasts_S128_S1x128) broadcasts_S1x128_S128x128

/-- Where a round takes. -/
def hit (v : FVec Ideal S128x128 .f32) : IVec S128x128 1 := cmpi .eq ids (first v)

/-- The values a round leaves. -/
def next (v : FVec Ideal S128x128 .f32) : FVec Ideal S128x128 .f32 :=
  select (hit v) (broadcast S128x128 (Scalar.ofBits .f32 0xC0000000#32)) v

/-- The values after some rounds. -/
def left (v : FVec Ideal S128x128 .f32) : ℕ → FVec Ideal S128x128 .f32
  | 0 => v
  | n + 1 => next (left v n)

/-- What some rounds have taken. -/
def taken (v : FVec Ideal S128x128 .f32) : ℕ → FVec Ideal S128x128 .f32
  | 0 => broadcast S128x128 (Scalar.ofBits .f32 0x00000000#32)
  | n + 1 => select (hit (left v n)) (broadcast S128x128 (Scalar.ofBits .f32 0x3F800000#32)) (taken v n)

/-- The mask from what the rounds took. -/
def mask (valid : IVec S128x128 1) (s : FVec Ideal S128x128 .f32) : FVec Ideal S1x1x128x128 .bf16 :=
  shapeCast S1x1x128x128 (truncf .bf16 (select (andi (cmpf .ogt (transpose S128x128 [1, 0] s transposes_S128x128_p1_0_S128x128)
    (broadcast S128x128 (Scalar.ofBits .f32 0x3F000000#32))) valid) (broadcast S128x128 (Scalar.ofBits .f32 0x00000000#32))
    (broadcast S128x128 (Named.named κ "mask" 0xF149F2CA#32))) bitsLt_bf16_f32) shapeCasts_S128x128_S1x1x128x128

/-- The four heads' weights, added. -/
def weights (i : grid0.Coords) (k : FVec Ideal S512x64 .bf16) (q0 q1 q2 q3 : Vec Ideal S1x128x64 .f32) : FVec Ideal S128x512 .f32 :=
  addf (addf (addf (addf (broadcast S128x512 (Scalar.ofBits .f32 0x00000000#32)) (k0_pay12 (k0_pay3 i) (k0_pay4 i) k q0))
    (k0_pay12 (k0_pay3 i) (k0_pay4 i) k q1)) (k0_pay12 (k0_pay3 i) (k0_pay4 i) k q2)) (k0_pay12 (k0_pay3 i) (k0_pay4 i) k q3)

/-- The values the rounds begin from. -/
def start (i : grid0.Coords) (o : FVec Ideal S512x128 .bf16) (p : FVec Ideal S128x512 .f32) : FVec Ideal S128x128 .f32 :=
  k0_pay80 (k0_pay6 i) (k0_pay7 i) o (truncf .bf16 p bitsLt_bf16_f32)
    (truncf .bf16 (subf p (extf .f32 (truncf .bf16 p bitsLt_bf16_f32) bitsLt_bf16_f32)) bitsLt_bf16_f32)
    (subf (subf p (extf .f32 (truncf .bf16 p bitsLt_bf16_f32) bitsLt_bf16_f32))
      (extf .f32 (truncf .bf16 (subf p (extf .f32 (truncf .bf16 p bitsLt_bf16_f32) bitsLt_bf16_f32)) bitsLt_bf16_f32) bitsLt_bf16_f32))

open Cert.CmpRefIdeal.SelRows Cert.CmpRefIdeal.Rows

theorem hit_at (v : FVec Ideal S128x128 .f32) (j q : Fin 128) :
    hit v (ix2 j q) = if SelPick.IsFirst (fun i => v (ix2 i q)) j then 1#1 else 0#1 := by
  pointwise [hit, first, top, ids]
  simp only [bit_ite, Words.select_ite, Words.lit_bot]
  rw [eq_ite]
  exact if_congr (SelPick.first_word (by omega) (fun i => v (ix2 i q)) j) rfl rfl

theorem left_succ (v : FVec Ideal S128x128 .f32) (n : ℕ) (j q : Fin 128) :
    left v (n + 1) (ix2 j q) = if SelPick.IsFirst (fun i => left v n (ix2 i q)) j then Ideal.ofBits .f32 0xC0000000#32 else left v n (ix2 j q) := by
  rw [left]
  pointwise [next]
  rw [hit_at, Words.select_ite]

theorem taken_succ (v : FVec Ideal S128x128 .f32) (n : ℕ) (j q : Fin 128) :
    taken v (n + 1) (ix2 j q) = if SelPick.IsFirst (fun i => left v n (ix2 i q)) j then (1 : EReal) else taken v n (ix2 j q) := by
  rw [taken]
  pointwise []
  rw [hit_at, Words.select_ite]

theorem taken_at (v : FVec Ideal S128x128 .f32) (q : Fin 128) (h : ∀ i, Ideal.ofBits .f32 0xC0000000#32 < v (ix2 i q)) (j : Fin 128) :
    taken v 16 (ix2 j q) = if SelPick.rank (fun i => v (ix2 i q)) j < 16 then (1 : EReal) else 0 :=
  (SelPick.rounds (fun i => v (ix2 i q)) _ h (fun n i => left v n (ix2 i q)) (fun n i => taken v n (ix2 i q)) rfl
    (fun n i => left_succ v n i q) (fun i => by beta_reduce; rw [taken]; pointwise []) (fun n i => taken_succ v n i q) 16 (by omega)).2 j

/-- A position over 64, read signed. -/
theorem shift_toInt (x : BitVec 32) (a : ℕ) (hx : x.toInt = (a : ℤ)) : (IntOp.shrsi .vector x 6#32).toInt = ((a / 64 : ℕ) : ℤ) := by
  rw [IntOp.shrsi, if_pos (by decide)]
  show (x.sshiftRight 6).toInt = _
  rw [BitVec.toInt_sshiftRight, hx, Int.shiftRight_eq_div_pow]
  norm_num

theorem block_at (i : grid0.Coords) (r : Fin 128) (z : Fin 1) :
    (k0_pay5 i (ix2 r z)).toInt = ((((i 1).val * 128 + r.val) / 64 : ℕ) : ℤ) := by
  have h1 : (i 1).val < 64 := (i 1).isLt
  pointwise [k0_pay5, k0_pay2]
  refine shift_toInt _ _ ?_
  rw [CmpHead.query_toInt _ _ (by omega) (by omega)]
  push_cast
  rfl

theorem valid_bit (i : grid0.Coords) (r j : Fin 128) :
    k0_pay6 i (ix2 r j) = if j.val * 64 ≤ (i 1).val * 128 + r.val then 1#1 else 0#1 := by
  pointwise [k0_pay6]
  rw [sle_ite, block_at, Words.lit_toInt _ (by omega)]
  exact if_congr (by omega) rfl rfl

theorem forced_bit (i : grid0.Coords) (r j : Fin 128) :
    k0_pay7 i (ix2 r j) = if j.val = 0 ∨ (j.val * 64 ≤ (i 1).val * 128 + r.val ∧ (i 1).val * 128 + r.val < (j.val + 2) * 64) then 1#1 else 0#1 := by
  have h1 : (i 1).val < 64 := (i 1).isLt
  pointwise [k0_pay7]
  rw [valid_bit, sgt_ite, eq_ite, Words.sub_toInt _ _ _ 2 (block_at i r 0) (by decide) (by omega) (by omega),
    Words.lit_toInt _ (by omega), Words.and_ite, or_ite]
  have e0 : (BitVec.ofNat 32 j.val = 0#32) ↔ j.val = 0 := by
    rw [← BitVec.toInt_inj, Words.lit_toInt _ (by omega), show (0#32).toInt = 0 by decide]
    omega
  simp only [e0]
  exact if_congr (by omega) rfl rfl

/-- One half. -/
theorem lit_half : Ideal.ofBits .f32 0x3F000000#32 = ((1 / 2 : ℝ) : EReal) := by
  simp [Ideal.ofBits, Ideal.ieee, -EReal.coe_mul]; norm_num

/-- Minus two. -/
theorem lit_neg_two : Ideal.ofBits .f32 0xC0000000#32 = ((-2 : ℝ) : EReal) := by
  simp [Ideal.ofBits, Ideal.ieee, -EReal.coe_mul]; norm_num

/-- Minus one. -/
theorem lit_neg_one : Ideal.ofBits .f32 0xBF800000#32 = ((-1 : ℝ) : EReal) := by
  simp [Ideal.ofBits, Ideal.ieee, -EReal.coe_mul]; norm_num

/-- Ten thousand. -/
theorem lit_myriad : Ideal.ofBits .f32 0x461C4000#32 = ((10000 : ℝ) : EReal) := by
  simp [Ideal.ofBits, Ideal.ieee, -EReal.coe_mul]; norm_num

theorem mask_at (i : grid0.Coords) (s : FVec Ideal S128x128 .f32) (r j : Fin 128) :
    mask (k0_pay6 i) s (ix4 0 0 r j)
      = if ((1 / 2 : ℝ) : EReal) < s (ix2 j r) ∧ j.val * 64 ≤ (i 1).val * 128 + r.val then (0 : EReal) else ⊥ := by
  pointwise [mask]
  rw [valid_bit, bit_ite, Words.and_ite, Words.select_ite, CmpHead.mask_bot, lit_half]

theorem start_at (i : grid0.Coords) (o : FVec Ideal S512x128 .bf16) (p : FVec Ideal S128x512 .f32) (r j : Fin 128)
    (hp : ∀ w, ∃ y : ℝ, p (ix2 r w) = (y : EReal)) :
    start i o p (ix2 j r)
      = if j.val = 0 ∨ (j.val * 64 ≤ (i 1).val * 128 + r.val ∧ (i 1).val * 128 + r.val < (j.val + 2) * 64) then
          Ideal.ofBits .f32 0x461C4000#32
        else if j.val * 64 ≤ (i 1).val * 128 + r.val then ∑ w : Fin 512, p (ix2 r w) * o (ix2 w j)
        else Ideal.ofBits .f32 0xBF800000#32 := by
  pointwise [start, k0_pay80]
  rw [valid_bit, forced_bit, Words.select_ite, Words.select_ite]
  have e : ∀ w, p (ix2 r w) - p (ix2 r w) = 0 := fun w => by
    obtain ⟨y, hy⟩ := hp w
    rw [hy, ← EReal.coe_sub, sub_self, EReal.coe_zero]
  simp only [e, sub_zero, zero_mul, Finset.sum_const_zero, add_zero]

theorem weights_at (i : grid0.Coords) (k : FVec Ideal S512x64 .bf16) (q0 q1 q2 q3 : Vec Ideal S1x128x64 .f32) (r : Fin 128) (w : Fin 512) :
    weights i k q0 q1 q2 q3 (ix2 r w)
      = k0_pay12 (F := Ideal) (k0_pay3 i) (k0_pay4 i) k q0 (ix2 r w) + k0_pay12 (F := Ideal) (k0_pay3 i) (k0_pay4 i) k q1 (ix2 r w)
        + k0_pay12 (F := Ideal) (k0_pay3 i) (k0_pay4 i) k q2 (ix2 r w) + k0_pay12 (F := Ideal) (k0_pay3 i) (k0_pay4 i) k q3 (ix2 r w) := by
  unfold weights
  generalize k0_pay12 (F := Ideal) (k0_pay3 i) (k0_pay4 i) k q0 = y0
  generalize k0_pay12 (F := Ideal) (k0_pay3 i) (k0_pay4 i) k q1 = y1
  generalize k0_pay12 (F := Ideal) (k0_pay3 i) (k0_pay4 i) k q2 = y2
  generalize k0_pay12 (F := Ideal) (k0_pay3 i) (k0_pay4 i) k q3 = y3
  pointwise []

open Cert.CmpRefIdeal.Read

variable (x0 : (⟨S2x8192x8448, .f32⟩ : BufTy).Contents (Elt Ideal))
variable (x1 : (⟨S2x2x512x64, .bf16⟩ : BufTy).Contents (Elt Ideal))

/-- The mask at a point is the reference's. -/
theorem made_at (i : grid0.Coords) (b g : Fin 2) (r j : Fin 128) (T : Fin 8192) (o : FVec Ideal S512x128 .bf16)
    (q : Fin 4 → Vec Ideal S1x128x64 .f32) (k : Vec Ideal S1x1x512x64 .bf16)
    (hT : T.val = (i 1).val * 128 + r.val)
    (ho : ∀ (w : Fin 512) (j : Fin 128), o (ix2 w j) = meets w.val j.val)
    (hq : ∀ (hh : Fin 4) (e : Fin 64), q hh (ix3 0 r e) = x0 (ix3 b T ⟨5120 + (g.val * 256 + hh.val * 64 + e.val), by omega⟩))
    (hk : ∀ (w : Fin 512) (e : Fin 64), k (ix4 0 0 w e) = x1 (ix4 b g w e))
    (rq : ∀ (b : Fin 2) (t : Fin 8192) (e : Fin 512), ∃ y : ℝ, x0 (ix3 b t ⟨5120 + e.val, by omega⟩) = (y : EReal))
    (rk : ∀ (b g : Fin 2) (w : Fin 511) (e : Fin 64), ∃ y : ℝ, x1 (ix4 b g ⟨w.val, by omega⟩ e) = (y : EReal)) :
    mask (k0_pay6 i) (taken (start i o (weights i (k0_pay9 k) (q 0) (q 1) (q 2) (q 3))) 16) (ix4 0 0 r j)
      = val_main_v91 (F := Ideal) x0 x1 (ix4 b g T j) := by
  have hw := fun (hh : Fin 4) (w : Fin 512) => SelHead.weight x0 x1 i b g hh r T w (q hh) k hT (hq hh) hk rq rk
  generalize hp : weights i (k0_pay9 k) (q 0) (q 1) (q 2) (q 3) = p
  have hp' : ∀ w, p (ix2 r w) = k0_pay12 (F := Ideal) (k0_pay3 i) (k0_pay4 i) (k0_pay9 k) (q 0) (ix2 r w)
      + k0_pay12 (F := Ideal) (k0_pay3 i) (k0_pay4 i) (k0_pay9 k) (q 1) (ix2 r w)
      + k0_pay12 (F := Ideal) (k0_pay3 i) (k0_pay4 i) (k0_pay9 k) (q 2) (ix2 r w)
      + k0_pay12 (F := Ideal) (k0_pay3 i) (k0_pay4 i) (k0_pay9 k) (q 3) (ix2 r w) := fun w => by
    rw [← hp, weights_at]
  have real : ∀ w, ∃ y : ℝ, 0 ≤ y ∧ p (ix2 r w) = (y : EReal) := by
    intro w
    obtain ⟨a0, p0, e0⟩ := (hw 0 w).2.2
    obtain ⟨a1, p1, e1⟩ := (hw 1 w).2.2
    obtain ⟨a2, p2, e2⟩ := (hw 2 w).2.2
    obtain ⟨a3, p3, e3⟩ := (hw 3 w).2.2
    exact ⟨a0 + a1 + a2 + a3, by positivity, by rw [hp', e0, e1, e2, e3]; push_cast; rfl⟩
  have hs := fun j => start_at i o p r j fun w => ⟨(real w).choose, (real w).choose_spec.2⟩
  have sum_eq : ∀ j : Fin 128, ∑ w : Fin 512, p (ix2 r w) * o (ix2 w j)
      = ∑ s : Fin 511, (∑ h : Fin 4, val_main_v32 (F := Ideal) x0 x1 (ix5 b g h T s)) * val_main_v49 (F := Ideal) (ix2 s j) := by
    intro j
    refine Attend.window_sum 0 0 _ _ (fun s w h => ?_) (fun s h => ?_) (fun w h => ?_)
    · have h : s.val = w.val := by omega
      rw [hp', (hw 0 w).1 s h, (hw 1 w).1 s h, (hw 2 w).1 s h, (hw 3 w).1 s h, ho, overlap_at, Fin.sum_univ_four, h]
    · exact absurd (show s.val + 0 = 0 + s.val by omega) (h (⟨s.val, by omega⟩ : Fin 512))
    · have h : ∀ s : Fin 511, s.val ≠ w.val := fun s h' => h s (by omega)
      rw [hp', (hw 0 w).2.1 h, (hw 1 w).2.1 h, (hw 2 w).2.1 h, (hw 3 w).2.1 h]
      simp
  have ev : ∀ j : Fin 128, start i o p (ix2 j r) = val_main_v67 (F := Ideal) x0 x1 (ix4 b g T j) := by
    intro j
    rw [hs, value_at, sum_eq, hT]
  have hz : ∀ j : Fin 128, Ideal.ofBits .f32 0xC0000000#32 < start i o p (ix2 j r) := by
    intro j
    rw [hs, lit_neg_two, lit_neg_one, lit_myriad]
    split
    · exact_mod_cast (by norm_num : (-2 : ℝ) < 10000)
    · split
      · refine lt_of_lt_of_le (b := (0 : EReal)) (by exact_mod_cast (by norm_num : (-2 : ℝ) < 0)) ?_
        refine Finset.sum_nonneg fun w _ => ?_
        obtain ⟨y, hy, e⟩ := real w
        rw [e, ho]
        exact mul_nonneg (by exact_mod_cast hy) (meets_nonneg _ _)
      · exact_mod_cast (by norm_num : (-2 : ℝ) < -1)
  rw [mask_at, CmpRefIdeal.SelRows.result_at, taken_at _ _ hz]
  simp only [ev]
  refine if_congr ?_ rfl rfl
  rw [hT]
  refine and_congr_left fun _ => ?_
  split
  · rename_i h
    exact ⟨fun _ => h, fun _ => by exact_mod_cast (by norm_num : (1 / 2 : ℝ) < 1)⟩
  · rename_i h
    refine ⟨fun h' => ?_, fun h' => absurd h' h⟩
    exact absurd (EReal.coe_lt_coe_iff.mp (by rw [EReal.coe_zero]; exact h')) (by norm_num : ¬ (1 / 2 : ℝ) < 0)

end Cert.CmpIdeal.SelRounds

end
-- ==== Proof.SelValue.lean ====
module

public import proofs.«01_k».proof.Proof.CmpValue
public import proofs.«01_k».proof.Proof.SelRounds

@[expose] public section

set_option maxRecDepth 16384

noncomputable section

/-! # The selected blocks' array is the reference's -/

namespace Cert.CmpIdeal.SelValue

open Cert.CmpIdeal Cert.CmpIdeal.Gen Idealize.ShloMosaic Idealize.ShloMosaic.TcCoe Idealize.SL.Sem
open Idealize.ShloMosaic.Pipeline (Dat)
open Cert.CmpRefIdeal.Read SelRounds CmpValue Cert.CmpRefIdeal.SelRows

variable (m : (ℓ : Loc nD τ sig) → Buf (Elt Ideal) ℓ)

theorem idx' : ∀ t : Fin cfg0.N, win0_3.index t = ![0, 0] ∧ win0_5.index t = ![t.val / 64, 0, t.val % 64, 0] :=
  (by decide +kernel : ∀ t : Fin grid0.N, _)

/-- The block of which blocks meet. -/
theorem overlap_blk (c : Dev nD) (t : Fin cfg0.N) (w : Fin 512) (j : Fin 128) :
    k0_pay8 (F := Ideal) (iblk m c 3 t) (ix2 w j) = meets w.val j.val := by
  refine Eq.trans (b := V m c (Pipeline.arrRef spec0 3) (ix2 w j)) ?_ ?_
  · pointwise [k0_pay8]
    blk_ext [iblk, idx' t]
  · unfold V
    after_reads_at
    rfl

/-- A group's mask at a point. -/
def made (c : Dev nD) (t : Fin cfg0.N) (k : Vec Ideal S1x1x512x64 .bf16) (q : Fin 4 → Vec Ideal S1x128x64 .f32) :
    FVec Ideal S1x1x128x128 .bf16 :=
  mask (k0_pay6 (grid0.coords t)) (taken (start (grid0.coords t) (k0_pay8 (iblk m c 3 t))
    (weights (grid0.coords t) (k0_pay9 k) (q 0) (q 1) (q 2) (q 3))) 16)

/-- What a point stores for a group, by the reference. -/
theorem point (c : Dev nD) (t : Fin cfg0.N) (g : Fin 2) (x : S1x1x128x128.Idx) (y : S1x2x128x128.Idx)
    (h0 : (y 0).val = (x 0).val) (h1 : (y 1).val = g.val + (x 1).val) (h2 : (y 2).val = (x 2).val) (h3 : (y 3).val = (x 3).val)
    (rq : ∀ (b : Fin 2) (t : Fin 8192) (e : Fin 512), ∃ y : ℝ,
      m ((c : Thread nD τ).loc main_arg0) (ix3 b t ⟨5120 + e.val, by omega⟩) = (y : EReal))
    (rk : ∀ (b g : Fin 2) (w : Fin 511) (e : Fin 64), ∃ y : ℝ,
      m ((c : Thread nD τ).loc main_arg1) (ix4 b g ⟨w.val, by omega⟩ e) = (y : EReal))
    (k : Vec Ideal S1x1x512x64 .bf16) (q : Fin 4 → Vec Ideal S1x128x64 .f32)
    (hk : ∀ (b : Fin 2) (w : Fin 512) (e : Fin 64), b.val = t.val / 64 → k (ix4 0 0 w e) = m ((c : Thread nD τ).loc main_arg1) (ix4 b g w e))
    (hq : ∀ (b : Fin 2) (hh : Fin 4) (r : Fin 128) (e : Fin 64), b.val = t.val / 64 → q hh (ix3 0 r e)
      = m ((c : Thread nD τ).loc main_arg0) (ix3 b (⟨t.val % 64 * 128 + r.val, by omega⟩ : Fin 8192)
          ⟨5120 + ((g.val * 4 + hh.val) * 64 + e.val), by omega⟩)) :
    made m c t k q x = val_main_v91 (F := Ideal) (m ((c : Thread nD τ).loc main_arg0)) (m ((c : Thread nD τ).loc main_arg1))
        (((View.whole main_v15_1).slice (win0_5.rect t)).emb y) := by
  have ht := idx t
  have hi : (grid0.coords t 1).val = t.val % 64 := ht.2.2.2.2.1
  have hN : t.val < 128 := ht.2.2.2.2.2
  have x0 : (x 0).val < 1 := (x 0).isLt
  have x1 : (x 1).val < 1 := (x 1).isLt
  have x2 : (x 2).val < 128 := (x 2).isLt
  have x3 : (x 3).val < 128 := (x 3).isLt
  have ex : x = ix4 0 0 ⟨(x 2).val, x2⟩ ⟨(x 3).val, x3⟩ := by
    funext a
    match a with
    | ⟨0, _⟩ => exact Fin.ext (by show (x 0).val = 0; omega)
    | ⟨1, _⟩ => exact Fin.ext (by show (x 1).val = 0; omega)
    | ⟨2, _⟩ => rfl
    | ⟨3, _⟩ => rfl
  have ey : ((View.whole main_v15_1).slice (win0_5.rect t)).emb y = ix4 (⟨t.val / 64, by omega⟩ : Fin 2) g
      (⟨t.val % 64 * 128 + (x 2).val, by omega⟩ : Fin 8192) (⟨(x 3).val, x3⟩ : Fin 128) := by
    blk_ext [idx' t]
  rw [ey]
  refine (congrArg (made m c t k q) ex).trans ?_
  refine made_at _ _ (grid0.coords t) ⟨t.val / 64, by omega⟩ g ⟨(x 2).val, x2⟩ ⟨(x 3).val, x3⟩
    ⟨t.val % 64 * 128 + (x 2).val, by omega⟩ _ q k ?_ (overlap_blk m c t) ?_ ?_ rq rk
  · show t.val % 64 * 128 + (x 2).val = (grid0.coords t 1).val * 128 + (x 2).val
    rw [hi]
  · intro hh e
    refine (hq ⟨t.val / 64, by omega⟩ hh ⟨(x 2).val, x2⟩ e rfl).trans ?_
    have e1 : (⟨5120 + ((g.val * 4 + hh.val) * 64 + e.val), by omega⟩ : Fin 8448)
        = ⟨5120 + (g.val * 256 + hh.val * 64 + e.val), by omega⟩ := Fin.ext (by show 5120 + ((g.val * 4 + hh.val) * 64 + e.val) = 5120 + (g.val * 256 + hh.val * 64 + e.val); omega)
    rw [e1]
  · intro w e
    exact hk ⟨t.val / 64, by omega⟩ w e rfl

/-- The second group's queries, head by head. -/
def q1 (c : Dev nD) (t : Fin cfg0.N) : Fin 4 → Vec Ideal S1x128x64 .f32 :=
  ![View.ld (X0_0 m c t) (Rect.unit ![0, 0, 256] ![1, 128, 64] inb_S1x128x512_S1x128x64_0_0_256),
    View.ld (X0_0 m c t) (Rect.unit ![0, 0, 320] ![1, 128, 64] inb_S1x128x512_S1x128x64_0_0_320),
    View.ld (X0_0 m c t) (Rect.unit ![0, 0, 384] ![1, 128, 64] inb_S1x128x512_S1x128x64_0_0_384),
    View.ld (X0_0 m c t) (Rect.unit ![0, 0, 448] ![1, 128, 64] inb_S1x128x512_S1x128x64_0_0_448)]

/-- The first group's. -/
def q0 (c : Dev nD) (t : Fin cfg0.N) : Fin 4 → Vec Ideal S1x128x64 .f32 :=
  ![View.ld (X0_0 m c t) (Rect.unit ![0, 0, 0] ![1, 128, 64] inb_S1x128x512_S1x128x64_0_0_0),
    View.ld (X0_0 m c t) (Rect.unit ![0, 0, 64] ![1, 128, 64] inb_S1x128x512_S1x128x64_0_0_64),
    View.ld (X0_0 m c t) (Rect.unit ![0, 0, 128] ![1, 128, 64] inb_S1x128x512_S1x128x64_0_0_128),
    View.ld (X0_0 m c t) (Rect.unit ![0, 0, 192] ![1, 128, 64] inb_S1x128x512_S1x128x64_0_0_192)]

set_option maxHeartbeats 4000000 in
/-- The array the launch leaves. -/
theorem final (c : Dev nD)
    (rq : ∀ (b : Fin 2) (t : Fin 8192) (e : Fin 512), ∃ y : ℝ,
      m ((c : Thread nD τ).loc main_arg0) (ix3 b t ⟨5120 + e.val, by omega⟩) = (y : EReal))
    (rk : ∀ (b g : Fin 2) (w : Fin 511) (e : Fin 64), ∃ y : ℝ,
      m ((c : Thread nD τ).loc main_arg1) (ix4 b g ⟨w.val, by omega⟩ e) = (y : EReal)) : (dats m 0 c).arrAt 5 (cfgs 0).N
    = val_main_v91 (F := Ideal) (m ((c : Thread nD τ).loc main_arg0)) (m ((c : Thread nD τ).loc main_arg1)) := by
  refine (dats m 0 c).arrAt_eq_of_covers 5 _ (by decide +kernel) fun t _ y => ?_
  blk_simp
  rw [after0_5]
  unfold outsAt0
  frame_out
  canon_tiles x h
  · refine Eq.trans (b := made m c t (View.ld (iblk m c 1 t) (Rect.unit ![0, 1, 0, 0] ![1, 1, 512, 64] inb_S1x2x512x64_S1x1x512x64_0_1_0_0))
      (q1 m c t) x) (congrFun ?_ x) ?_
    · rfl
    · refine point m c t 1 x y (by omega) (by omega) (by omega) (by omega) rq rk _ _ (fun b w e hb => keys m c t b 1 w e hb _ rfl _) ?_
      intro b hh r e hb
      match hh with
      | 0 => exact queries m c t b 4 r e hb _ rfl _
      | 1 => exact queries m c t b 5 r e hb _ rfl _
      | 2 => exact queries m c t b 6 r e hb _ rfl _
      | 3 => exact queries m c t b 7 r e hb _ rfl _
  · refine Eq.trans (b := made m c t (View.ld (iblk m c 1 t) (Rect.unit ![0, 0, 0, 0] ![1, 1, 512, 64] inb_S1x2x512x64_S1x1x512x64_0_0_0_0))
      (q0 m c t) x) (congrFun ?_ x) ?_
    · rfl
    · refine point m c t 0 x y (by omega) (by omega) (by omega) (by omega) rq rk _ _ (fun b w e hb => keys m c t b 0 w e hb _ rfl _) ?_
      intro b hh r e hb
      match hh with
      | 0 => exact queries m c t b 0 r e hb _ rfl _
      | 1 => exact queries m c t b 1 r e hb _ rfl _
      | 2 => exact queries m c t b 2 r e hb _ rfl _
      | 3 => exact queries m c t b 3 r e hb _ rfl _

end Cert.CmpIdeal.SelValue

end
-- ==== Proof.CmpClaims.lean ====
module

public import proofs.«01_k».proof.Defs
public import proofs.«01_k».proof.Proof.Gen.Cmp
public import proofs.«01_k».proof.Proof.Gen.Pre_cmp_scores_finite
public import proofs.«01_k».proof.Proof.Gen.Cmp.Frame
public import proofs.«01_k».proof.Proof.Gen.CmpRefIdeal.Run
public import proofs.«01_k».proof.Proof.Gen.CmpIdeal.Value
public import proofs.«01_k».proof.Proof.CmpValue
public import proofs.«01_k».proof.Proof.SelValue
public import Idealize.ShloMosaic.Lib.Claim

@[expose] public section

set_option maxRecDepth 16384

noncomputable section

/-! # The claims about the compressed branch of the sparse attention -/

namespace Cert.Proof.Cmp

open Idealize.ShloMosaic Idealize.SL.Sem

open Cert.CmpIdeal Idealize.ShloMosaic.TcCoe

/-- Less, as a bit that is set. -/
theorem lt_of_bit (x y : EReal) (h : Ideal.cmp .olt x y = 1#1) : x < y := by
  by_contra hn
  simp [Ideal.cmp, hn] at h

/-- An absolute value below infinity is a real number's. -/
theorem real_of_bit (x : EReal) (h : Ideal.cmp .olt (max x (-x)) (Ideal.ofBits .f32 0x7F800000#32) = 1#1) :
    ∃ r : ℝ, x = (r : EReal) := by
  rw [Words.lit_top] at h
  have h := max_lt_iff.mp (lt_of_bit _ _ h)
  refine Words.real_of_abs ⟨h.1.ne, fun hb => ?_⟩
  rw [hb, EReal.neg_bot] at h
  exact lt_irrefl _ h.2

/-- The precondition at one query. -/
theorem pre_q (x0 : FVec Ideal S2x8192x8448 .f32) (x1 x2 : FVec Ideal S2x2x512x64 .bf16) (b : Fin 2) (t : Fin 8192) (e : Fin 512) :
    (Cert.Pre_cmp_scores_finite.fn (F := Ideal) x0 x1 x2).1 (ix3 b t e)
      = Ideal.cmp .olt (max (x0 (ix3 b t ⟨5120 + e.val, by omega⟩)) (-x0 (ix3 b t ⟨5120 + e.val, by omega⟩)))
          (Ideal.ofBits .f32 0x7F800000#32) := by
  pointwise [Cert.Pre_cmp_scores_finite.fn]
  rfl

/-- The precondition at one compressed key. -/
theorem pre_k (x0 : FVec Ideal S2x8192x8448 .f32) (x1 x2 : FVec Ideal S2x2x512x64 .bf16) (b g : Fin 2) (w : Fin 511) (e : Fin 64) :
    (Cert.Pre_cmp_scores_finite.fn (F := Ideal) x0 x1 x2).2 (ix4 b g w e)
      = Ideal.cmp .olt (max (x1 (ix4 b g ⟨w.val, by omega⟩ e)) (-x1 (ix4 b g ⟨w.val, by omega⟩ e)))
          (Ideal.ofBits .f32 0x7F800000#32) := by
  pointwise [Cert.Pre_cmp_scores_finite.fn]
  rfl

variable {m : (ℓ : Loc nD τ sig) → Buf (Elt Ideal) ℓ}

theorem real_q (hpre : Cert.Pre_CmpIdeal_cmp_scores_finite m) (c : Dev nD) (b : Fin 2) (t : Fin 8192) (e : Fin 512) :
    ∃ y : ℝ, m ((c : Thread nD τ).loc main_arg0) (ix3 b t ⟨5120 + e.val, by omega⟩) = (y : EReal) :=
  real_of_bit _ ((pre_q _ _ _ b t e).symm.trans (congrFun (hpre c).1 (ix3 b t e)))

theorem real_k (hpre : Cert.Pre_CmpIdeal_cmp_scores_finite m) (c : Dev nD) (b g : Fin 2) (w : Fin 511) (e : Fin 64) :
    ∃ y : ℝ, m ((c : Thread nD τ).loc main_arg1) (ix4 b g ⟨w.val, by omega⟩ e) = (y : EReal) :=
  real_of_bit _ ((pre_k _ _ _ b g w e).symm.trans (congrFun (hpre c).2 (ix4 b g w e)))

theorem kernel_frame : Cert.quiescent_Cmp :=
  fun m g _ => Cert.Cmp.Gen.frame m g

theorem ideal_frame : Cert.quiescent_CmpIdeal :=
  fun m g _ => Cert.CmpIdeal.Gen.frame m g

theorem reference_frame : Cert.quiescent_CmpRefIdeal := by
  intro m g _
  run_from Cert.CmpRefIdeal.Value.run m g
  · simp
  · exact sem_eq_zero_of_no_sems rfl _

theorem ideal_frame_pre : Cert.quiescent_CmpIdeal_pre_cmp_scores_finite :=
  fun m g _ => Cert.CmpIdeal.Gen.frame m g

theorem reference_frame_pre : Cert.quiescent_CmpRefIdeal_pre_cmp_scores_finite :=
  fun m g _ => reference_frame m g trivial

theorem preserves : Cert.preserves_Cmp_CmpIdeal :=
  IdealRules.named_const.statement Cert.CmpIdeal.κ "mask" .f32 0xF149F2CA#32 ⊥ rfl

theorem algebraic : Cert.algebraic_CmpIdeal_CmpRefIdeal_pre_cmp_scores_finite := by
  pair_intro
  · run_from Cert.CmpIdeal.Value.run_blocks m g
  · run_from Cert.CmpRefIdeal.Value.run m' g'
    · unfold Cert.CmpRefIdeal.Value.res_main_v35
      rw [(hagree c).1, (hagree c).2.1, (hagree c).2.2]
      exact (Cert.CmpIdeal.CmpValue.final m c (real_q hpre c) (real_k hpre c)).symm
    · unfold Cert.CmpRefIdeal.Value.res_main_v91
      rw [(hagree c).1, (hagree c).2.1]
      exact (Cert.CmpIdeal.SelValue.final m c (real_q hpre c) (real_k hpre c)).symm

end Cert.Proof.Cmp

end
-- ==== Proof.CompressValue.lean ====
module

public import proofs.«01_k».proof.Proof.Gen.CompressIdeal.Frame
public import proofs.«01_k».proof.Proof.Gen.CompressRefIdeal.Run
public import proofs.«01_k».proof.Proof.Gen.CompressRefIdeal.Read
public import Idealize.ShloMosaic.Lib.Pipeline.ValueKit
public import Idealize.ShloMosaic.Lib.StableHlo.ReadAt
public import Idealize.ShloMosaic.Lib.Claim

@[expose] public section

set_option maxRecDepth 16384
noncomputable section

/-! # The compressed keys and values are the reference's -/

namespace Cert.CompressIdeal.PressValue

open Cert.CompressIdeal Cert.CompressIdeal.Gen Idealize.ShloMosaic Idealize.ShloMosaic.TcCoe Idealize.SL.Sem
open Idealize.ShloMosaic.Pipeline (Dat)
open Cert.CompressRefIdeal.Read

variable (m : (ℓ : Loc nD τ sig) → Buf (Elt Ideal) ℓ)

section Plain

variable (x0 : FVec Ideal S2x8192x8448 .f32) (x1 x4 : FVec Ideal S32x64 .f32) (x2 x5 : FVec Ideal S2048x64 .f32)
  (x3 x6 : FVec Ideal S64x64 .f32)

/-- What a run of 16 positions contributes as the first half of a block, from the projection's columns from `base`. -/
def lo (base : Nat) (hb : base + 128 ≤ 8448) (b g : Fin 2) (n : Fin 512) (e : Fin 64) : EReal :=
  ∑ j : Fin 1024, (x0 (ix3 b ⟨n.val * 16 + j.val / 64, by omega⟩ ⟨base + (g.val * 64 + j.val % 64), by omega⟩)
    + x1 (ix2 ⟨j.val / 64, by omega⟩ ⟨j.val % 64, by omega⟩)) * x2 (ix2 ⟨j.val, by omega⟩ e)

/-- What it contributes as the second half. -/
def hi (base : Nat) (hb : base + 128 ≤ 8448) (b g : Fin 2) (n : Fin 512) (e : Fin 64) : EReal :=
  ∑ j : Fin 1024, (x0 (ix3 b ⟨n.val * 16 + j.val / 64, by omega⟩ ⟨base + (g.val * 64 + j.val % 64), by omega⟩)
    + x1 (ix2 ⟨16 + j.val / 64, by omega⟩ ⟨j.val % 64, by omega⟩)) * x2 (ix2 ⟨1024 + j.val, by omega⟩ e)

/-- The MLP's hidden values before the activation: the last row has no second half. -/
def pre (base : Nat) (hb : base + 128 ≤ 8448) (b g : Fin 2) (n : Fin 512) (e : Fin 64) : EReal :=
  lo x0 x1 x2 base hb b g n e + if h : n.val < 511 then hi x0 x1 x2 base hb b g ⟨n.val + 1, by omega⟩ e else 0

/-- The MLP's output. -/
def out (base : Nat) (hb : base + 128 ≤ 8448) (b g : Fin 2) (n : Fin 512) (o : Fin 64) : EReal :=
  ∑ e : Fin 64, pre x0 x1 x2 base hb b g n e * Ideal.div 1 (1 + Ideal.exp (-pre x0 x1 x2 base hb b g n e)) * x3 (ix2 e o)

theorem sum_halves (f : Fin 2048 → EReal) :
    ∑ k : Fin 2048, f k = ∑ j : Fin 1024, f ⟨j.val, by omega⟩ + ∑ j : Fin 1024, f ⟨1024 + j.val, by omega⟩ :=
  Fin.sum_univ_add (a := 1024) (b := 1024) f

theorem v10_at (b g : Fin 2) (n : Fin 511) (k : Fin 2048) : val_main_v10 (F := Ideal) x0 x1 (ix4 b g n k)
    = (if h : k.val / 64 < 16 then x0 (ix3 b ⟨n.val * 16 + k.val / 64, by omega⟩ ⟨7168 + (g.val * 64 + k.val % 64), by omega⟩)
      else x0 (ix3 b ⟨(1 + n.val) * 16 + (k.val / 64 - 16), by omega⟩ ⟨7168 + (g.val * 64 + k.val % 64), by omega⟩)) +
      x1 (ix2 ⟨k.val / 64, by omega⟩ ⟨k.val % 64, by omega⟩) := by
  pointwise [val_main_v10, val_main_v9, val_main_v8, val_main_v7, val_main_v6, val_main_v5, val_main_v4, val_main_v3, val_main_v2, val_main_v1, val_main_v0]

theorem v35_at (b g : Fin 2) (n : Fin 511) (k : Fin 2048) : val_main_v35 (F := Ideal) x0 x4 (ix4 b g n k)
    = (if h : k.val / 64 < 16 then x0 (ix3 b ⟨n.val * 16 + k.val / 64, by omega⟩ ⟨7296 + (g.val * 64 + k.val % 64), by omega⟩)
      else x0 (ix3 b ⟨(1 + n.val) * 16 + (k.val / 64 - 16), by omega⟩ ⟨7296 + (g.val * 64 + k.val % 64), by omega⟩)) +
      x4 (ix2 ⟨k.val / 64, by omega⟩ ⟨k.val % 64, by omega⟩) := by
  pointwise [val_main_v35, val_main_v34, val_main_v33, val_main_v32, val_main_v31, val_main_v30, val_main_v29, val_main_v28, val_main_v27, val_main_v26, val_main_v25]

/-- A whole block is two halves. -/
theorem whole (base : Nat) (hb : base + 128 ≤ 8448) (b g : Fin 2) (n : Fin 512) (h : n.val < 511) (e : Fin 64) :
    ∑ k : Fin 2048, ((if h : k.val / 64 < 16 then x0 (ix3 b ⟨n.val * 16 + k.val / 64, by omega⟩ ⟨base + (g.val * 64 + k.val % 64), by omega⟩)
      else x0 (ix3 b ⟨(1 + n.val) * 16 + (k.val / 64 - 16), by omega⟩ ⟨base + (g.val * 64 + k.val % 64), by omega⟩)) +
      x1 (ix2 ⟨k.val / 64, by omega⟩ ⟨k.val % 64, by omega⟩)) * x2 (ix2 k e)
    = pre x0 x1 x2 base hb b g n e := by
  rw [sum_halves]
  unfold pre lo hi
  rw [dif_pos h]
  refine congrArg₂ (· + ·) (Finset.sum_congr rfl fun j _ => ?_) (Finset.sum_congr rfl fun j _ => ?_)
  · rw [dif_pos (show j.val / 64 < 16 by omega)]
  · rw [dif_neg (show ¬ (1024 + j.val) / 64 < 16 by omega)]
    refine congrArg₂ (· * ·) (congrArg₂ (· + ·) (congrArg x0 ?_) (congrArg x1 ?_)) rfl
    · congr 1 <;> refine Fin.ext ?_ <;> show _ = _ <;> simp only <;> omega
    · congr 1 <;> refine Fin.ext ?_ <;> show _ = _ <;> simp only <;> omega

theorem v22_at (b g : Fin 2) (n : Fin 512) (e : Fin 64) :
    val_main_v22 (F := Ideal) x0 x1 x2 (ix4 b g n e) = pre x0 x1 x2 7168 (by omega) b g n e := by
  by_cases h : n.val < 511
  · rw [← whole x0 x1 x2 7168 _ b g n h e]
    pointwise [val_main_v22, val_main_v19]
    rw [dif_pos h]
    exact Finset.sum_congr rfl fun k _ => by rw [v10_at]
  · have e1 : n.val = 511 := by omega
    unfold pre lo
    rw [dif_neg h, add_zero]
    pointwise [val_main_v22]
    rw [dif_neg h]
    pointwise [val_main_v21, val_main_v20, val_main_v18, val_main_v17, val_main_v16, val_main_v15, val_main_v14, val_main_v13, val_main_v12, val_main_v11, val_main_v1, val_main_v0]
    refine Finset.sum_congr rfl fun j _ => ?_
    refine congrArg₂ (· * ·) (congrArg₂ (· + ·) (congrArg x0 ?_) rfl) rfl
    congr 1
    exact Fin.ext (by show 8176 + j.val / 64 = n.val * 16 + j.val / 64; omega)

theorem v47_at (b g : Fin 2) (n : Fin 512) (e : Fin 64) :
    val_main_v47 (F := Ideal) x0 x4 x5 (ix4 b g n e) = pre x0 x4 x5 7296 (by omega) b g n e := by
  by_cases h : n.val < 511
  · rw [← whole x0 x4 x5 7296 _ b g n h e]
    pointwise [val_main_v47, val_main_v44]
    rw [dif_pos h]
    exact Finset.sum_congr rfl fun k _ => by rw [v35_at]
  · have e1 : n.val = 511 := by omega
    unfold pre lo
    rw [dif_neg h, add_zero]
    pointwise [val_main_v47]
    rw [dif_neg h]
    pointwise [val_main_v46, val_main_v45, val_main_v43, val_main_v42, val_main_v41, val_main_v40, val_main_v39, val_main_v38, val_main_v37, val_main_v36, val_main_v26, val_main_v25]
    refine Finset.sum_congr rfl fun j _ => ?_
    refine congrArg₂ (· * ·) (congrArg₂ (· + ·) (congrArg x0 ?_) rfl) rfl
    congr 1
    exact Fin.ext (by show 8176 + j.val / 64 = n.val * 16 + j.val / 64; omega)

/-- The reference's result. -/
theorem out_at (s b g : Fin 2) (n : Fin 512) (o : Fin 64) : val_main_v53 (F := Ideal) x0 x1 x2 x3 x4 x5 x6 (ix5 s b g n o)
    = if s.val < 1 then out x0 x1 x2 x3 7168 (by omega) b g n o else out x0 x4 x5 x6 7296 (by omega) b g n o := by
  pointwise [val_main_v53, val_main_v52, val_main_v51, val_main_v50, val_main_v49, val_main_v48, val_main_v24, val_main_v23, val_main_call0_v0, val_main_call0_v1, val_main_call0_v2, val_main_call0_v3, val_main_call0_v4, val_main_call0_v5, val_main_call0_cst, val_main_call0_cst_0, val_main_call1_v0, val_main_call1_v1, val_main_call1_v2, val_main_call1_v3, val_main_call1_v4, val_main_call1_v5, val_main_call1_cst, val_main_call1_cst_0]
  simp only [v22_at, v47_at]
  unfold out
  rfl

/-- The second halves. -/
theorem second (base : Nat) (hb : base + 128 ≤ 8448) (b g : Fin 2)
    (X : FVec Ideal S1x1x1x512x1024 .f32) (Q : FVec Ideal S1x1x1024 .f32) (U : FVec Ideal S1x1024x64 .bf16)
    (hX : ∀ (n : Fin 512) (j : Fin 1024), X (ix5 0 0 0 n j)
      = x0 (ix3 b ⟨n.val * 16 + j.val / 64, by omega⟩ ⟨base + (g.val * 64 + j.val % 64), by omega⟩))
    (hQ : ∀ j : Fin 1024, Q (ix3 0 0 j) = x1 (ix2 ⟨16 + j.val / 64, by omega⟩ ⟨j.val % 64, by omega⟩))
    (hU : ∀ (j : Fin 1024) (e : Fin 64), U (ix3 0 j e) = x2 (ix2 ⟨1024 + j.val, by omega⟩ e)) (n : Fin 512) (e : Fin 64) :
    k0_pay3 (F := Ideal) X Q U (ix2 n e) = hi x0 x1 x2 base hb b g n e := by
  pointwise [k0_pay2, k0_pay3]
  simp only [hX, hQ, hU]
  rfl

/-- The second halves, moved up one row, with a zero in the last. -/
theorem shift (u : FVec Ideal S512x64 .f32) (n : Fin 512) (o : Fin 64) :
    (View.canon (Val := Elt Ideal) (s := S520x64) (e := .f32)
      [⟨Rect.unit ![512, 0] ![8, 64] inb_S520x64_S8x64_512_0, k0_pay4 (F := Ideal)⟩,
        ⟨Rect.unit ![0, 0] ![512, 64] inb_S520x64_S512x64_0_0, u⟩]
      (ix2 (⟨n.val + 1, by omega⟩ : Fin 520) o) : EReal)
    = if h : n.val < 511 then u (ix2 ⟨n.val + 1, by omega⟩ o) else 0 := by
  split
  · next h =>
    rw [View.canon_cons_of_not_mem]
    · have he : (ix2 (⟨n.val + 1, by omega⟩ : Fin 520) o : S520x64.Idx)
          = (Rect.unit (s := S520x64) ![0, 0] ![512, 64] inb_S520x64_S512x64_0_0).emb (ix2 (⟨n.val + 1, by omega⟩ : Fin 512) o) := by
        funext a; apply Fin.ext
        match a with
        | ⟨0, _⟩ => show n.val + 1 = 0 + 1 * (n.val + 1); omega
        | ⟨1, _⟩ => show o.val = 0 + 1 * o.val; omega
      rw [he]
      exact View.canon_cons_emb _ _ _ _
    · intro hm
      rw [Rect.mem_set_unit] at hm
      have := (hm 0).1
      change 512 ≤ n.val + 1 at this
      omega
  · next h =>
    have he : (ix2 (⟨n.val + 1, by omega⟩ : Fin 520) o : S520x64.Idx)
        = (Rect.unit (s := S520x64) ![512, 0] ![8, 64] inb_S520x64_S8x64_512_0).emb (ix2 (⟨n.val + 1 - 512, by omega⟩ : Fin 8) o) := by
      funext a; apply Fin.ext
      match a with
      | ⟨0, _⟩ => show n.val + 1 = 512 + 1 * (n.val + 1 - 512); omega
      | ⟨1, _⟩ => show o.val = 0 + 1 * o.val; omega
    rw [he]
    refine (View.canon_cons_emb _ _ _ _).trans ?_
    pointwise [k0_pay4]

set_option maxHeartbeats 4000000 in
/-- One step's block. -/
theorem body (base : Nat) (hb : base + 128 ≤ 8448) (b g : Fin 2)
    (X : FVec Ideal S1x1x1x512x1024 .f32) (P : FVec Ideal S1x1x1024 .f32) (W : FVec Ideal S1x1024x64 .bf16) (D : FVec Ideal S1x64x64 .bf16) (R : FVec Ideal S512x64 .f32)
    (hX : ∀ (n : Fin 512) (j : Fin 1024), X (ix5 0 0 0 n j)
      = x0 (ix3 b ⟨n.val * 16 + j.val / 64, by omega⟩ ⟨base + (g.val * 64 + j.val % 64), by omega⟩))
    (hP : ∀ j : Fin 1024, P (ix3 0 0 j) = x1 (ix2 ⟨j.val / 64, by omega⟩ ⟨j.val % 64, by omega⟩))
    (hW : ∀ (j : Fin 1024) (e : Fin 64), W (ix3 0 j e) = x2 (ix2 ⟨j.val, by omega⟩ e))
    (hD : ∀ e o : Fin 64, D (ix3 0 e o) = x3 (ix2 e o)) (n : Fin 512) (o : Fin 64)
    (hR : ∀ e : Fin 64, R (ix2 n e) = if h : n.val < 511 then hi x0 x1 x2 base hb b g ⟨n.val + 1, by omega⟩ e else 0) :
    k0_pay1 (F := Ideal) (k0_pay5 X P W R) k0_pay6 D (ix5 0 0 0 n o)
      = out x0 x1 x2 x3 base hb b g n o := by
  pointwise [k0_pay1, k0_pay2, k0_pay5, k0_pay6]
  simp only [zero_sub, hX, hP, hW, hD, hR]
  unfold out pre lo
  rfl

end Plain

/-! ## What the host hands the launch -/

theorem seg (c : Dev nD) (s b g : Fin 2) (n : Fin 512) (j : Fin 1024) :
    (V m c main_v7 (ix5 s b g n j) : EReal)
      = if s.val < 1 then m (c.tc.loc main_arg0) (ix3 b ⟨n.val * 16 + j.val / 64, by omega⟩ ⟨7168 + (g.val * 64 + j.val % 64), by omega⟩)
        else m (c.tc.loc main_arg0) (ix3 b ⟨n.val * 16 + j.val / 64, by omega⟩ ⟨7296 + (g.val * 64 + j.val % 64), by omega⟩) := by
  unfold V
  after_reads_at
  pointwise []
  after_reads_at
  pointwise []
  rfl

theorem w1a (c : Dev nD) (s : Fin 2) (j : Fin 1024) (d : Fin 64) :
    (V m c main_v23 (ix3 s j d) : EReal)
      = if s.val < 1 then m (c.tc.loc main_arg2) (ix2 ⟨j.val, by omega⟩ d) else m (c.tc.loc main_arg5) (ix2 ⟨j.val, by omega⟩ d) := by
  unfold V
  after_reads_at
  pointwise []
  after_reads_at
  pointwise []
  rfl

theorem w1b (c : Dev nD) (s : Fin 2) (j : Fin 1024) (d : Fin 64) :
    (V m c main_v24 (ix3 s j d) : EReal)
      = if s.val < 1 then m (c.tc.loc main_arg2) (ix2 ⟨1024 + j.val, by omega⟩ d) else m (c.tc.loc main_arg5) (ix2 ⟨1024 + j.val, by omega⟩ d) := by
  unfold V
  after_reads_at
  pointwise []
  after_reads_at
  pointwise []
  rfl

theorem w2 (c : Dev nD) (s : Fin 2) (e o : Fin 64) :
    (V m c main_v18 (ix3 s e o) : EReal)
      = if s.val < 1 then m (c.tc.loc main_arg3) (ix2 e o) else m (c.tc.loc main_arg6) (ix2 e o) := by
  unfold V
  after_reads_at
  pointwise []
  after_reads_at
  pointwise []
  rfl

theorem pea (c : Dev nD) (s : Fin 2) (j : Fin 1024) :
    (V m c main_v20 (ix3 s 0 j) : EReal)
      = if s.val < 1 then m (c.tc.loc main_arg1) (ix2 ⟨j.val / 64, by omega⟩ ⟨j.val % 64, by omega⟩)
        else m (c.tc.loc main_arg4) (ix2 ⟨j.val / 64, by omega⟩ ⟨j.val % 64, by omega⟩) := by
  unfold V
  after_reads_at
  pointwise []
  after_reads_at
  pointwise []
  rfl

theorem peb (c : Dev nD) (s : Fin 2) (j : Fin 1024) :
    (V m c main_v22 (ix3 s 0 j) : EReal)
      = if s.val < 1 then m (c.tc.loc main_arg1) (ix2 ⟨16 + j.val / 64, by omega⟩ ⟨j.val % 64, by omega⟩)
        else m (c.tc.loc main_arg4) (ix2 ⟨16 + j.val / 64, by omega⟩ ⟨j.val % 64, by omega⟩) := by
  unfold V
  after_reads_at
  pointwise []
  after_reads_at
  pointwise []
  rfl

/-- The row that the load one row down reads. -/
theorem row (n : Fin 512) (e : Fin 64) :
    (Rect.unit (s := S520x64) ![1, 0] ![512, 64] inb_S520x64_S512x64_1_0).toLoadRect.idx (ix2 n e) = ix2 (⟨n.val + 1, by omega⟩ : Fin 520) e := by
  funext a; apply Fin.ext
  match a with
  | ⟨0, _⟩ => show 1 + 1 * n.val = n.val + 1; omega
  | ⟨1, _⟩ => show 0 + 1 * e.val = e.val; omega

theorem idx : ∀ t : Fin cfg0.N, win0_0.index t = ![t.val / 4, t.val / 2 % 2, t.val % 2, 0, 0] ∧ win0_1.index t = ![t.val / 4, 0, 0]
    ∧ win0_2.index t = ![t.val / 4, 0, 0] ∧ win0_3.index t = ![t.val / 4, 0, 0] ∧ win0_4.index t = ![t.val / 4, 0, 0]
    ∧ win0_5.index t = ![t.val / 4, 0, 0] ∧ win0_6.index t = ![t.val / 4, t.val / 2 % 2, t.val % 2, 0, 0] ∧ t.val < 8 :=
  (by decide +kernel : ∀ t : Fin grid0.N, _)

/-- An index of the launch's block. -/
theorem block (y : S1x1x1x512x64.Idx) : y = ix5 0 0 0 (y 3 : Fin 512) (y 4 : Fin 64) :=
  funext fun a => by
    match a with
    | ⟨0, _⟩ => exact Fin.ext (by have : (y 0).val < 1 := (y 0).isLt; show (y 0).val = 0; omega)
    | ⟨1, _⟩ => exact Fin.ext (by have : (y 1).val < 1 := (y 1).isLt; show (y 1).val = 0; omega)
    | ⟨2, _⟩ => exact Fin.ext (by have : (y 2).val < 1 := (y 2).isLt; show (y 2).val = 0; omega)
    | ⟨3, _⟩ => rfl
    | ⟨4, _⟩ => rfl

/-! ## The launch's blocks -/

theorem lt (t : Fin cfg0.N) : t.val / 4 < 2 := by have := (idx t).2.2.2.2.2.2.2; omega

theorem segA (A : FVec Ideal S2x2x2x512x1024 .f32) (t : Fin cfg0.N) (n : Fin 512) (j : Fin 1024) :
    ((cfg0.win 0).blk t).view.read (Elt Ideal) A (ix5 0 0 0 n j) = A (ix5 ⟨t.val / 4, lt t⟩ ⟨t.val / 2 % 2, by omega⟩ ⟨t.val % 2, by omega⟩ n j) := by
  have e := (idx t).1
  refine congrArg (A) (funext fun a => ?_)
  match a with
  | ⟨0, _⟩ => exact Fin.ext (by show win0_0.index t 0 * 1 + 1 * 0 = _; rw [e]; show t.val / 4 * 1 + 1 * 0 = t.val / 4; omega)
  | ⟨1, _⟩ => exact Fin.ext (by show win0_0.index t 1 * 1 + 1 * 0 = _; rw [e]; show t.val / 2 % 2 * 1 + 1 * 0 = t.val / 2 % 2; omega)
  | ⟨2, _⟩ => exact Fin.ext (by show win0_0.index t 2 * 1 + 1 * 0 = _; rw [e]; show t.val % 2 * 1 + 1 * 0 = t.val % 2; omega)
  | ⟨3, _⟩ => exact Fin.ext (by show win0_0.index t 3 * 512 + 1 * n.val = _; rw [e]; show 0 * 512 + 1 * n.val = n.val; omega)
  | ⟨4, _⟩ => exact Fin.ext (by show win0_0.index t 4 * 1024 + 1 * j.val = _; rw [e]; show 0 * 1024 + 1 * j.val = j.val; omega)

theorem segB (c : Dev nD) (t : Fin cfg0.N) (n : Fin 512) (j : Fin 1024) :
    iblk m c 0 t (ix5 0 0 0 n j) = V m c main_v7 (ix5 ⟨t.val / 4, lt t⟩ ⟨t.val / 2 % 2, by omega⟩ ⟨t.val % 2, by omega⟩ n j) :=
  segA (V m c main_v7) t n j

theorem peaA (A : FVec Ideal S2x1x1024 .f32) (t : Fin cfg0.N) (j : Fin 1024) :
    ((cfg0.win 1).blk t).view.read (Elt Ideal) A (ix3 0 0 j) = A (ix3 ⟨t.val / 4, lt t⟩ 0 j) := by
  have e := (idx t).2.1
  refine congrArg (A) (funext fun a => ?_)
  match a with
  | ⟨0, _⟩ => exact Fin.ext (by show win0_1.index t 0 * 1 + 1 * 0 = _; rw [e]; show t.val / 4 * 1 + 1 * 0 = t.val / 4; omega)
  | ⟨1, _⟩ => exact Fin.ext (by show win0_1.index t 1 * 1 + 1 * 0 = _; rw [e]; show 0 * 1 + 1 * 0 = 0; omega)
  | ⟨2, _⟩ => exact Fin.ext (by show win0_1.index t 2 * 1024 + 1 * j.val = _; rw [e]; show 0 * 1024 + 1 * j.val = j.val; omega)

theorem peaB (c : Dev nD) (t : Fin cfg0.N) (j : Fin 1024) :
    iblk m c 1 t (ix3 0 0 j) = V m c main_v20 (ix3 ⟨t.val / 4, lt t⟩ 0 j) :=
  peaA (V m c main_v20) t j

theorem pebA (A : FVec Ideal S2x1x1024 .f32) (t : Fin cfg0.N) (j : Fin 1024) :
    ((cfg0.win 2).blk t).view.read (Elt Ideal) A (ix3 0 0 j) = A (ix3 ⟨t.val / 4, lt t⟩ 0 j) := by
  have e := (idx t).2.2.1
  refine congrArg (A) (funext fun a => ?_)
  match a with
  | ⟨0, _⟩ => exact Fin.ext (by show win0_2.index t 0 * 1 + 1 * 0 = _; rw [e]; show t.val / 4 * 1 + 1 * 0 = t.val / 4; omega)
  | ⟨1, _⟩ => exact Fin.ext (by show win0_2.index t 1 * 1 + 1 * 0 = _; rw [e]; show 0 * 1 + 1 * 0 = 0; omega)
  | ⟨2, _⟩ => exact Fin.ext (by show win0_2.index t 2 * 1024 + 1 * j.val = _; rw [e]; show 0 * 1024 + 1 * j.val = j.val; omega)

theorem pebB (c : Dev nD) (t : Fin cfg0.N) (j : Fin 1024) :
    iblk m c 2 t (ix3 0 0 j) = V m c main_v22 (ix3 ⟨t.val / 4, lt t⟩ 0 j) :=
  pebA (V m c main_v22) t j

theorem w1aA (A : FVec Ideal S2x1024x64 .bf16) (t : Fin cfg0.N) (j : Fin 1024) (e' : Fin 64) :
    ((cfg0.win 3).blk t).view.read (Elt Ideal) A (ix3 0 j e') = A (ix3 ⟨t.val / 4, lt t⟩ j e') := by
  have e := (idx t).2.2.2.1
  refine congrArg (A) (funext fun a => ?_)
  match a with
  | ⟨0, _⟩ => exact Fin.ext (by show win0_3.index t 0 * 1 + 1 * 0 = _; rw [e]; show t.val / 4 * 1 + 1 * 0 = t.val / 4; omega)
  | ⟨1, _⟩ => exact Fin.ext (by show win0_3.index t 1 * 1024 + 1 * j.val = _; rw [e]; show 0 * 1024 + 1 * j.val = j.val; omega)
  | ⟨2, _⟩ => exact Fin.ext (by show win0_3.index t 2 * 64 + 1 * e'.val = _; rw [e]; show 0 * 64 + 1 * e'.val = e'.val; omega)

theorem w1aB (c : Dev nD) (t : Fin cfg0.N) (j : Fin 1024) (e' : Fin 64) :
    iblk m c 3 t (ix3 0 j e') = V m c main_v23 (ix3 ⟨t.val / 4, lt t⟩ j e') :=
  w1aA (V m c main_v23) t j e'

theorem w1bA (A : FVec Ideal S2x1024x64 .bf16) (t : Fin cfg0.N) (j : Fin 1024) (e' : Fin 64) :
    ((cfg0.win 4).blk t).view.read (Elt Ideal) A (ix3 0 j e') = A (ix3 ⟨t.val / 4, lt t⟩ j e') := by
  have e := (idx t).2.2.2.2.1
  refine congrArg (A) (funext fun a => ?_)
  match a with
  | ⟨0, _⟩ => exact Fin.ext (by show win0_4.index t 0 * 1 + 1 * 0 = _; rw [e]; show t.val / 4 * 1 + 1 * 0 = t.val / 4; omega)
  | ⟨1, _⟩ => exact Fin.ext (by show win0_4.index t 1 * 1024 + 1 * j.val = _; rw [e]; show 0 * 1024 + 1 * j.val = j.val; omega)
  | ⟨2, _⟩ => exact Fin.ext (by show win0_4.index t 2 * 64 + 1 * e'.val = _; rw [e]; show 0 * 64 + 1 * e'.val = e'.val; omega)

theorem w1bB (c : Dev nD) (t : Fin cfg0.N) (j : Fin 1024) (e' : Fin 64) :
    iblk m c 4 t (ix3 0 j e') = V m c main_v24 (ix3 ⟨t.val / 4, lt t⟩ j e') :=
  w1bA (V m c main_v24) t j e'

theorem w2A (A : FVec Ideal S2x64x64 .bf16) (t : Fin cfg0.N) (d o : Fin 64) :
    ((cfg0.win 5).blk t).view.read (Elt Ideal) A (ix3 0 d o) = A (ix3 ⟨t.val / 4, lt t⟩ d o) := by
  have e := (idx t).2.2.2.2.2.1
  refine congrArg (A) (funext fun a => ?_)
  match a with
  | ⟨0, _⟩ => exact Fin.ext (by show win0_5.index t 0 * 1 + 1 * 0 = _; rw [e]; show t.val / 4 * 1 + 1 * 0 = t.val / 4; omega)
  | ⟨1, _⟩ => exact Fin.ext (by show win0_5.index t 1 * 64 + 1 * d.val = _; rw [e]; show 0 * 64 + 1 * d.val = d.val; omega)
  | ⟨2, _⟩ => exact Fin.ext (by show win0_5.index t 2 * 64 + 1 * o.val = _; rw [e]; show 0 * 64 + 1 * o.val = o.val; omega)

theorem w2B (c : Dev nD) (t : Fin cfg0.N) (d o : Fin 64) :
    iblk m c 5 t (ix3 0 d o) = V m c main_v18 (ix3 ⟨t.val / 4, lt t⟩ d o) :=
  w2A (V m c main_v18) t d o

set_option maxHeartbeats 4000000 in
/-- The array the launch leaves. -/
theorem final (c : Dev nD) : (dats m 0 c).arrAt 6 (cfgs 0).N
    = val_main_v53 (F := Ideal) (m (c.tc.loc main_arg0)) (m (c.tc.loc main_arg1)) (m (c.tc.loc main_arg2))
        (m (c.tc.loc main_arg3)) (m (c.tc.loc main_arg4)) (m (c.tc.loc main_arg5)) (m (c.tc.loc main_arg6)) := by
  refine (dats m 0 c).arrAt_eq_of_covers 6 _ (by decide +kernel) fun t _ y => ?_
  blk_simp
  rw [after0_6]
  unfold outsAt0
  frame_out
  obtain ⟨n, o, rfl⟩ : ∃ (n : Fin 512) (o : Fin 64), y = ix5 0 0 0 n o := ⟨_, _, block y⟩
  have hy : ((View.whole main_v25).slice (win0_6.rect t)).emb (ix5 0 0 0 n o)
      = ix5 ⟨t.val / 4, lt t⟩ ⟨t.val / 2 % 2, by omega⟩ ⟨t.val % 2, by omega⟩ n o := by
    have e := (idx t).2.2.2.2.2.2.1
    funext a
    match a with
    | ⟨0, _⟩ => exact Fin.ext (by show win0_6.index t 0 * 1 + 1 * 0 = _; rw [e]; show t.val / 4 * 1 + 1 * 0 = t.val / 4; omega)
    | ⟨1, _⟩ => exact Fin.ext (by show win0_6.index t 1 * 1 + 1 * 0 = _; rw [e]; show t.val / 2 % 2 * 1 + 1 * 0 = t.val / 2 % 2; omega)
    | ⟨2, _⟩ => exact Fin.ext (by show win0_6.index t 2 * 1 + 1 * 0 = _; rw [e]; show t.val % 2 * 1 + 1 * 0 = t.val % 2; omega)
    | ⟨3, _⟩ => exact Fin.ext (by show win0_6.index t 3 * 512 + 1 * n.val = _; rw [e]; show 0 * 512 + 1 * n.val = n.val; omega)
    | ⟨4, _⟩ => exact Fin.ext (by show win0_6.index t 4 * 64 + 1 * o.val = _; rw [e]; show 0 * 64 + 1 * o.val = o.val; omega)
  refine Eq.trans ?_ ((out_at (m (c.tc.loc main_arg0)) (m (c.tc.loc main_arg1)) (m (c.tc.loc main_arg4)) (m (c.tc.loc main_arg2))
    (m (c.tc.loc main_arg5)) (m (c.tc.loc main_arg3)) (m (c.tc.loc main_arg6)) _ _ _ n o).symm.trans
    (congrArg (val_main_v53 (F := Ideal) (m (c.tc.loc main_arg0)) (m (c.tc.loc main_arg1)) (m (c.tc.loc main_arg2))
        (m (c.tc.loc main_arg3)) (m (c.tc.loc main_arg4)) (m (c.tc.loc main_arg5)) (m (c.tc.loc main_arg6))) hy.symm))
  by_cases h : t.val / 4 < 1
  · rw [if_pos h]
    refine body _ _ _ _ 7168 (by omega) _ _ _ _ _ _ _ (fun n' j => ?_) (fun j => ?_) (fun j e => ?_) (fun e o' => ?_) n o (fun e => ?_)
    · exact (segB m c t n' j).trans ((seg m c _ _ _ n' j).trans (if_pos h))
    · exact (peaB m c t j).trans ((pea m c _ j).trans (if_pos h))
    · exact (w1aB m c t j e).trans ((w1a m c _ j e).trans (if_pos h))
    · exact (w2B m c t e o').trans ((w2 m c _ e o').trans (if_pos h))
    · rw [View.readCov_eq_canon']
      refine Eq.trans (congrArg _ (row n e)) ((shift (k0_pay3 (F := Ideal) (iblk m c 0 t) (iblk m c 2 t) (iblk m c 4 t)) n e).trans ?_)
      refine dite_congr rfl (fun _ => ?_) (fun _ => rfl)
      exact second _ _ _ 7168 (by omega) _ _ _ _ _ (fun n' j => (segB m c t n' j).trans ((seg m c _ _ _ n' j).trans (if_pos h)))
        (fun j => (pebB m c t j).trans ((peb m c _ j).trans (if_pos h)))
        (fun j e => (w1bB m c t j e).trans ((w1b m c _ j e).trans (if_pos h))) _ e
  · rw [if_neg h]
    refine body _ _ _ _ 7296 (by omega) _ _ _ _ _ _ _ (fun n' j => ?_) (fun j => ?_) (fun j e => ?_) (fun e o' => ?_) n o (fun e => ?_)
    · exact (segB m c t n' j).trans ((seg m c _ _ _ n' j).trans (if_neg h))
    · exact (peaB m c t j).trans ((pea m c _ j).trans (if_neg h))
    · exact (w1aB m c t j e).trans ((w1a m c _ j e).trans (if_neg h))
    · exact (w2B m c t e o').trans ((w2 m c _ e o').trans (if_neg h))
    · rw [View.readCov_eq_canon']
      refine Eq.trans (congrArg _ (row n e)) ((shift (k0_pay3 (F := Ideal) (iblk m c 0 t) (iblk m c 2 t) (iblk m c 4 t)) n e).trans ?_)
      refine dite_congr rfl (fun _ => ?_) (fun _ => rfl)
      exact second _ _ _ 7296 (by omega) _ _ _ _ _ (fun n' j => (segB m c t n' j).trans ((seg m c _ _ _ n' j).trans (if_neg h)))
        (fun j => (pebB m c t j).trans ((peb m c _ j).trans (if_neg h)))
        (fun j e => (w1bB m c t j e).trans ((w1b m c _ j e).trans (if_neg h))) _ e

end Cert.CompressIdeal.PressValue
end
-- ==== Proof.CompressClaims.lean ====
module

public import proofs.«01_k».proof.Defs
public import proofs.«01_k».proof.Proof.Gen.Compress
public import proofs.«01_k».proof.Proof.Gen.Compress.Frame
public import proofs.«01_k».proof.Proof.Gen.CompressIdeal.Value
public import proofs.«01_k».proof.Proof.Gen.CompressRefIdeal.Run
public import proofs.«01_k».proof.Proof.CompressValue
public import Idealize.ShloMosaic.Lib.Claim

@[expose] public section

set_option maxRecDepth 16384

noncomputable section

/-! # The claims about the compressed keys and values -/

namespace Cert.Proof.Compress

open Idealize.ShloMosaic Idealize.SL.Sem

theorem kernel_frame : Cert.quiescent_Compress :=
  fun m g _ => Cert.Compress.Gen.frame m g

theorem ideal_frame : Cert.quiescent_CompressIdeal :=
  fun m g _ => Cert.CompressIdeal.Gen.frame m g

theorem reference_frame : Cert.quiescent_CompressRefIdeal := by
  intro m g _
  run_from Cert.CompressRefIdeal.Value.run m g
  · simp
  · exact sem_eq_zero_of_no_sems rfl _

theorem preserves : Cert.preserves_Compress_CompressIdeal := by
  trivial

theorem algebraic : Cert.algebraic_CompressIdeal_CompressRefIdeal := by
  pair_intro
  · run_from Cert.CompressIdeal.Value.run_blocks m g
  · run_from Cert.CompressRefIdeal.Value.run m' g'
    unfold Cert.CompressRefIdeal.Value.res_main_v53
    rw [(hagree c).1, (hagree c).2.1, (hagree c).2.2.1, (hagree c).2.2.2.1, (hagree c).2.2.2.2.1, (hagree c).2.2.2.2.2.1,
      (hagree c).2.2.2.2.2.2]
    exact (Cert.CompressIdeal.PressValue.final m c).symm

end Cert.Proof.Compress

end
-- ==== Proof.FrameClaims.lean ====
module

public import proofs.«01_k».proof.Defs
public import proofs.«01_k».proof.Proof.Gen.Slc
public import proofs.«01_k».proof.Proof.Gen.Slc.Frame
public import proofs.«01_k».proof.Proof.Gen.SlcIdeal
public import proofs.«01_k».proof.Proof.Gen.SlcIdeal.Frame
public import proofs.«01_k».proof.Proof.Gen.MLstm
public import proofs.«01_k».proof.Proof.Gen.MLstm.Frame
public import proofs.«01_k».proof.Proof.Gen.MLstmIdeal
public import proofs.«01_k».proof.Proof.Gen.MLstmIdeal.Frame

@[expose] public section

set_option maxRecDepth 16384

noncomputable section

/-! # The frames of the selected branch and of the mLSTM -/

open Idealize.ShloMosaic Idealize.SL.Sem

namespace Cert.Proof.Slc

theorem kernel_frame : Cert.quiescent_Slc :=
  fun m g _ => Cert.Slc.Gen.frame m g

theorem ideal_frame : Cert.quiescent_SlcIdeal :=
  fun m g _ => Cert.SlcIdeal.Gen.frame m g

theorem preserves : Cert.preserves_Slc_SlcIdeal :=
  IdealRules.named_const.statement Cert.SlcIdeal.κ "mask" .f32 0xF149F2CA#32 ⊥ rfl

end Cert.Proof.Slc

namespace Cert.Proof.MLstm

theorem kernel_frame : Cert.quiescent_MLstm :=
  fun m g _ => Cert.MLstm.Gen.frame m g

theorem ideal_frame : Cert.quiescent_MLstmIdeal :=
  fun m g _ => Cert.MLstmIdeal.Gen.frame m g

theorem preserves : Cert.preserves_MLstm_MLstmIdeal :=
  IdealRules.named_const.statement Cert.MLstmIdeal.κ "mask" .f32 0xF149F2CA#32 ⊥ rfl

end Cert.Proof.MLstm

end
-- ==== Proof.lean ====
module

public import proofs.«01_k».proof.Defs
public import proofs.«01_k».proof.Proof.Gen.Pre_swa_scores_finite
public import proofs.«01_k».proof.Proof.Gen.Pre_win_scores_finite
public import proofs.«01_k».proof.Proof.Gen.Swa
public import proofs.«01_k».proof.Proof.Gen.Swa.Skeleton
public import proofs.«01_k».proof.Proof.Gen.Swa.Launch
public import proofs.«01_k».proof.Proof.Gen.Swa.Points
public import proofs.«01_k».proof.Proof.Gen.Swa.Frame
public import proofs.«01_k».proof.Proof.Gen.SwaIdeal
public import proofs.«01_k».proof.Proof.Gen.SwaIdeal.Skeleton
public import proofs.«01_k».proof.Proof.Gen.SwaIdeal.Launch
public import proofs.«01_k».proof.Proof.Gen.SwaIdeal.Points
public import proofs.«01_k».proof.Proof.Gen.SwaIdeal.Frame
public import proofs.«01_k».proof.Proof.Gen.SwaRefIdeal
public import proofs.«01_k».proof.Proof.Gen.SwaRefIdeal.Run
public import proofs.«01_k».proof.Proof.Gen.SwaRefIdeal.Read
public import proofs.«01_k».proof.Proof.Gen.SwaIdeal.Value
public import proofs.«01_k».proof.Proof.Gen.Win
public import proofs.«01_k».proof.Proof.Gen.Win.Skeleton
public import proofs.«01_k».proof.Proof.Gen.Win.Launch
public import proofs.«01_k».proof.Proof.Gen.Win.Points
public import proofs.«01_k».proof.Proof.Gen.Win.Frame
public import proofs.«01_k».proof.Proof.Gen.WinIdeal
public import proofs.«01_k».proof.Proof.Gen.WinIdeal.Skeleton
public import proofs.«01_k».proof.Proof.Gen.WinIdeal.Launch
public import proofs.«01_k».proof.Proof.Gen.WinIdeal.Points
public import proofs.«01_k».proof.Proof.Gen.WinIdeal.Frame
public import proofs.«01_k».proof.Proof.Gen.WinRefIdeal
public import proofs.«01_k».proof.Proof.Gen.WinRefIdeal.Run
public import proofs.«01_k».proof.Proof.Gen.WinRefIdeal.Read
public import proofs.«01_k».proof.Proof.Gen.WinIdeal.Value
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjRefIdeal
public import proofs.«01_k».proof.Proof.Gen.InProjRefIdeal.Run
public import proofs.«01_k».proof.Proof.Gen.InProjRefIdeal.Read
public import proofs.«01_k».proof.Proof.Gen.InProjIdeal.Value
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjRefIdeal
public import proofs.«01_k».proof.Proof.Gen.OutProjRefIdeal.Run
public import proofs.«01_k».proof.Proof.Gen.OutProjRefIdeal.Read
public import proofs.«01_k».proof.Proof.Gen.OutProjIdeal.Value
public import proofs.«01_k».proof.Proof.SwaClaims
public import proofs.«01_k».proof.Proof.WinClaims
public import proofs.«01_k».proof.Proof.InProjClaims
public import proofs.«01_k».proof.Proof.OutProjClaims
public import proofs.«01_k».proof.Proof.OutMidClaims
public import proofs.«01_k».proof.Proof.MixAClaims
public import proofs.«01_k».proof.Proof.CmpClaims
public import proofs.«01_k».proof.Proof.CompressClaims
public import proofs.«01_k».proof.Proof.Gen.Pre_cmp_scores_finite
public import proofs.«01_k».proof.Proof.Gen.OutMid
public import proofs.«01_k».proof.Proof.Gen.OutMidIdeal
public import proofs.«01_k».proof.Proof.Gen.OutMidRefIdeal
public import proofs.«01_k».proof.Proof.Gen.OutMid.Frame
public import proofs.«01_k».proof.Proof.Gen.OutMidIdeal.Frame
public import proofs.«01_k».proof.Proof.Gen.OutMidIdeal.Value
public import proofs.«01_k».proof.Proof.Gen.OutMidRefIdeal.Run
public import proofs.«01_k».proof.Proof.Gen.OutMidRefIdeal.Read
public import proofs.«01_k».proof.Proof.Gen.MixA
public import proofs.«01_k».proof.Proof.Gen.MixAIdeal
public import proofs.«01_k».proof.Proof.Gen.MixARefIdeal
public import proofs.«01_k».proof.Proof.Gen.MixA.Frame
public import proofs.«01_k».proof.Proof.Gen.MixAIdeal.Frame
public import proofs.«01_k».proof.Proof.Gen.MixAIdeal.Value
public import proofs.«01_k».proof.Proof.Gen.MixARefIdeal.Run
public import proofs.«01_k».proof.Proof.Gen.MixARefIdeal.Read
public import proofs.«01_k».proof.Proof.Gen.Cmp
public import proofs.«01_k».proof.Proof.Gen.CmpIdeal
public import proofs.«01_k».proof.Proof.Gen.CmpRefIdeal
public import proofs.«01_k».proof.Proof.Gen.Cmp.Frame
public import proofs.«01_k».proof.Proof.Gen.CmpIdeal.Frame
public import proofs.«01_k».proof.Proof.Gen.CmpIdeal.Value
public import proofs.«01_k».proof.Proof.Gen.CmpRefIdeal.Run
public import proofs.«01_k».proof.Proof.Gen.CmpRefIdeal.Read
public import proofs.«01_k».proof.Proof.Gen.Compress
public import proofs.«01_k».proof.Proof.Gen.CompressIdeal
public import proofs.«01_k».proof.Proof.Gen.CompressRefIdeal
public import proofs.«01_k».proof.Proof.Gen.Compress.Frame
public import proofs.«01_k».proof.Proof.Gen.CompressIdeal.Frame
public import proofs.«01_k».proof.Proof.Gen.CompressIdeal.Value
public import proofs.«01_k».proof.Proof.Gen.CompressRefIdeal.Run
public import proofs.«01_k».proof.Proof.Gen.CompressRefIdeal.Read
public import proofs.«01_k».proof.Proof.Gen.Slc
public import proofs.«01_k».proof.Proof.Gen.Slc.Frame
public import proofs.«01_k».proof.Proof.Gen.SlcIdeal
public import proofs.«01_k».proof.Proof.Gen.SlcIdeal.Frame
public import proofs.«01_k».proof.Proof.Gen.MLstm
public import proofs.«01_k».proof.Proof.Gen.MLstm.Frame
public import proofs.«01_k».proof.Proof.Gen.MLstmIdeal
public import proofs.«01_k».proof.Proof.Gen.MLstmIdeal.Frame
public import proofs.«01_k».proof.Proof.FrameClaims
public import Idealize.ShloMosaic.Adequacy
public import Idealize.ShloMosaic.Init

@[expose] public section

noncomputable section

namespace Cert.Proof

open Idealize.ShloMosaic Idealize.SL.Sem

theorem claim : Cert.Claim := ⟨Cert.Swa.Gen.facts, Cert.SwaIdeal.Gen.facts, Cert.SwaRefIdeal.Gen.facts, Cert.Win.Gen.facts, Cert.WinIdeal.Gen.facts, Cert.WinRefIdeal.Gen.facts, Cert.InProj.Gen.facts, Cert.InProjIdeal.Gen.facts, Cert.InProjRefIdeal.Gen.facts, Cert.OutProj.Gen.facts, Cert.OutProjIdeal.Gen.facts, Cert.OutProjRefIdeal.Gen.facts, Cert.OutMid.Gen.facts, Cert.OutMidIdeal.Gen.facts, Cert.OutMidRefIdeal.Gen.facts, Cert.MixA.Gen.facts, Cert.MixAIdeal.Gen.facts, Cert.MixARefIdeal.Gen.facts, Cert.Cmp.Gen.facts, Cert.CmpIdeal.Gen.facts, Cert.CmpRefIdeal.Gen.facts, Cert.Compress.Gen.facts, Cert.CompressIdeal.Gen.facts, Cert.CompressRefIdeal.Gen.facts, Cert.Slc.Gen.facts, Cert.SlcIdeal.Gen.facts, Cert.MLstm.Gen.facts, Cert.MLstmIdeal.Gen.facts, Cert.Pre_swa_scores_finite.Gen.facts, Cert.Pre_win_scores_finite.Gen.facts, Cert.Pre_cmp_scores_finite.Gen.facts,
  Swa.kernel_frame, Swa.ideal_frame, Swa.ideal_frame_pre, Swa.reference_frame, Swa.reference_frame_pre,
  Win.kernel_frame, Win.ideal_frame, Win.ideal_frame_pre, Win.reference_frame, Win.reference_frame_pre,
  InProj.kernel_frame, InProj.ideal_frame, InProj.reference_frame,
  OutProj.kernel_frame, OutProj.ideal_frame, OutProj.reference_frame,
  OutMid.kernel_frame, OutMid.ideal_frame, OutMid.reference_frame,
  MixA.kernel_frame, MixA.ideal_frame, MixA.reference_frame,
  Cmp.kernel_frame, Cmp.ideal_frame, Cmp.ideal_frame_pre, Cmp.reference_frame, Cmp.reference_frame_pre,
  Compress.kernel_frame, Compress.ideal_frame, Compress.reference_frame,
  Slc.kernel_frame, Slc.ideal_frame, MLstm.kernel_frame, MLstm.ideal_frame,
  Swa.preserves, Swa.algebraic,
  Win.preserves, Win.algebraic,
  InProj.preserves, InProj.algebraic,
  OutProj.preserves, OutProj.algebraic,
  OutMid.preserves, OutMid.algebraic,
  MixA.preserves, MixA.algebraic,
  Cmp.preserves, Cmp.algebraic,
  Compress.preserves, Compress.algebraic,
  Slc.preserves, MLstm.preserves⟩

end Cert.Proof

end
